-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def preserves_Reference_ReferenceIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ quiescent_Reference (hReference := hReference)
    ∧ preserves_Kernel_KernelIdeal
    ∧ preserves_Reference_ReferenceIdeal
    ∧ algebraic_KernelIdeal_ReferenceIdeal_pre_drawn (hKernelIdeal := hKernelIdeal) (hReferenceIdeal := hReferenceIdeal) (hPre_drawn := hPre_drawn)
-- ==== Pre_drawn.lean ====
abbrev S50000x256 : Shape := ⟨2, ![50000, 256]⟩
abbrev S50000 : Shape := ⟨1, ![50000]⟩
abbrev S256 : Shape := ⟨1, ![256]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x256 .f32) (main_arg1 : IVec S50000 32) (main_arg2 : FVec F S256 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 512#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : IVec S49999 32 := (extractStridedSlice S49999 ![0] · slices_S50000_S49999_0) main_arg1
  let main_v7 : IVec S49999 32 := (extractStridedSlice S49999 ![1] · slices_S50000_S49999_1) main_arg1
  let main_v8 : IVec S49999 1 := cmpi .sle main_v6 main_v7
  let main_c_2 : IVec S_ 1 := constantI S_ 1 1#1
  let main_v9 : IVec S_ 1 := (fun x v => Host.reduce IntOp.andi x v reducesTo_S49999_S_d0 h_S_) main_v8 main_c_2
  let main_v10 : IVec S_ 1 := andi main_v5 main_v9
  main_v10
-- ==== Kernel.lean ====
abbrev S50000x256 : Shape := ⟨2, ![50000, 256]⟩
abbrev S50000 : Shape := ⟨1, ![50000]⟩
abbrev S256 : Shape := ⟨1, ![256]⟩
abbrev S125x1x400 : Shape := ⟨3, ![125, 1, 400]⟩
abbrev S32x16 : Shape := ⟨2, ![32, 16]⟩
abbrev S1x1x400 : Shape := ⟨3, ![1, 1, 400]⟩
abbrev S1x400 : Shape := ⟨2, ![1, 400]⟩
abbrev S32x1 : Shape := ⟨2, ![32, 1]⟩
abbrev S32x400 : Shape := ⟨2, ![32, 400]⟩
abbrev S32 : Shape := ⟨1, ![32]⟩
abbrev S512x256 : Shape := ⟨2, ![512, 256]⟩
abbrev S128x256 : Shape := ⟨2, ![128, 256]⟩
abbrev S128 : Shape := ⟨1, ![128]⟩
abbrev S16x272 : Shape := ⟨2, ![16, 272]⟩
abbrev S16x256 : Shape := ⟨2, ![16, 256]⟩
abbrev S2 : Shape := ⟨1, ![2]⟩
abbrev S16 : Shape := ⟨1, ![16]⟩
abbrev S1x16 : Shape := ⟨2, ![1, 16]⟩
abbrev S_ : Shape := ⟨0, ![]⟩
abbrev S1 : Shape := ⟨1, ![1]⟩
abbrev S8 : Shape := ⟨1, ![8]⟩
abbrev S12 : Shape := ⟨1, ![12]⟩
abbrev S4 : Shape := ⟨1, ![4]⟩
abbrev S14 : Shape := ⟨1, ![14]⟩
abbrev S15 : Shape := ⟨1, ![15]⟩

abbrev nBuf : Table → Nat
  | .hbm => 6
  | .local .tc .vmem => 3
  | .local .scVector .vmem => 8
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S256, .f32⟩
  | .hbm, ⟨3, _⟩ => ⟨S125x1x400, .i32⟩
  | .hbm, ⟨4, _⟩ => ⟨S32x16, .i32⟩
  | .hbm, ⟨5, _⟩ => ⟨S512x256, .f32⟩
  | .local .tc .vmem, ⟨0, _⟩ => ⟨S1x1x400, .i32⟩
  | .local .tc .vmem, ⟨1, _⟩ => ⟨S1x1x400, .i32⟩
  | .local .tc .vmem, ⟨2, _⟩ => ⟨S32x16, .i32⟩
  | .local .scVector .vmem, ⟨0, _⟩ => ⟨S128x256, .f32⟩
  | .local .scVector .vmem, ⟨1, _⟩ => ⟨S128, .i32⟩
  | .local .scVector .vmem, ⟨2, _⟩ => ⟨S128x256, .f32⟩
  | .local .scVector .vmem, ⟨3, _⟩ => ⟨S128, .i32⟩
  | .local .scVector .vmem, ⟨4, _⟩ => ⟨S256, .f32⟩
  | .local .scVector .vmem, ⟨5, _⟩ => ⟨S32x16, .i32⟩
  | .local .scVector .vmem, ⟨6, _⟩ => ⟨S16x272, .f32⟩
  | .local .scVector .vmem, ⟨7, _⟩ => ⟨S16x256, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

@[reducible] def k1_t1_loop : Scf.Loop 32 :=
  let c0_i32_0 : BitVec 32 := 0#32
  let c16_i32_1 : BitVec 32 := 16#32
  let v4 : BitVec 32 := Scalar.addi c0_i32_0 c16_i32_1
  let c1_i32 : BitVec 32 := 1#32
  ⟨c0_i32_0, v4, c1_i32⟩
def k1_off1 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v120 : Index := Scalar.indexCast arg17
  let c0_44 : Index := 0#32
  ![v120.toNat, 0]
def k1_off2 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v124 : Index := Scalar.indexCast arg17
  let c16_45 : Index := 16#32
  ![v124.toNat, 16]
def k1_off3 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v128 : Index := Scalar.indexCast arg17
  let c32_46 : Index := 32#32
  ![v128.toNat, 32]
def k1_off4 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v132 : Index := Scalar.indexCast arg17
  let c48_47 : Index := 48#32
  ![v132.toNat, 48]
def k1_off5 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v136 : Index := Scalar.indexCast arg17
  let c64_48 : Index := 64#32
  ![v136.toNat, 64]
def k1_off6 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v140 : Index := Scalar.indexCast arg17
  let c80_49 : Index := 80#32
  ![v140.toNat, 80]
def k1_off7 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v144 : Index := Scalar.indexCast arg17
  let c96_50 : Index := 96#32
  ![v144.toNat, 96]
def k1_off8 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v148 : Index := Scalar.indexCast arg17
  let c112_51 : Index := 112#32
  ![v148.toNat, 112]
def k1_off9 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v152 : Index := Scalar.indexCast arg17
  let c128_52 : Index := 128#32
  ![v152.toNat, 128]
def k1_off10 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v156 : Index := Scalar.indexCast arg17
  let c144_53 : Index := 144#32
  ![v156.toNat, 144]
def k1_off11 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v160 : Index := Scalar.indexCast arg17
  let c160_54 : Index := 160#32
  ![v160.toNat, 160]
def k1_off12 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v164 : Index := Scalar.indexCast arg17
  let c176_55 : Index := 176#32
  ![v164.toNat, 176]
def k1_off13 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v168 : Index := Scalar.indexCast arg17
  let c192_56 : Index := 192#32
  ![v168.toNat, 192]
def k1_off14 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v172 : Index := Scalar.indexCast arg17
  let c208_57 : Index := 208#32
  ![v172.toNat, 208]
def k1_off15 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v176 : Index := Scalar.indexCast arg17
  let c224_58 : Index := 224#32
  ![v176.toNat, 224]
def k1_off16 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v180 : Index := Scalar.indexCast arg17
  let c240_59 : Index := 240#32
  ![v180.toNat, 240]
def k1_off17 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v184 : Index := Scalar.indexCast arg17
  let c256 : Index := 256#32
  ![v184.toNat, 256]
def k1_off18 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v5 : Index := Scalar.indexCast v1
  let c0 : Index := 0#32
  ![v5.toNat, 0]
def k1_mult1 (v9 : BitVec 32) : BitVec 32 :=
  let c_m8_i32 : BitVec 32 := 4294967288#32
  let v12 : BitVec 32 := Scalar.andi v9 c_m8_i32
  let c0_i32_22 : BitVec 32 := 0#32
  let v90 : BitVec 32 := Scalar.addi v12 c0_i32_22
  let c49872_i32 : BitVec 32 := 49872#32
  let v91 : BitVec 32 := Scalar.minsi v90 c49872_i32
  v91

def k1_off19 (v9 : BitVec 32) (c0_i32_22 : BitVec 32) : Fin 2 → Nat :=
  let c_m8_i32 : BitVec 32 := 4294967288#32
  let v12 : BitVec 32 := Scalar.andi v9 c_m8_i32
  let v90 : BitVec 32 := Scalar.addi v12 c0_i32_22
  let c49872_i32 : BitVec 32 := 49872#32
  let v91 : BitVec 32 := Scalar.minsi v90 c49872_i32
  let v92 : BitVec 32 := v91
  let c0_i32_24 : BitVec 32 := 0#32
  ![v92.toNat, 0]
def k1_off20 (v9 : BitVec 32) (c0_i32_22 : BitVec 32) : Fin 1 → Nat :=
  let c_m8_i32 : BitVec 32 := 4294967288#32
  let v12 : BitVec 32 := Scalar.andi v9 c_m8_i32
  let v90 : BitVec 32 := Scalar.addi v12 c0_i32_22
  let c49872_i32 : BitVec 32 := 49872#32
  let v91 : BitVec 32 := Scalar.minsi v90 c49872_i32
  let v92 : BitVec 32 := v91
  ![v92.toNat]
def k1_mult2 (v9 : BitVec 32) : BitVec 32 :=
  let c_m8_i32 : BitVec 32 := 4294967288#32
  let v12 : BitVec 32 := Scalar.andi v9 c_m8_i32
  let c128_i32_27 : BitVec 32 := 128#32
  let v101 : BitVec 32 := Scalar.addi v12 c128_i32_27
  let c49872_i32_28 : BitVec 32 := 49872#32
  let v102 : BitVec 32 := Scalar.minsi v101 c49872_i32_28
  v102

def k1_chk1 (v9 : BitVec 32) : Prop :=
  (8 ∣ (k1_mult1 v9).toNat) ∧
  (∀ (r : Fin 2), ∀ a, (k1_off19 v9 (BitVec.ofNat 32 (128 * r.val))) a + S128x256.size a ≤ S50000x256.size a) ∧
  (∀ (r : Fin 2), ∀ a, (k1_off20 v9 (BitVec.ofNat 32 (128 * r.val))) a + S128.size a ≤ S50000.size a) ∧
  (8 ∣ (k1_mult2 v9).toNat)
theorem k1_mult1_dvd : ∀ (v9 : BitVec 32) (k1_hw1 : k1_chk1 v9), 8 ∣ (k1_mult1 v9).toNat := fun v9 k1_hw1 => k1_hw1.1
theorem k1_off19_inb : ∀ (v9 : BitVec 32) (k1_hw1 : k1_chk1 v9), ∀ (r : Fin 2), ∀ a, (k1_off19 v9 (BitVec.ofNat 32 (128 * r.val))) a + S128x256.size a ≤ S50000x256.size a := fun v9 k1_hw1 r => k1_hw1.2.1 r
theorem k1_off20_inb : ∀ (v9 : BitVec 32) (k1_hw1 : k1_chk1 v9), ∀ (r : Fin 2), ∀ a, (k1_off20 v9 (BitVec.ofNat 32 (128 * r.val))) a + S128.size a ≤ S50000.size a := fun v9 k1_hw1 r => k1_hw1.2.2.1 r
theorem k1_mult2_dvd : ∀ (v9 : BitVec 32) (k1_hw1 : k1_chk1 v9), 8 ∣ (k1_mult2 v9).toNat := fun v9 k1_hw1 => k1_hw1.2.2.2

@[reducible] def k1_t2_loop (v9 : BitVec 32) (v11 : BitVec 32) : Scf.Loop 32 :=
  let c0_i32_34 : BitVec 32 := 0#32
  let c_m8_i32 : BitVec 32 := 4294967288#32
  let v12 : BitVec 32 := Scalar.andi v9 c_m8_i32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_36 : BitVec 32 := 1#32
  ⟨c0_i32_34, v116, c1_i32_36⟩

def k1_mult3 (v9 : BitVec 32) (v11 : BitVec 32) (k1_t2 : Fin (k1_t2_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c128_i32_45 : BitVec 32 := 128#32
  let v121 : BitVec 32 := Scalar.muli v120 c128_i32_45
  let v122 : BitVec 32 := Scalar.addi v12 v121
  let c49872_i32_46 : BitVec 32 := 49872#32
  let v123 : BitVec 32 := Scalar.minsi v122 c49872_i32_46
  v123
def k1_off21 (v9 : BitVec 32) (v11 : BitVec 32) (k1_t2 : Fin (k1_t2_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c128_i32_45 : BitVec 32 := 128#32
  let v121 : BitVec 32 := Scalar.muli v120 c128_i32_45
  let v122 : BitVec 32 := Scalar.addi v12 v121
  let c49872_i32_46 : BitVec 32 := 49872#32
  let v123 : BitVec 32 := Scalar.minsi v122 c49872_i32_46
  let v124 : BitVec 32 := v123
  let c0_i32_48 : BitVec 32 := 0#32
  ![v124.toNat, 0]
def k1_off22 (v9 : BitVec 32) (v11 : BitVec 32) (k1_t2 : Fin (k1_t2_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c128_i32_45 : BitVec 32 := 128#32
  let v121 : BitVec 32 := Scalar.muli v120 c128_i32_45
  let v122 : BitVec 32 := Scalar.addi v12 v121
  let c49872_i32_46 : BitVec 32 := 49872#32
  let v123 : BitVec 32 := Scalar.minsi v122 c49872_i32_46
  let v124 : BitVec 32 := v123
  ![v124.toNat]
def k1_mult4 (v9 : BitVec 32) (v11 : BitVec 32) (k1_t2 : Fin (k1_t2_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c128_i32_51 : BitVec 32 := 128#32
  let v133 : BitVec 32 := Scalar.muli v120 c128_i32_51
  let v134 : BitVec 32 := Scalar.addi v12 v133
  let c49872_i32_52 : BitVec 32 := 49872#32
  let v135 : BitVec 32 := Scalar.minsi v134 c49872_i32_52
  v135
@[reducible] def k1_t3_loop : Scf.Loop 32 :=
  let c0_i32_55 : BitVec 32 := 0#32
  let c8_i32 : BitVec 32 := 8#32
  let v140 : BitVec 32 := Scalar.addi c0_i32_55 c8_i32
  let c1_i32_56 : BitVec 32 := 1#32
  ⟨c0_i32_55, v140, c1_i32_56⟩
def k1_mult5 (k1_t3 : Fin k1_t3_loop.trips) : BitVec 32 :=
  let c0_i32_55 : BitVec 32 := 0#32
  let c1_i32_56 : BitVec 32 := 1#32
  let arg18 : BitVec 32 := Scf.iv c0_i32_55 c1_i32_56 k1_t3
  let c16_i32_77 : BitVec 32 := 16#32
  let v171 : BitVec 32 := Scalar.muli arg18 c16_i32_77
  v171
def k1_off23 (k1_t3 : Fin k1_t3_loop.trips) : Fin 1 → Nat :=
  let c0_i32_55 : BitVec 32 := 0#32
  let c1_i32_56 : BitVec 32 := 1#32
  let arg18 : BitVec 32 := Scf.iv c0_i32_55 c1_i32_56 k1_t3
  let c16_i32_77 : BitVec 32 := 16#32
  let v171 : BitVec 32 := Scalar.muli arg18 c16_i32_77
  let v172 : BitVec 32 := v171
  let v173 : Index := Scalar.indexCast v172
  ![v173.toNat]
@[reducible] def k1_t4_loop : Scf.Loop 32 :=
  let c0_i32_78 : BitVec 32 := 0#32
  let c16_i32_79 : BitVec 32 := 16#32
  let v176 : BitVec 32 := Scalar.addi c0_i32_78 c16_i32_79
  let c1_i32_80 : BitVec 32 := 1#32
  ⟨c0_i32_78, v176, c1_i32_80⟩
def k1_off24 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v180 : Index := Scalar.indexCast v179
  let c0_83 : Index := 0#32
  ![v180.toNat, 0]
def k1_off25 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v183 : Index := Scalar.indexCast v179
  let c16_84 : Index := 16#32
  ![v183.toNat, 16]
def k1_off26 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v186 : Index := Scalar.indexCast v179
  let c32_85 : Index := 32#32
  ![v186.toNat, 32]
def k1_off27 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v189 : Index := Scalar.indexCast v179
  let c48_86 : Index := 48#32
  ![v189.toNat, 48]
def k1_off28 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v192 : Index := Scalar.indexCast v179
  let c64_87 : Index := 64#32
  ![v192.toNat, 64]
def k1_off29 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v195 : Index := Scalar.indexCast v179
  let c80_88 : Index := 80#32
  ![v195.toNat, 80]
def k1_off30 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v198 : Index := Scalar.indexCast v179
  let c96_89 : Index := 96#32
  ![v198.toNat, 96]
def k1_off31 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v201 : Index := Scalar.indexCast v179
  let c112_90 : Index := 112#32
  ![v201.toNat, 112]
def k1_off32 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v204 : Index := Scalar.indexCast v179
  let c128_91 : Index := 128#32
  ![v204.toNat, 128]
def k1_off33 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v207 : Index := Scalar.indexCast v179
  let c144_92 : Index := 144#32
  ![v207.toNat, 144]
def k1_off34 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v210 : Index := Scalar.indexCast v179
  let c160_93 : Index := 160#32
  ![v210.toNat, 160]
def k1_off35 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v213 : Index := Scalar.indexCast v179
  let c176_94 : Index := 176#32
  ![v213.toNat, 176]
def k1_off36 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v216 : Index := Scalar.indexCast v179
  let c192_95 : Index := 192#32
  ![v216.toNat, 192]
def k1_off37 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v219 : Index := Scalar.indexCast v179
  let c208_96 : Index := 208#32
  ![v219.toNat, 208]
def k1_off38 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v222 : Index := Scalar.indexCast v179
  let c224_97 : Index := 224#32
  ![v222.toNat, 224]
def k1_off39 (k1_t3 : Fin k1_t3_loop.trips) (k1_t4 : Fin k1_t4_loop.trips) : Fin 2 → Nat :=
  let c0_i32_55 : BitVec 32 := 0#32
  let c1_i32_56 : BitVec 32 := 1#32
  let arg18 : BitVec 32 := Scf.iv c0_i32_55 c1_i32_56 k1_t3
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t4
  let v179 : BitVec 32 := Scalar.addi v178 arg19
  let v225 : Index := Scalar.indexCast v179
  let c240_98 : Index := 240#32
  ![v225.toNat, 240]
def k1_off40 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v288 : Index := Scalar.indexCast v287
  let c0_102 : Index := 0#32
  ![v288.toNat, 0]

def k1_off41 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v297 : Index := Scalar.indexCast v287
  let c16_104 : Index := 16#32
  ![v297.toNat, 16]
def k1_off42 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v306 : Index := Scalar.indexCast v287
  let c32_106 : Index := 32#32
  ![v306.toNat, 32]
def k1_off43 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v315 : Index := Scalar.indexCast v287
  let c48_108 : Index := 48#32
  ![v315.toNat, 48]
def k1_off44 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v324 : Index := Scalar.indexCast v287
  let c64_110 : Index := 64#32
  ![v324.toNat, 64]
def k1_off45 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v333 : Index := Scalar.indexCast v287
  let c80_112 : Index := 80#32
  ![v333.toNat, 80]
def k1_off46 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v342 : Index := Scalar.indexCast v287
  let c96_114 : Index := 96#32
  ![v342.toNat, 96]
def k1_off47 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v351 : Index := Scalar.indexCast v287
  let c112_116 : Index := 112#32
  ![v351.toNat, 112]
def k1_off48 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v360 : Index := Scalar.indexCast v287
  let c128_118 : Index := 128#32
  ![v360.toNat, 128]
def k1_off49 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v369 : Index := Scalar.indexCast v287
  let c144_120 : Index := 144#32
  ![v369.toNat, 144]
def k1_off50 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v378 : Index := Scalar.indexCast v287
  let c160_122 : Index := 160#32
  ![v378.toNat, 160]
def k1_off51 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v387 : Index := Scalar.indexCast v287
  let c176_124 : Index := 176#32
  ![v387.toNat, 176]
def k1_off52 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v396 : Index := Scalar.indexCast v287
  let c192_126 : Index := 192#32
  ![v396.toNat, 192]
def k1_off53 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v405 : Index := Scalar.indexCast v287
  let c208_128 : Index := 208#32
  ![v405.toNat, 208]
def k1_off54 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v414 : Index := Scalar.indexCast v287
  let c224_130 : Index := 224#32
  ![v414.toNat, 224]
def k1_off55 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v423 : Index := Scalar.indexCast v287
  let c240_132 : Index := 240#32
  ![v423.toNat, 240]
def k1_off56 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v432 : Index := Scalar.indexCast v287
  let c256 : Index := 256#32
  ![v432.toNat, 256]

def k1_chk3 (i : grid1.Coords) (v284 : BitVec 32) : Prop :=
  (∀ a, (k1_off40 i v284) a + S1x16.size a ≤ S16x272.size a) ∧
  (∀ a, (k1_off41 i v284) a + S1x16.size a ≤ S16x272.size a) ∧
  (∀ a, (k1_off42 i v284) a + S1x16.size a ≤ S16x272.size a) ∧
  (∀ a, (k1_off43 i v284) a + S1x16.size a ≤ S16x272.size a) ∧
  (∀ a, (k1_off44 i v284) a + S1x16.size a ≤ S16x272.size a) ∧
  (∀ a, (k1_off45 i v284) a + S1x16.size a ≤ S16x272.size a) ∧
  (∀ a, (k1_off46 i v284) a + S1x16.size a ≤ S16x272.size a) ∧
  (∀ a, (k1_off47 i v284) a + S1x16.size a ≤ S16x272.size a) ∧
  (∀ a, (k1_off48 i v284) a + S1x16.size a ≤ S16x272.size a) ∧
  (∀ a, (k1_off49 i v284) a + S1x16.size a ≤ S16x272.size a) ∧
  (∀ a, (k1_off50 i v284) a + S1x16.size a ≤ S16x272.size a) ∧
  (∀ a, (k1_off51 i v284) a + S1x16.size a ≤ S16x272.size a) ∧
  (∀ a, (k1_off52 i v284) a + S1x16.size a ≤ S16x272.size a) ∧
  (∀ a, (k1_off53 i v284) a + S1x16.size a ≤ S16x272.size a) ∧
  (∀ a, (k1_off54 i v284) a + S1x16.size a ≤ S16x272.size a) ∧
  (∀ a, (k1_off55 i v284) a + S1x16.size a ≤ S16x272.size a) ∧
  (∀ a, (k1_off56 i v284) a + S1x16.size a ≤ S16x272.size a)
theorem k1_off40_inb : ∀ (i : grid1.Coords) (v284 : BitVec 32) (k1_hw3 : k1_chk3 i v284), ∀ a, (k1_off40 i v284) a + S1x16.size a ≤ S16x272.size a := fun i v284 k1_hw3 => k1_hw3.1
theorem k1_off41_inb : ∀ (i : grid1.Coords) (v284 : BitVec 32) (k1_hw3 : k1_chk3 i v284), ∀ a, (k1_off41 i v284) a + S1x16.size a ≤ S16x272.size a := fun i v284 k1_hw3 => k1_hw3.2.1
theorem k1_off42_inb : ∀ (i : grid1.Coords) (v284 : BitVec 32) (k1_hw3 : k1_chk3 i v284), ∀ a, (k1_off42 i v284) a + S1x16.size a ≤ S16x272.size a := fun i v284 k1_hw3 => k1_hw3.2.2.1
theorem k1_off43_inb : ∀ (i : grid1.Coords) (v284 : BitVec 32) (k1_hw3 : k1_chk3 i v284), ∀ a, (k1_off43 i v284) a + S1x16.size a ≤ S16x272.size a := fun i v284 k1_hw3 => k1_hw3.2.2.2.1
theorem k1_off44_inb : ∀ (i : grid1.Coords) (v284 : BitVec 32) (k1_hw3 : k1_chk3 i v284), ∀ a, (k1_off44 i v284) a + S1x16.size a ≤ S16x272.size a := fun i v284 k1_hw3 => k1_hw3.2.2.2.2.1
theorem k1_off45_inb : ∀ (i : grid1.Coords) (v284 : BitVec 32) (k1_hw3 : k1_chk3 i v284), ∀ a, (k1_off45 i v284) a + S1x16.size a ≤ S16x272.size a := fun i v284 k1_hw3 => k1_hw3.2.2.2.2.2.1
theorem k1_off46_inb : ∀ (i : grid1.Coords) (v284 : BitVec 32) (k1_hw3 : k1_chk3 i v284), ∀ a, (k1_off46 i v284) a + S1x16.size a ≤ S16x272.size a := fun i v284 k1_hw3 => k1_hw3.2.2.2.2.2.2.1
theorem k1_off47_inb : ∀ (i : grid1.Coords) (v284 : BitVec 32) (k1_hw3 : k1_chk3 i v284), ∀ a, (k1_off47 i v284) a + S1x16.size a ≤ S16x272.size a := fun i v284 k1_hw3 => k1_hw3.2.2.2.2.2.2.2.1
theorem k1_off48_inb : ∀ (i : grid1.Coords) (v284 : BitVec 32) (k1_hw3 : k1_chk3 i v284), ∀ a, (k1_off48 i v284) a + S1x16.size a ≤ S16x272.size a := fun i v284 k1_hw3 => k1_hw3.2.2.2.2.2.2.2.2.1
theorem k1_off49_inb : ∀ (i : grid1.Coords) (v284 : BitVec 32) (k1_hw3 : k1_chk3 i v284), ∀ a, (k1_off49 i v284) a + S1x16.size a ≤ S16x272.size a := fun i v284 k1_hw3 => k1_hw3.2.2.2.2.2.2.2.2.2.1
theorem k1_off50_inb : ∀ (i : grid1.Coords) (v284 : BitVec 32) (k1_hw3 : k1_chk3 i v284), ∀ a, (k1_off50 i v284) a + S1x16.size a ≤ S16x272.size a := fun i v284 k1_hw3 => k1_hw3.2.2.2.2.2.2.2.2.2.2.1
theorem k1_off51_inb : ∀ (i : grid1.Coords) (v284 : BitVec 32) (k1_hw3 : k1_chk3 i v284), ∀ a, (k1_off51 i v284) a + S1x16.size a ≤ S16x272.size a := fun i v284 k1_hw3 => k1_hw3.2.2.2.2.2.2.2.2.2.2.2.1
theorem k1_off52_inb : ∀ (i : grid1.Coords) (v284 : BitVec 32) (k1_hw3 : k1_chk3 i v284), ∀ a, (k1_off52 i v284) a + S1x16.size a ≤ S16x272.size a := fun i v284 k1_hw3 => k1_hw3.2.2.2.2.2.2.2.2.2.2.2.2.1
theorem k1_off53_inb : ∀ (i : grid1.Coords) (v284 : BitVec 32) (k1_hw3 : k1_chk3 i v284), ∀ a, (k1_off53 i v284) a + S1x16.size a ≤ S16x272.size a := fun i v284 k1_hw3 => k1_hw3.2.2.2.2.2.2.2.2.2.2.2.2.2.1
theorem k1_off54_inb : ∀ (i : grid1.Coords) (v284 : BitVec 32) (k1_hw3 : k1_chk3 i v284), ∀ a, (k1_off54 i v284) a + S1x16.size a ≤ S16x272.size a := fun i v284 k1_hw3 => k1_hw3.2.2.2.2.2.2.2.2.2.2.2.2.2.2.1
theorem k1_off55_inb : ∀ (i : grid1.Coords) (v284 : BitVec 32) (k1_hw3 : k1_chk3 i v284), ∀ a, (k1_off55 i v284) a + S1x16.size a ≤ S16x272.size a := fun i v284 k1_hw3 => k1_hw3.2.2.2.2.2.2.2.2.2.2.2.2.2.2.2.1
theorem k1_off56_inb : ∀ (i : grid1.Coords) (v284 : BitVec 32) (k1_hw3 : k1_chk3 i v284), ∀ a, (k1_off56 i v284) a + S1x16.size a ≤ S16x272.size a := fun i v284 k1_hw3 => k1_hw3.2.2.2.2.2.2.2.2.2.2.2.2.2.2.2.2

def k1_mult6 (v9 : BitVec 32) (v11 : BitVec 32) (k1_t2 : Fin (k1_t2_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c2_i32_77 : BitVec 32 := 2#32
  let v171 : BitVec 32 := Scalar.addi v120 c2_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  v174
def k1_cond1 (v9 : BitVec 32) (v11 : BitVec 32) (k1_t2 : Fin (k1_t2_loop v9 v11).trips) : BitVec 1 :=
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c2_i32_58 : BitVec 32 := 2#32
  let v141 : BitVec 32 := Scalar.addi v120 c2_i32_58
  let c_m8_i32 : BitVec 32 := 4294967288#32
  let v12 : BitVec 32 := Scalar.andi v9 c_m8_i32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let v142 : BitVec 1 := Scalar.cmpi .slt v141 v72
  let v143 : BitVec 32 := Scalar.extui v142
  let c0_i32_59 : BitVec 32 := 0#32
  let v144 : BitVec 1 := Scalar.cmpi .ne v143 c0_i32_59
  v144

def k1_off57 (v9 : BitVec 32) (v11 : BitVec 32) (k1_t2 : Fin (k1_t2_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c2_i32_77 : BitVec 32 := 2#32
  let v171 : BitVec 32 := Scalar.addi v120 c2_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  let c0_i32_81 : BitVec 32 := 0#32
  ![v175.toNat, 0]
def k1_off58 (v9 : BitVec 32) (v11 : BitVec 32) (k1_t2 : Fin (k1_t2_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c2_i32_77 : BitVec 32 := 2#32
  let v171 : BitVec 32 := Scalar.addi v120 c2_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  ![v175.toNat]
def k1_mult7 (v9 : BitVec 32) (v11 : BitVec 32) (k1_t2 : Fin (k1_t2_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c1_i32_60 : BitVec 32 := 1#32
  let v145 : BitVec 32 := Scalar.addi v120 c1_i32_60
  let c128_i32_61 : BitVec 32 := 128#32
  let v146 : BitVec 32 := Scalar.muli v145 c128_i32_61
  let v147 : BitVec 32 := Scalar.addi v12 v146
  let c49872_i32_62 : BitVec 32 := 49872#32
  let v148 : BitVec 32 := Scalar.minsi v147 c49872_i32_62
  v148
def k1_off59 (v9 : BitVec 32) (v11 : BitVec 32) (k1_t2 : Fin (k1_t2_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c1_i32_60 : BitVec 32 := 1#32
  let v145 : BitVec 32 := Scalar.addi v120 c1_i32_60
  let c128_i32_61 : BitVec 32 := 128#32
  let v146 : BitVec 32 := Scalar.muli v145 c128_i32_61
  let v147 : BitVec 32 := Scalar.addi v12 v146
  let c49872_i32_62 : BitVec 32 := 49872#32
  let v148 : BitVec 32 := Scalar.minsi v147 c49872_i32_62
  let v149 : BitVec 32 := v148
  let c0_i32_64 : BitVec 32 := 0#32
  ![v149.toNat, 0]
def k1_off60 (v9 : BitVec 32) (v11 : BitVec 32) (k1_t2 : Fin (k1_t2_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c1_i32_60 : BitVec 32 := 1#32
  let v145 : BitVec 32 := Scalar.addi v120 c1_i32_60
  let c128_i32_61 : BitVec 32 := 128#32
  let v146 : BitVec 32 := Scalar.muli v145 c128_i32_61
  let v147 : BitVec 32 := Scalar.addi v12 v146
  let c49872_i32_62 : BitVec 32 := 49872#32
  let v148 : BitVec 32 := Scalar.minsi v147 c49872_i32_62
  let v149 : BitVec 32 := v148
  ![v149.toNat]
def k1_mult8 (v9 : BitVec 32) (v11 : BitVec 32) (k1_t2 : Fin (k1_t2_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c1_i32_67 : BitVec 32 := 1#32
  let v158 : BitVec 32 := Scalar.addi v120 c1_i32_67
  let c128_i32_68 : BitVec 32 := 128#32
  let v159 : BitVec 32 := Scalar.muli v158 c128_i32_68
  let v160 : BitVec 32 := Scalar.addi v12 v159
  let c49872_i32_69 : BitVec 32 := 49872#32
  let v161 : BitVec 32 := Scalar.minsi v160 c49872_i32_69
  v161
@[reducible] def k1_t5_loop : Scf.Loop 32 :=
  let c0_i32_72 : BitVec 32 := 0#32
  let c8_i32_73 : BitVec 32 := 8#32
  let v166 : BitVec 32 := Scalar.addi c0_i32_72 c8_i32_73
  let c1_i32_74 : BitVec 32 := 1#32
  ⟨c0_i32_72, v166, c1_i32_74⟩
def k1_mult9 (k1_t5 : Fin k1_t5_loop.trips) : BitVec 32 :=
  let c0_i32_72 : BitVec 32 := 0#32
  let c1_i32_74 : BitVec 32 := 1#32
  let arg18 : BitVec 32 := Scf.iv c0_i32_72 c1_i32_74 k1_t5
  let c16_i32_77 : BitVec 32 := 16#32
  let v171 : BitVec 32 := Scalar.muli arg18 c16_i32_77
  v171
def k1_off61 (k1_t5 : Fin k1_t5_loop.trips) : Fin 1 → Nat :=
  let c0_i32_72 : BitVec 32 := 0#32
  let c1_i32_74 : BitVec 32 := 1#32
  let arg18 : BitVec 32 := Scf.iv c0_i32_72 c1_i32_74 k1_t5
  let c16_i32_77 : BitVec 32 := 16#32
  let v171 : BitVec 32 := Scalar.muli arg18 c16_i32_77
  let v172 : BitVec 32 := v171
  let v173 : Index := Scalar.indexCast v172
  ![v173.toNat]
@[reducible] def k1_t6_loop : Scf.Loop 32 :=
  let c0_i32_78 : BitVec 32 := 0#32
  let c16_i32_79 : BitVec 32 := 16#32
  let v176 : BitVec 32 := Scalar.addi c0_i32_78 c16_i32_79
  let c1_i32_80 : BitVec 32 := 1#32
  ⟨c0_i32_78, v176, c1_i32_80⟩
def k1_off62 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v180 : Index := Scalar.indexCast v179
  let c0_83 : Index := 0#32
  ![v180.toNat, 0]
def k1_off63 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v183 : Index := Scalar.indexCast v179
  let c16_84 : Index := 16#32
  ![v183.toNat, 16]
def k1_off64 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v186 : Index := Scalar.indexCast v179
  let c32_85 : Index := 32#32
  ![v186.toNat, 32]
def k1_off65 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v189 : Index := Scalar.indexCast v179
  let c48_86 : Index := 48#32
  ![v189.toNat, 48]
def k1_off66 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v192 : Index := Scalar.indexCast v179
  let c64_87 : Index := 64#32
  ![v192.toNat, 64]
def k1_off67 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v195 : Index := Scalar.indexCast v179
  let c80_88 : Index := 80#32
  ![v195.toNat, 80]
def k1_off68 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v198 : Index := Scalar.indexCast v179
  let c96_89 : Index := 96#32
  ![v198.toNat, 96]
def k1_off69 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v201 : Index := Scalar.indexCast v179
  let c112_90 : Index := 112#32
  ![v201.toNat, 112]
def k1_off70 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v204 : Index := Scalar.indexCast v179
  let c128_91 : Index := 128#32
  ![v204.toNat, 128]
def k1_off71 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v207 : Index := Scalar.indexCast v179
  let c144_92 : Index := 144#32
  ![v207.toNat, 144]
def k1_off72 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v210 : Index := Scalar.indexCast v179
  let c160_93 : Index := 160#32
  ![v210.toNat, 160]
def k1_off73 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v213 : Index := Scalar.indexCast v179
  let c176_94 : Index := 176#32
  ![v213.toNat, 176]
def k1_off74 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v216 : Index := Scalar.indexCast v179
  let c192_95 : Index := 192#32
  ![v216.toNat, 192]
def k1_off75 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v219 : Index := Scalar.indexCast v179
  let c208_96 : Index := 208#32
  ![v219.toNat, 208]
def k1_off76 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v222 : Index := Scalar.indexCast v179
  let c224_97 : Index := 224#32
  ![v222.toNat, 224]
def k1_off77 (k1_t5 : Fin k1_t5_loop.trips) (k1_t6 : Fin k1_t6_loop.trips) : Fin 2 → Nat :=
  let c0_i32_72 : BitVec 32 := 0#32
  let c1_i32_74 : BitVec 32 := 1#32
  let arg18 : BitVec 32 := Scf.iv c0_i32_72 c1_i32_74 k1_t5
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t6
  let v179 : BitVec 32 := Scalar.addi v178 arg19
  let v225 : Index := Scalar.indexCast v179
  let c240_98 : Index := 240#32
  ![v225.toNat, 240]
def k1_off78 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v288 : Index := Scalar.indexCast v287
  let c0_102 : Index := 0#32
  ![v288.toNat, 0]

def k1_off79 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v297 : Index := Scalar.indexCast v287
  let c16_104 : Index := 16#32
  ![v297.toNat, 16]
def k1_off80 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v306 : Index := Scalar.indexCast v287
  let c32_106 : Index := 32#32
  ![v306.toNat, 32]
def k1_off81 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v315 : Index := Scalar.indexCast v287
  let c48_108 : Index := 48#32
  ![v315.toNat, 48]
def k1_off82 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v324 : Index := Scalar.indexCast v287
  let c64_110 : Index := 64#32
  ![v324.toNat, 64]
def k1_off83 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v333 : Index := Scalar.indexCast v287
  let c80_112 : Index := 80#32
  ![v333.toNat, 80]
def k1_off84 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v342 : Index := Scalar.indexCast v287
  let c96_114 : Index := 96#32
  ![v342.toNat, 96]
def k1_off85 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v351 : Index := Scalar.indexCast v287
  let c112_116 : Index := 112#32
  ![v351.toNat, 112]
def k1_off86 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v360 : Index := Scalar.indexCast v287
  let c128_118 : Index := 128#32
  ![v360.toNat, 128]
def k1_off87 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v369 : Index := Scalar.indexCast v287
  let c144_120 : Index := 144#32
  ![v369.toNat, 144]
def k1_off88 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v378 : Index := Scalar.indexCast v287
  let c160_122 : Index := 160#32
  ![v378.toNat, 160]
def k1_off89 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v387 : Index := Scalar.indexCast v287
  let c176_124 : Index := 176#32
  ![v387.toNat, 176]
def k1_off90 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v396 : Index := Scalar.indexCast v287
  let c192_126 : Index := 192#32
  ![v396.toNat, 192]
def k1_off91 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v405 : Index := Scalar.indexCast v287
  let c208_128 : Index := 208#32
  ![v405.toNat, 208]
def k1_off92 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v414 : Index := Scalar.indexCast v287
  let c224_130 : Index := 224#32
  ![v414.toNat, 224]
def k1_off93 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v423 : Index := Scalar.indexCast v287
  let c240_132 : Index := 240#32
  ![v423.toNat, 240]
def k1_off94 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v432 : Index := Scalar.indexCast v287
  let c256 : Index := 256#32
  ![v432.toNat, 256]

def k1_chk4 (i : grid1.Coords) (v284 : BitVec 32) : Prop :=
  (∀ a, (k1_off78 i v284) a + S1x16.size a ≤ S16x272.size a) ∧
  (∀ a, (k1_off79 i v284) a + S1x16.size a ≤ S16x272.size a) ∧
  (∀ a, (k1_off80 i v284) a + S1x16.size a ≤ S16x272.size a) ∧
  (∀ a, (k1_off81 i v284) a + S1x16.size a ≤ S16x272.size a) ∧
  (∀ a, (k1_off82 i v284) a + S1x16.size a ≤ S16x272.size a) ∧
  (∀ a, (k1_off83 i v284) a + S1x16.size a ≤ S16x272.size a) ∧
  (∀ a, (k1_off84 i v284) a + S1x16.size a ≤ S16x272.size a) ∧
  (∀ a, (k1_off85 i v284) a + S1x16.size a ≤ S16x272.size a) ∧
  (∀ a, (k1_off86 i v284) a + S1x16.size a ≤ S16x272.size a) ∧
  (∀ a, (k1_off87 i v284) a + S1x16.size a ≤ S16x272.size a) ∧
  (∀ a, (k1_off88 i v284) a + S1x16.size a ≤ S16x272.size a) ∧
  (∀ a, (k1_off89 i v284) a + S1x16.size a ≤ S16x272.size a) ∧
  (∀ a, (k1_off90 i v284) a + S1x16.size a ≤ S16x272.size a) ∧
  (∀ a, (k1_off91 i v284) a + S1x16.size a ≤ S16x272.size a) ∧
  (∀ a, (k1_off92 i v284) a + S1x16.size a ≤ S16x272.size a) ∧
  (∀ a, (k1_off93 i v284) a + S1x16.size a ≤ S16x272.size a) ∧
  (∀ a, (k1_off94 i v284) a + S1x16.size a ≤ S16x272.size a)
theorem k1_off78_inb : ∀ (i : grid1.Coords) (v284 : BitVec 32) (k1_hw4 : k1_chk4 i v284), ∀ a, (k1_off78 i v284) a + S1x16.size a ≤ S16x272.size a := fun i v284 k1_hw4 => k1_hw4.1
theorem k1_off79_inb : ∀ (i : grid1.Coords) (v284 : BitVec 32) (k1_hw4 : k1_chk4 i v284), ∀ a, (k1_off79 i v284) a + S1x16.size a ≤ S16x272.size a := fun i v284 k1_hw4 => k1_hw4.2.1
theorem k1_off80_inb : ∀ (i : grid1.Coords) (v284 : BitVec 32) (k1_hw4 : k1_chk4 i v284), ∀ a, (k1_off80 i v284) a + S1x16.size a ≤ S16x272.size a := fun i v284 k1_hw4 => k1_hw4.2.2.1
theorem k1_off81_inb : ∀ (i : grid1.Coords) (v284 : BitVec 32) (k1_hw4 : k1_chk4 i v284), ∀ a, (k1_off81 i v284) a + S1x16.size a ≤ S16x272.size a := fun i v284 k1_hw4 => k1_hw4.2.2.2.1
theorem k1_off82_inb : ∀ (i : grid1.Coords) (v284 : BitVec 32) (k1_hw4 : k1_chk4 i v284), ∀ a, (k1_off82 i v284) a + S1x16.size a ≤ S16x272.size a := fun i v284 k1_hw4 => k1_hw4.2.2.2.2.1
theorem k1_off83_inb : ∀ (i : grid1.Coords) (v284 : BitVec 32) (k1_hw4 : k1_chk4 i v284), ∀ a, (k1_off83 i v284) a + S1x16.size a ≤ S16x272.size a := fun i v284 k1_hw4 => k1_hw4.2.2.2.2.2.1
theorem k1_off84_inb : ∀ (i : grid1.Coords) (v284 : BitVec 32) (k1_hw4 : k1_chk4 i v284), ∀ a, (k1_off84 i v284) a + S1x16.size a ≤ S16x272.size a := fun i v284 k1_hw4 => k1_hw4.2.2.2.2.2.2.1
theorem k1_off85_inb : ∀ (i : grid1.Coords) (v284 : BitVec 32) (k1_hw4 : k1_chk4 i v284), ∀ a, (k1_off85 i v284) a + S1x16.size a ≤ S16x272.size a := fun i v284 k1_hw4 => k1_hw4.2.2.2.2.2.2.2.1
theorem k1_off86_inb : ∀ (i : grid1.Coords) (v284 : BitVec 32) (k1_hw4 : k1_chk4 i v284), ∀ a, (k1_off86 i v284) a + S1x16.size a ≤ S16x272.size a := fun i v284 k1_hw4 => k1_hw4.2.2.2.2.2.2.2.2.1
theorem k1_off87_inb : ∀ (i : grid1.Coords) (v284 : BitVec 32) (k1_hw4 : k1_chk4 i v284), ∀ a, (k1_off87 i v284) a + S1x16.size a ≤ S16x272.size a := fun i v284 k1_hw4 => k1_hw4.2.2.2.2.2.2.2.2.2.1
theorem k1_off88_inb : ∀ (i : grid1.Coords) (v284 : BitVec 32) (k1_hw4 : k1_chk4 i v284), ∀ a, (k1_off88 i v284) a + S1x16.size a ≤ S16x272.size a := fun i v284 k1_hw4 => k1_hw4.2.2.2.2.2.2.2.2.2.2.1
theorem k1_off89_inb : ∀ (i : grid1.Coords) (v284 : BitVec 32) (k1_hw4 : k1_chk4 i v284), ∀ a, (k1_off89 i v284) a + S1x16.size a ≤ S16x272.size a := fun i v284 k1_hw4 => k1_hw4.2.2.2.2.2.2.2.2.2.2.2.1
theorem k1_off90_inb : ∀ (i : grid1.Coords) (v284 : BitVec 32) (k1_hw4 : k1_chk4 i v284), ∀ a, (k1_off90 i v284) a + S1x16.size a ≤ S16x272.size a := fun i v284 k1_hw4 => k1_hw4.2.2.2.2.2.2.2.2.2.2.2.2.1
theorem k1_off91_inb : ∀ (i : grid1.Coords) (v284 : BitVec 32) (k1_hw4 : k1_chk4 i v284), ∀ a, (k1_off91 i v284) a + S1x16.size a ≤ S16x272.size a := fun i v284 k1_hw4 => k1_hw4.2.2.2.2.2.2.2.2.2.2.2.2.2.1
theorem k1_off92_inb : ∀ (i : grid1.Coords) (v284 : BitVec 32) (k1_hw4 : k1_chk4 i v284), ∀ a, (k1_off92 i v284) a + S1x16.size a ≤ S16x272.size a := fun i v284 k1_hw4 => k1_hw4.2.2.2.2.2.2.2.2.2.2.2.2.2.2.1
theorem k1_off93_inb : ∀ (i : grid1.Coords) (v284 : BitVec 32) (k1_hw4 : k1_chk4 i v284), ∀ a, (k1_off93 i v284) a + S1x16.size a ≤ S16x272.size a := fun i v284 k1_hw4 => k1_hw4.2.2.2.2.2.2.2.2.2.2.2.2.2.2.2.1
theorem k1_off94_inb : ∀ (i : grid1.Coords) (v284 : BitVec 32) (k1_hw4 : k1_chk4 i v284), ∀ a, (k1_off94 i v284) a + S1x16.size a ≤ S16x272.size a := fun i v284 k1_hw4 => k1_hw4.2.2.2.2.2.2.2.2.2.2.2.2.2.2.2.2

def k1_mult10 (v9 : BitVec 32) (v11 : BitVec 32) (k1_t2 : Fin (k1_t2_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c3_i32_77 : BitVec 32 := 3#32
  let v171 : BitVec 32 := Scalar.addi v120 c3_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  v174
def k1_cond2 (v9 : BitVec 32) (v11 : BitVec 32) (k1_t2 : Fin (k1_t2_loop v9 v11).trips) : BitVec 1 :=
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c3_i32 : BitVec 32 := 3#32
  let v167 : BitVec 32 := Scalar.addi v120 c3_i32
  let c_m8_i32 : BitVec 32 := 4294967288#32
  let v12 : BitVec 32 := Scalar.andi v9 c_m8_i32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let v168 : BitVec 1 := Scalar.cmpi .slt v167 v72
  let v169 : BitVec 32 := Scalar.extui v168
  let c0_i32_76 : BitVec 32 := 0#32
  let v170 : BitVec 1 := Scalar.cmpi .ne v169 c0_i32_76
  v170

def k1_off95 (v9 : BitVec 32) (v11 : BitVec 32) (k1_t2 : Fin (k1_t2_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c3_i32_77 : BitVec 32 := 3#32
  let v171 : BitVec 32 := Scalar.addi v120 c3_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  let c0_i32_81 : BitVec 32 := 0#32
  ![v175.toNat, 0]
def k1_off96 (v9 : BitVec 32) (v11 : BitVec 32) (k1_t2 : Fin (k1_t2_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let c1_i32_36 : BitVec 32 := 1#32
  let arg17 : BitVec 32 := Scf.iv c0_i32_34 c1_i32_36 k1_t2
  let v120 : BitVec 32 := Scalar.muli c2_i32_44 arg17
  let c3_i32_77 : BitVec 32 := 3#32
  let v171 : BitVec 32 := Scalar.addi v120 c3_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  ![v175.toNat]
@[reducible] def k1_t7_loop (v9 : BitVec 32) (v11 : BitVec 32) : Scf.Loop 32 :=
  let c0_i32_34 : BitVec 32 := 0#32
  let c_m8_i32 : BitVec 32 := 4294967288#32
  let v12 : BitVec 32 := Scalar.andi v9 c_m8_i32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let v113 : BitVec 32 := Scalar.addi c0_i32_34 v112
  let c1_i32_37 : BitVec 32 := 1#32
  ⟨v116, v113, c1_i32_37⟩
def k1_mult11 (v9 : BitVec 32) (v11 : BitVec 32) (k1_t7 : Fin (k1_t7_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c128_i32_45 : BitVec 32 := 128#32
  let v121 : BitVec 32 := Scalar.muli v120 c128_i32_45
  let v122 : BitVec 32 := Scalar.addi v12 v121
  let c49872_i32_46 : BitVec 32 := 49872#32
  let v123 : BitVec 32 := Scalar.minsi v122 c49872_i32_46
  v123
def k1_off97 (v9 : BitVec 32) (v11 : BitVec 32) (k1_t7 : Fin (k1_t7_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c128_i32_45 : BitVec 32 := 128#32
  let v121 : BitVec 32 := Scalar.muli v120 c128_i32_45
  let v122 : BitVec 32 := Scalar.addi v12 v121
  let c49872_i32_46 : BitVec 32 := 49872#32
  let v123 : BitVec 32 := Scalar.minsi v122 c49872_i32_46
  let v124 : BitVec 32 := v123
  let c0_i32_48 : BitVec 32 := 0#32
  ![v124.toNat, 0]
def k1_off98 (v9 : BitVec 32) (v11 : BitVec 32) (k1_t7 : Fin (k1_t7_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c128_i32_45 : BitVec 32 := 128#32
  let v121 : BitVec 32 := Scalar.muli v120 c128_i32_45
  let v122 : BitVec 32 := Scalar.addi v12 v121
  let c49872_i32_46 : BitVec 32 := 49872#32
  let v123 : BitVec 32 := Scalar.minsi v122 c49872_i32_46
  let v124 : BitVec 32 := v123
  ![v124.toNat]
def k1_mult12 (v9 : BitVec 32) (v11 : BitVec 32) (k1_t7 : Fin (k1_t7_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c128_i32_51 : BitVec 32 := 128#32
  let v133 : BitVec 32 := Scalar.muli v120 c128_i32_51
  let v134 : BitVec 32 := Scalar.addi v12 v133
  let c49872_i32_52 : BitVec 32 := 49872#32
  let v135 : BitVec 32 := Scalar.minsi v134 c49872_i32_52
  v135
@[reducible] def k1_t8_loop : Scf.Loop 32 :=
  let c0_i32_55 : BitVec 32 := 0#32
  let c8_i32 : BitVec 32 := 8#32
  let v140 : BitVec 32 := Scalar.addi c0_i32_55 c8_i32
  let c1_i32_56 : BitVec 32 := 1#32
  ⟨c0_i32_55, v140, c1_i32_56⟩
def k1_mult13 (k1_t8 : Fin k1_t8_loop.trips) : BitVec 32 :=
  let c0_i32_55 : BitVec 32 := 0#32
  let c1_i32_56 : BitVec 32 := 1#32
  let arg18 : BitVec 32 := Scf.iv c0_i32_55 c1_i32_56 k1_t8
  let c16_i32_77 : BitVec 32 := 16#32
  let v171 : BitVec 32 := Scalar.muli arg18 c16_i32_77
  v171
def k1_off99 (k1_t8 : Fin k1_t8_loop.trips) : Fin 1 → Nat :=
  let c0_i32_55 : BitVec 32 := 0#32
  let c1_i32_56 : BitVec 32 := 1#32
  let arg18 : BitVec 32 := Scf.iv c0_i32_55 c1_i32_56 k1_t8
  let c16_i32_77 : BitVec 32 := 16#32
  let v171 : BitVec 32 := Scalar.muli arg18 c16_i32_77
  let v172 : BitVec 32 := v171
  let v173 : Index := Scalar.indexCast v172
  ![v173.toNat]
@[reducible] def k1_t9_loop : Scf.Loop 32 :=
  let c0_i32_78 : BitVec 32 := 0#32
  let c16_i32_79 : BitVec 32 := 16#32
  let v176 : BitVec 32 := Scalar.addi c0_i32_78 c16_i32_79
  let c1_i32_80 : BitVec 32 := 1#32
  ⟨c0_i32_78, v176, c1_i32_80⟩
def k1_off100 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v180 : Index := Scalar.indexCast v179
  let c0_83 : Index := 0#32
  ![v180.toNat, 0]
def k1_off101 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v183 : Index := Scalar.indexCast v179
  let c16_84 : Index := 16#32
  ![v183.toNat, 16]
def k1_off102 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v186 : Index := Scalar.indexCast v179
  let c32_85 : Index := 32#32
  ![v186.toNat, 32]
def k1_off103 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v189 : Index := Scalar.indexCast v179
  let c48_86 : Index := 48#32
  ![v189.toNat, 48]
def k1_off104 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v192 : Index := Scalar.indexCast v179
  let c64_87 : Index := 64#32
  ![v192.toNat, 64]
def k1_off105 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v195 : Index := Scalar.indexCast v179
  let c80_88 : Index := 80#32
  ![v195.toNat, 80]
def k1_off106 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v198 : Index := Scalar.indexCast v179
  let c96_89 : Index := 96#32
  ![v198.toNat, 96]
def k1_off107 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v201 : Index := Scalar.indexCast v179
  let c112_90 : Index := 112#32
  ![v201.toNat, 112]
def k1_off108 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v204 : Index := Scalar.indexCast v179
  let c128_91 : Index := 128#32
  ![v204.toNat, 128]
def k1_off109 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v207 : Index := Scalar.indexCast v179
  let c144_92 : Index := 144#32
  ![v207.toNat, 144]
def k1_off110 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v210 : Index := Scalar.indexCast v179
  let c160_93 : Index := 160#32
  ![v210.toNat, 160]
def k1_off111 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v213 : Index := Scalar.indexCast v179
  let c176_94 : Index := 176#32
  ![v213.toNat, 176]
def k1_off112 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v216 : Index := Scalar.indexCast v179
  let c192_95 : Index := 192#32
  ![v216.toNat, 192]
def k1_off113 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v219 : Index := Scalar.indexCast v179
  let c208_96 : Index := 208#32
  ![v219.toNat, 208]
def k1_off114 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v222 : Index := Scalar.indexCast v179
  let c224_97 : Index := 224#32
  ![v222.toNat, 224]
def k1_off115 (k1_t8 : Fin k1_t8_loop.trips) (k1_t9 : Fin k1_t9_loop.trips) : Fin 2 → Nat :=
  let c0_i32_55 : BitVec 32 := 0#32
  let c1_i32_56 : BitVec 32 := 1#32
  let arg18 : BitVec 32 := Scf.iv c0_i32_55 c1_i32_56 k1_t8
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t9
  let v179 : BitVec 32 := Scalar.addi v178 arg19
  let v225 : Index := Scalar.indexCast v179
  let c240_98 : Index := 240#32
  ![v225.toNat, 240]
def k1_off116 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v288 : Index := Scalar.indexCast v287
  let c0_102 : Index := 0#32
  ![v288.toNat, 0]

def k1_off117 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v297 : Index := Scalar.indexCast v287
  let c16_104 : Index := 16#32
  ![v297.toNat, 16]
def k1_off118 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v306 : Index := Scalar.indexCast v287
  let c32_106 : Index := 32#32
  ![v306.toNat, 32]
def k1_off119 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v315 : Index := Scalar.indexCast v287
  let c48_108 : Index := 48#32
  ![v315.toNat, 48]
def k1_off120 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v324 : Index := Scalar.indexCast v287
  let c64_110 : Index := 64#32
  ![v324.toNat, 64]
def k1_off121 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v333 : Index := Scalar.indexCast v287
  let c80_112 : Index := 80#32
  ![v333.toNat, 80]
def k1_off122 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v342 : Index := Scalar.indexCast v287
  let c96_114 : Index := 96#32
  ![v342.toNat, 96]
def k1_off123 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v351 : Index := Scalar.indexCast v287
  let c112_116 : Index := 112#32
  ![v351.toNat, 112]
def k1_off124 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v360 : Index := Scalar.indexCast v287
  let c128_118 : Index := 128#32
  ![v360.toNat, 128]
def k1_off125 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v369 : Index := Scalar.indexCast v287
  let c144_120 : Index := 144#32
  ![v369.toNat, 144]
def k1_off126 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v378 : Index := Scalar.indexCast v287
  let c160_122 : Index := 160#32
  ![v378.toNat, 160]
def k1_off127 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v387 : Index := Scalar.indexCast v287
  let c176_124 : Index := 176#32
  ![v387.toNat, 176]
def k1_off128 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v396 : Index := Scalar.indexCast v287
  let c192_126 : Index := 192#32
  ![v396.toNat, 192]
def k1_off129 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v405 : Index := Scalar.indexCast v287
  let c208_128 : Index := 208#32
  ![v405.toNat, 208]
def k1_off130 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v414 : Index := Scalar.indexCast v287
  let c224_130 : Index := 224#32
  ![v414.toNat, 224]
def k1_off131 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v423 : Index := Scalar.indexCast v287
  let c240_132 : Index := 240#32
  ![v423.toNat, 240]
def k1_off132 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v432 : Index := Scalar.indexCast v287
  let c256 : Index := 256#32
  ![v432.toNat, 256]

def k1_chk5 (i : grid1.Coords) (v284 : BitVec 32) : Prop :=
  (∀ a, (k1_off116 i v284) a + S1x16.size a ≤ S16x272.size a) ∧
  (∀ a, (k1_off117 i v284) a + S1x16.size a ≤ S16x272.size a) ∧
  (∀ a, (k1_off118 i v284) a + S1x16.size a ≤ S16x272.size a) ∧
  (∀ a, (k1_off119 i v284) a + S1x16.size a ≤ S16x272.size a) ∧
  (∀ a, (k1_off120 i v284) a + S1x16.size a ≤ S16x272.size a) ∧
  (∀ a, (k1_off121 i v284) a + S1x16.size a ≤ S16x272.size a) ∧
  (∀ a, (k1_off122 i v284) a + S1x16.size a ≤ S16x272.size a) ∧
  (∀ a, (k1_off123 i v284) a + S1x16.size a ≤ S16x272.size a) ∧
  (∀ a, (k1_off124 i v284) a + S1x16.size a ≤ S16x272.size a) ∧
  (∀ a, (k1_off125 i v284) a + S1x16.size a ≤ S16x272.size a) ∧
  (∀ a, (k1_off126 i v284) a + S1x16.size a ≤ S16x272.size a) ∧
  (∀ a, (k1_off127 i v284) a + S1x16.size a ≤ S16x272.size a) ∧
  (∀ a, (k1_off128 i v284) a + S1x16.size a ≤ S16x272.size a) ∧
  (∀ a, (k1_off129 i v284) a + S1x16.size a ≤ S16x272.size a) ∧
  (∀ a, (k1_off130 i v284) a + S1x16.size a ≤ S16x272.size a) ∧
  (∀ a, (k1_off131 i v284) a + S1x16.size a ≤ S16x272.size a) ∧
  (∀ a, (k1_off132 i v284) a + S1x16.size a ≤ S16x272.size a)
theorem k1_off116_inb : ∀ (i : grid1.Coords) (v284 : BitVec 32) (k1_hw5 : k1_chk5 i v284), ∀ a, (k1_off116 i v284) a + S1x16.size a ≤ S16x272.size a := fun i v284 k1_hw5 => k1_hw5.1
theorem k1_off117_inb : ∀ (i : grid1.Coords) (v284 : BitVec 32) (k1_hw5 : k1_chk5 i v284), ∀ a, (k1_off117 i v284) a + S1x16.size a ≤ S16x272.size a := fun i v284 k1_hw5 => k1_hw5.2.1
theorem k1_off118_inb : ∀ (i : grid1.Coords) (v284 : BitVec 32) (k1_hw5 : k1_chk5 i v284), ∀ a, (k1_off118 i v284) a + S1x16.size a ≤ S16x272.size a := fun i v284 k1_hw5 => k1_hw5.2.2.1
theorem k1_off119_inb : ∀ (i : grid1.Coords) (v284 : BitVec 32) (k1_hw5 : k1_chk5 i v284), ∀ a, (k1_off119 i v284) a + S1x16.size a ≤ S16x272.size a := fun i v284 k1_hw5 => k1_hw5.2.2.2.1
theorem k1_off120_inb : ∀ (i : grid1.Coords) (v284 : BitVec 32) (k1_hw5 : k1_chk5 i v284), ∀ a, (k1_off120 i v284) a + S1x16.size a ≤ S16x272.size a := fun i v284 k1_hw5 => k1_hw5.2.2.2.2.1
theorem k1_off121_inb : ∀ (i : grid1.Coords) (v284 : BitVec 32) (k1_hw5 : k1_chk5 i v284), ∀ a, (k1_off121 i v284) a + S1x16.size a ≤ S16x272.size a := fun i v284 k1_hw5 => k1_hw5.2.2.2.2.2.1
theorem k1_off122_inb : ∀ (i : grid1.Coords) (v284 : BitVec 32) (k1_hw5 : k1_chk5 i v284), ∀ a, (k1_off122 i v284) a + S1x16.size a ≤ S16x272.size a := fun i v284 k1_hw5 => k1_hw5.2.2.2.2.2.2.1
theorem k1_off123_inb : ∀ (i : grid1.Coords) (v284 : BitVec 32) (k1_hw5 : k1_chk5 i v284), ∀ a, (k1_off123 i v284) a + S1x16.size a ≤ S16x272.size a := fun i v284 k1_hw5 => k1_hw5.2.2.2.2.2.2.2.1
theorem k1_off124_inb : ∀ (i : grid1.Coords) (v284 : BitVec 32) (k1_hw5 : k1_chk5 i v284), ∀ a, (k1_off124 i v284) a + S1x16.size a ≤ S16x272.size a := fun i v284 k1_hw5 => k1_hw5.2.2.2.2.2.2.2.2.1
theorem k1_off125_inb : ∀ (i : grid1.Coords) (v284 : BitVec 32) (k1_hw5 : k1_chk5 i v284), ∀ a, (k1_off125 i v284) a + S1x16.size a ≤ S16x272.size a := fun i v284 k1_hw5 => k1_hw5.2.2.2.2.2.2.2.2.2.1
theorem k1_off126_inb : ∀ (i : grid1.Coords) (v284 : BitVec 32) (k1_hw5 : k1_chk5 i v284), ∀ a, (k1_off126 i v284) a + S1x16.size a ≤ S16x272.size a := fun i v284 k1_hw5 => k1_hw5.2.2.2.2.2.2.2.2.2.2.1
theorem k1_off127_inb : ∀ (i : grid1.Coords) (v284 : BitVec 32) (k1_hw5 : k1_chk5 i v284), ∀ a, (k1_off127 i v284) a + S1x16.size a ≤ S16x272.size a := fun i v284 k1_hw5 => k1_hw5.2.2.2.2.2.2.2.2.2.2.2.1
theorem k1_off128_inb : ∀ (i : grid1.Coords) (v284 : BitVec 32) (k1_hw5 : k1_chk5 i v284), ∀ a, (k1_off128 i v284) a + S1x16.size a ≤ S16x272.size a := fun i v284 k1_hw5 => k1_hw5.2.2.2.2.2.2.2.2.2.2.2.2.1
theorem k1_off129_inb : ∀ (i : grid1.Coords) (v284 : BitVec 32) (k1_hw5 : k1_chk5 i v284), ∀ a, (k1_off129 i v284) a + S1x16.size a ≤ S16x272.size a := fun i v284 k1_hw5 => k1_hw5.2.2.2.2.2.2.2.2.2.2.2.2.2.1
theorem k1_off130_inb : ∀ (i : grid1.Coords) (v284 : BitVec 32) (k1_hw5 : k1_chk5 i v284), ∀ a, (k1_off130 i v284) a + S1x16.size a ≤ S16x272.size a := fun i v284 k1_hw5 => k1_hw5.2.2.2.2.2.2.2.2.2.2.2.2.2.2.1
theorem k1_off131_inb : ∀ (i : grid1.Coords) (v284 : BitVec 32) (k1_hw5 : k1_chk5 i v284), ∀ a, (k1_off131 i v284) a + S1x16.size a ≤ S16x272.size a := fun i v284 k1_hw5 => k1_hw5.2.2.2.2.2.2.2.2.2.2.2.2.2.2.2.1
theorem k1_off132_inb : ∀ (i : grid1.Coords) (v284 : BitVec 32) (k1_hw5 : k1_chk5 i v284), ∀ a, (k1_off132 i v284) a + S1x16.size a ≤ S16x272.size a := fun i v284 k1_hw5 => k1_hw5.2.2.2.2.2.2.2.2.2.2.2.2.2.2.2.2

def k1_mult14 (v9 : BitVec 32) (v11 : BitVec 32) (k1_t7 : Fin (k1_t7_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c2_i32_77 : BitVec 32 := 2#32
  let v171 : BitVec 32 := Scalar.addi v120 c2_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  v174
def k1_cond3 (v9 : BitVec 32) (v11 : BitVec 32) (k1_t7 : Fin (k1_t7_loop v9 v11).trips) : BitVec 1 :=
  let c2_i32_44 : BitVec 32 := 2#32
  let c0_i32_34 : BitVec 32 := 0#32
  let c_m8_i32 : BitVec 32 := 4294967288#32
  let v12 : BitVec 32 := Scalar.andi v9 c_m8_i32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c2_i32_58 : BitVec 32 := 2#32
  let v141 : BitVec 32 := Scalar.addi v120 c2_i32_58
  let v142 : BitVec 1 := Scalar.cmpi .slt v141 v72
  let v143 : BitVec 32 := Scalar.extui v142
  let c0_i32_59 : BitVec 32 := 0#32
  let v144 : BitVec 1 := Scalar.cmpi .ne v143 c0_i32_59
  v144

def k1_off133 (v9 : BitVec 32) (v11 : BitVec 32) (k1_t7 : Fin (k1_t7_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c2_i32_77 : BitVec 32 := 2#32
  let v171 : BitVec 32 := Scalar.addi v120 c2_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  let c0_i32_81 : BitVec 32 := 0#32
  ![v175.toNat, 0]
def k1_off134 (v9 : BitVec 32) (v11 : BitVec 32) (k1_t7 : Fin (k1_t7_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c2_i32_77 : BitVec 32 := 2#32
  let v171 : BitVec 32 := Scalar.addi v120 c2_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  ![v175.toNat]
def k1_mult15 (v9 : BitVec 32) (v11 : BitVec 32) (k1_t7 : Fin (k1_t7_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c1_i32_60 : BitVec 32 := 1#32
  let v145 : BitVec 32 := Scalar.addi v120 c1_i32_60
  let c128_i32_61 : BitVec 32 := 128#32
  let v146 : BitVec 32 := Scalar.muli v145 c128_i32_61
  let v147 : BitVec 32 := Scalar.addi v12 v146
  let c49872_i32_62 : BitVec 32 := 49872#32
  let v148 : BitVec 32 := Scalar.minsi v147 c49872_i32_62
  v148
def k1_off135 (v9 : BitVec 32) (v11 : BitVec 32) (k1_t7 : Fin (k1_t7_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c1_i32_60 : BitVec 32 := 1#32
  let v145 : BitVec 32 := Scalar.addi v120 c1_i32_60
  let c128_i32_61 : BitVec 32 := 128#32
  let v146 : BitVec 32 := Scalar.muli v145 c128_i32_61
  let v147 : BitVec 32 := Scalar.addi v12 v146
  let c49872_i32_62 : BitVec 32 := 49872#32
  let v148 : BitVec 32 := Scalar.minsi v147 c49872_i32_62
  let v149 : BitVec 32 := v148
  let c0_i32_64 : BitVec 32 := 0#32
  ![v149.toNat, 0]
def k1_off136 (v9 : BitVec 32) (v11 : BitVec 32) (k1_t7 : Fin (k1_t7_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c1_i32_60 : BitVec 32 := 1#32
  let v145 : BitVec 32 := Scalar.addi v120 c1_i32_60
  let c128_i32_61 : BitVec 32 := 128#32
  let v146 : BitVec 32 := Scalar.muli v145 c128_i32_61
  let v147 : BitVec 32 := Scalar.addi v12 v146
  let c49872_i32_62 : BitVec 32 := 49872#32
  let v148 : BitVec 32 := Scalar.minsi v147 c49872_i32_62
  let v149 : BitVec 32 := v148
  ![v149.toNat]
def k1_mult16 (v9 : BitVec 32) (v11 : BitVec 32) (k1_t7 : Fin (k1_t7_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c1_i32_67 : BitVec 32 := 1#32
  let v158 : BitVec 32 := Scalar.addi v120 c1_i32_67
  let c128_i32_68 : BitVec 32 := 128#32
  let v159 : BitVec 32 := Scalar.muli v158 c128_i32_68
  let v160 : BitVec 32 := Scalar.addi v12 v159
  let c49872_i32_69 : BitVec 32 := 49872#32
  let v161 : BitVec 32 := Scalar.minsi v160 c49872_i32_69
  v161
@[reducible] def k1_t10_loop : Scf.Loop 32 :=
  let c0_i32_72 : BitVec 32 := 0#32
  let c8_i32_73 : BitVec 32 := 8#32
  let v166 : BitVec 32 := Scalar.addi c0_i32_72 c8_i32_73
  let c1_i32_74 : BitVec 32 := 1#32
  ⟨c0_i32_72, v166, c1_i32_74⟩
def k1_mult17 (k1_t10 : Fin k1_t10_loop.trips) : BitVec 32 :=
  let c0_i32_72 : BitVec 32 := 0#32
  let c1_i32_74 : BitVec 32 := 1#32
  let arg18 : BitVec 32 := Scf.iv c0_i32_72 c1_i32_74 k1_t10
  let c16_i32_77 : BitVec 32 := 16#32
  let v171 : BitVec 32 := Scalar.muli arg18 c16_i32_77
  v171
def k1_off137 (k1_t10 : Fin k1_t10_loop.trips) : Fin 1 → Nat :=
  let c0_i32_72 : BitVec 32 := 0#32
  let c1_i32_74 : BitVec 32 := 1#32
  let arg18 : BitVec 32 := Scf.iv c0_i32_72 c1_i32_74 k1_t10
  let c16_i32_77 : BitVec 32 := 16#32
  let v171 : BitVec 32 := Scalar.muli arg18 c16_i32_77
  let v172 : BitVec 32 := v171
  let v173 : Index := Scalar.indexCast v172
  ![v173.toNat]
@[reducible] def k1_t11_loop : Scf.Loop 32 :=
  let c0_i32_78 : BitVec 32 := 0#32
  let c16_i32_79 : BitVec 32 := 16#32
  let v176 : BitVec 32 := Scalar.addi c0_i32_78 c16_i32_79
  let c1_i32_80 : BitVec 32 := 1#32
  ⟨c0_i32_78, v176, c1_i32_80⟩
def k1_off138 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v180 : Index := Scalar.indexCast v179
  let c0_83 : Index := 0#32
  ![v180.toNat, 0]
def k1_off139 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v183 : Index := Scalar.indexCast v179
  let c16_84 : Index := 16#32
  ![v183.toNat, 16]
def k1_off140 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v186 : Index := Scalar.indexCast v179
  let c32_85 : Index := 32#32
  ![v186.toNat, 32]
def k1_off141 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v189 : Index := Scalar.indexCast v179
  let c48_86 : Index := 48#32
  ![v189.toNat, 48]
def k1_off142 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v192 : Index := Scalar.indexCast v179
  let c64_87 : Index := 64#32
  ![v192.toNat, 64]
def k1_off143 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v195 : Index := Scalar.indexCast v179
  let c80_88 : Index := 80#32
  ![v195.toNat, 80]
def k1_off144 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v198 : Index := Scalar.indexCast v179
  let c96_89 : Index := 96#32
  ![v198.toNat, 96]
def k1_off145 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v201 : Index := Scalar.indexCast v179
  let c112_90 : Index := 112#32
  ![v201.toNat, 112]
def k1_off146 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v204 : Index := Scalar.indexCast v179
  let c128_91 : Index := 128#32
  ![v204.toNat, 128]
def k1_off147 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v207 : Index := Scalar.indexCast v179
  let c144_92 : Index := 144#32
  ![v207.toNat, 144]
def k1_off148 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v210 : Index := Scalar.indexCast v179
  let c160_93 : Index := 160#32
  ![v210.toNat, 160]
def k1_off149 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v213 : Index := Scalar.indexCast v179
  let c176_94 : Index := 176#32
  ![v213.toNat, 176]
def k1_off150 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v216 : Index := Scalar.indexCast v179
  let c192_95 : Index := 192#32
  ![v216.toNat, 192]
def k1_off151 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v219 : Index := Scalar.indexCast v179
  let c208_96 : Index := 208#32
  ![v219.toNat, 208]
def k1_off152 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v222 : Index := Scalar.indexCast v179
  let c224_97 : Index := 224#32
  ![v222.toNat, 224]
def k1_off153 (k1_t10 : Fin k1_t10_loop.trips) (k1_t11 : Fin k1_t11_loop.trips) : Fin 2 → Nat :=
  let c0_i32_72 : BitVec 32 := 0#32
  let c1_i32_74 : BitVec 32 := 1#32
  let arg18 : BitVec 32 := Scf.iv c0_i32_72 c1_i32_74 k1_t10
  let c16_i32_82 : BitVec 32 := 16#32
  let v178 : BitVec 32 := Scalar.muli arg18 c16_i32_82
  let c0_i32_78 : BitVec 32 := 0#32
  let c1_i32_80 : BitVec 32 := 1#32
  let arg19 : BitVec 32 := Scf.iv c0_i32_78 c1_i32_80 k1_t11
  let v179 : BitVec 32 := Scalar.addi v178 arg19
  let v225 : Index := Scalar.indexCast v179
  let c240_98 : Index := 240#32
  ![v225.toNat, 240]
def k1_off154 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v288 : Index := Scalar.indexCast v287
  let c0_102 : Index := 0#32
  ![v288.toNat, 0]

def k1_off155 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v297 : Index := Scalar.indexCast v287
  let c16_104 : Index := 16#32
  ![v297.toNat, 16]
def k1_off156 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v306 : Index := Scalar.indexCast v287
  let c32_106 : Index := 32#32
  ![v306.toNat, 32]
def k1_off157 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v315 : Index := Scalar.indexCast v287
  let c48_108 : Index := 48#32
  ![v315.toNat, 48]
def k1_off158 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v324 : Index := Scalar.indexCast v287
  let c64_110 : Index := 64#32
  ![v324.toNat, 64]
def k1_off159 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v333 : Index := Scalar.indexCast v287
  let c80_112 : Index := 80#32
  ![v333.toNat, 80]
def k1_off160 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v342 : Index := Scalar.indexCast v287
  let c96_114 : Index := 96#32
  ![v342.toNat, 96]
def k1_off161 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v351 : Index := Scalar.indexCast v287
  let c112_116 : Index := 112#32
  ![v351.toNat, 112]
def k1_off162 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v360 : Index := Scalar.indexCast v287
  let c128_118 : Index := 128#32
  ![v360.toNat, 128]
def k1_off163 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v369 : Index := Scalar.indexCast v287
  let c144_120 : Index := 144#32
  ![v369.toNat, 144]
def k1_off164 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v378 : Index := Scalar.indexCast v287
  let c160_122 : Index := 160#32
  ![v378.toNat, 160]
def k1_off165 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v387 : Index := Scalar.indexCast v287
  let c176_124 : Index := 176#32
  ![v387.toNat, 176]
def k1_off166 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v396 : Index := Scalar.indexCast v287
  let c192_126 : Index := 192#32
  ![v396.toNat, 192]
def k1_off167 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v405 : Index := Scalar.indexCast v287
  let c208_128 : Index := 208#32
  ![v405.toNat, 208]
def k1_off168 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v414 : Index := Scalar.indexCast v287
  let c224_130 : Index := 224#32
  ![v414.toNat, 224]
def k1_off169 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v423 : Index := Scalar.indexCast v287
  let c240_132 : Index := 240#32
  ![v423.toNat, 240]
def k1_off170 (i : grid1.Coords) (v284 : BitVec 32) : Fin 2 → Nat :=
  let c15_i32 : BitVec 32 := 15#32
  let c0_i32_101 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v285 : BitVec 32 := Scalar.subi v284 v2
  let v286 : BitVec 32 := Scalar.maxsi c0_i32_101 v285
  let v287 : BitVec 32 := Scalar.minsi c15_i32 v286
  let v432 : Index := Scalar.indexCast v287
  let c256 : Index := 256#32
  ![v432.toNat, 256]

def k1_chk6 (i : grid1.Coords) (v284 : BitVec 32) : Prop :=
  (∀ a, (k1_off154 i v284) a + S1x16.size a ≤ S16x272.size a) ∧
  (∀ a, (k1_off155 i v284) a + S1x16.size a ≤ S16x272.size a) ∧
  (∀ a, (k1_off156 i v284) a + S1x16.size a ≤ S16x272.size a) ∧
  (∀ a, (k1_off157 i v284) a + S1x16.size a ≤ S16x272.size a) ∧
  (∀ a, (k1_off158 i v284) a + S1x16.size a ≤ S16x272.size a) ∧
  (∀ a, (k1_off159 i v284) a + S1x16.size a ≤ S16x272.size a) ∧
  (∀ a, (k1_off160 i v284) a + S1x16.size a ≤ S16x272.size a) ∧
  (∀ a, (k1_off161 i v284) a + S1x16.size a ≤ S16x272.size a) ∧
  (∀ a, (k1_off162 i v284) a + S1x16.size a ≤ S16x272.size a) ∧
  (∀ a, (k1_off163 i v284) a + S1x16.size a ≤ S16x272.size a) ∧
  (∀ a, (k1_off164 i v284) a + S1x16.size a ≤ S16x272.size a) ∧
  (∀ a, (k1_off165 i v284) a + S1x16.size a ≤ S16x272.size a) ∧
  (∀ a, (k1_off166 i v284) a + S1x16.size a ≤ S16x272.size a) ∧
  (∀ a, (k1_off167 i v284) a + S1x16.size a ≤ S16x272.size a) ∧
  (∀ a, (k1_off168 i v284) a + S1x16.size a ≤ S16x272.size a) ∧
  (∀ a, (k1_off169 i v284) a + S1x16.size a ≤ S16x272.size a) ∧
  (∀ a, (k1_off170 i v284) a + S1x16.size a ≤ S16x272.size a)
theorem k1_off154_inb : ∀ (i : grid1.Coords) (v284 : BitVec 32) (k1_hw6 : k1_chk6 i v284), ∀ a, (k1_off154 i v284) a + S1x16.size a ≤ S16x272.size a := fun i v284 k1_hw6 => k1_hw6.1
theorem k1_off155_inb : ∀ (i : grid1.Coords) (v284 : BitVec 32) (k1_hw6 : k1_chk6 i v284), ∀ a, (k1_off155 i v284) a + S1x16.size a ≤ S16x272.size a := fun i v284 k1_hw6 => k1_hw6.2.1
theorem k1_off156_inb : ∀ (i : grid1.Coords) (v284 : BitVec 32) (k1_hw6 : k1_chk6 i v284), ∀ a, (k1_off156 i v284) a + S1x16.size a ≤ S16x272.size a := fun i v284 k1_hw6 => k1_hw6.2.2.1
theorem k1_off157_inb : ∀ (i : grid1.Coords) (v284 : BitVec 32) (k1_hw6 : k1_chk6 i v284), ∀ a, (k1_off157 i v284) a + S1x16.size a ≤ S16x272.size a := fun i v284 k1_hw6 => k1_hw6.2.2.2.1
theorem k1_off158_inb : ∀ (i : grid1.Coords) (v284 : BitVec 32) (k1_hw6 : k1_chk6 i v284), ∀ a, (k1_off158 i v284) a + S1x16.size a ≤ S16x272.size a := fun i v284 k1_hw6 => k1_hw6.2.2.2.2.1
theorem k1_off159_inb : ∀ (i : grid1.Coords) (v284 : BitVec 32) (k1_hw6 : k1_chk6 i v284), ∀ a, (k1_off159 i v284) a + S1x16.size a ≤ S16x272.size a := fun i v284 k1_hw6 => k1_hw6.2.2.2.2.2.1
theorem k1_off160_inb : ∀ (i : grid1.Coords) (v284 : BitVec 32) (k1_hw6 : k1_chk6 i v284), ∀ a, (k1_off160 i v284) a + S1x16.size a ≤ S16x272.size a := fun i v284 k1_hw6 => k1_hw6.2.2.2.2.2.2.1
theorem k1_off161_inb : ∀ (i : grid1.Coords) (v284 : BitVec 32) (k1_hw6 : k1_chk6 i v284), ∀ a, (k1_off161 i v284) a + S1x16.size a ≤ S16x272.size a := fun i v284 k1_hw6 => k1_hw6.2.2.2.2.2.2.2.1
theorem k1_off162_inb : ∀ (i : grid1.Coords) (v284 : BitVec 32) (k1_hw6 : k1_chk6 i v284), ∀ a, (k1_off162 i v284) a + S1x16.size a ≤ S16x272.size a := fun i v284 k1_hw6 => k1_hw6.2.2.2.2.2.2.2.2.1
theorem k1_off163_inb : ∀ (i : grid1.Coords) (v284 : BitVec 32) (k1_hw6 : k1_chk6 i v284), ∀ a, (k1_off163 i v284) a + S1x16.size a ≤ S16x272.size a := fun i v284 k1_hw6 => k1_hw6.2.2.2.2.2.2.2.2.2.1
theorem k1_off164_inb : ∀ (i : grid1.Coords) (v284 : BitVec 32) (k1_hw6 : k1_chk6 i v284), ∀ a, (k1_off164 i v284) a + S1x16.size a ≤ S16x272.size a := fun i v284 k1_hw6 => k1_hw6.2.2.2.2.2.2.2.2.2.2.1
theorem k1_off165_inb : ∀ (i : grid1.Coords) (v284 : BitVec 32) (k1_hw6 : k1_chk6 i v284), ∀ a, (k1_off165 i v284) a + S1x16.size a ≤ S16x272.size a := fun i v284 k1_hw6 => k1_hw6.2.2.2.2.2.2.2.2.2.2.2.1
theorem k1_off166_inb : ∀ (i : grid1.Coords) (v284 : BitVec 32) (k1_hw6 : k1_chk6 i v284), ∀ a, (k1_off166 i v284) a + S1x16.size a ≤ S16x272.size a := fun i v284 k1_hw6 => k1_hw6.2.2.2.2.2.2.2.2.2.2.2.2.1
theorem k1_off167_inb : ∀ (i : grid1.Coords) (v284 : BitVec 32) (k1_hw6 : k1_chk6 i v284), ∀ a, (k1_off167 i v284) a + S1x16.size a ≤ S16x272.size a := fun i v284 k1_hw6 => k1_hw6.2.2.2.2.2.2.2.2.2.2.2.2.2.1
theorem k1_off168_inb : ∀ (i : grid1.Coords) (v284 : BitVec 32) (k1_hw6 : k1_chk6 i v284), ∀ a, (k1_off168 i v284) a + S1x16.size a ≤ S16x272.size a := fun i v284 k1_hw6 => k1_hw6.2.2.2.2.2.2.2.2.2.2.2.2.2.2.1
theorem k1_off169_inb : ∀ (i : grid1.Coords) (v284 : BitVec 32) (k1_hw6 : k1_chk6 i v284), ∀ a, (k1_off169 i v284) a + S1x16.size a ≤ S16x272.size a := fun i v284 k1_hw6 => k1_hw6.2.2.2.2.2.2.2.2.2.2.2.2.2.2.2.1
theorem k1_off170_inb : ∀ (i : grid1.Coords) (v284 : BitVec 32) (k1_hw6 : k1_chk6 i v284), ∀ a, (k1_off170 i v284) a + S1x16.size a ≤ S16x272.size a := fun i v284 k1_hw6 => k1_hw6.2.2.2.2.2.2.2.2.2.2.2.2.2.2.2.2

def k1_mult18 (v9 : BitVec 32) (v11 : BitVec 32) (k1_t7 : Fin (k1_t7_loop v9 v11).trips) : BitVec 32 :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c3_i32_77 : BitVec 32 := 3#32
  let v171 : BitVec 32 := Scalar.addi v120 c3_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  v174
def k1_cond4 (v9 : BitVec 32) (v11 : BitVec 32) (k1_t7 : Fin (k1_t7_loop v9 v11).trips) : BitVec 1 :=
  let c2_i32_44 : BitVec 32 := 2#32
  let c0_i32_34 : BitVec 32 := 0#32
  let c_m8_i32 : BitVec 32 := 4294967288#32
  let v12 : BitVec 32 := Scalar.andi v9 c_m8_i32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c3_i32 : BitVec 32 := 3#32
  let v167 : BitVec 32 := Scalar.addi v120 c3_i32
  let v168 : BitVec 1 := Scalar.cmpi .slt v167 v72
  let v169 : BitVec 32 := Scalar.extui v168
  let c0_i32_76 : BitVec 32 := 0#32
  let v170 : BitVec 1 := Scalar.cmpi .ne v169 c0_i32_76
  v170

def k1_off171 (v9 : BitVec 32) (v11 : BitVec 32) (k1_t7 : Fin (k1_t7_loop v9 v11).trips) : Fin 2 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c3_i32_77 : BitVec 32 := 3#32
  let v171 : BitVec 32 := Scalar.addi v120 c3_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  let c0_i32_81 : BitVec 32 := 0#32
  ![v175.toNat, 0]
def k1_off172 (v9 : BitVec 32) (v11 : BitVec 32) (k1_t7 : Fin (k1_t7_loop v9 v11).trips) : Fin 1 → Nat :=
  let c_m8_i32 : BitVec 32 := 4294967288#32
  let v12 : BitVec 32 := Scalar.andi v9 c_m8_i32
  let c2_i32_44 : BitVec 32 := 2#32
  let c0_i32_34 : BitVec 32 := 0#32
  let v13 : BitVec 32 := Scalar.subi v11 v12
  let c127_i32 : BitVec 32 := 127#32
  let v14 : BitVec 32 := Scalar.addi v13 c127_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v14 c128_i32
  let c0_i32_7 : BitVec 32 := 0#32
  let v28 : BitVec 1 := Scalar.cmpi .ne v27 c0_i32_7
  let v29 : BitVec 1 := Scalar.andi v26 v28
  let v15 : BitVec 32 := Scalar.divsi v14 c128_i32
  let c1_i32_8 : BitVec 32 := 1#32
  let v30 : BitVec 32 := Scalar.subi v15 c1_i32_8
  let v31 : BitVec 32 := Scalar.select v29 v30 v15
  let c1_i32_13 : BitVec 32 := 1#32
  let v70 : BitVec 32 := Scalar.andi v31 c1_i32_13
  let v71 : BitVec 32 := Scalar.addi v31 v70
  let c2_i32_14 : BitVec 32 := 2#32
  let v72 : BitVec 32 := Scalar.maxsi v71 c2_i32_14
  let c0_i32_16 : BitVec 32 := 0#32
  let v74 : BitVec 1 := Scalar.cmpi .sgt v72 c0_i32_16
  let v75 : BitVec 32 := Scalar.extui v74
  let c0_i32_17 : BitVec 32 := 0#32
  let v76 : BitVec 1 := Scalar.cmpi .slt v72 c0_i32_17
  let v77 : BitVec 32 := Scalar.extui v76
  let v78 : BitVec 32 := Scalar.subi v75 v77
  let c2_i32_15 : BitVec 32 := 2#32
  let c0_i32_18 : BitVec 32 := 0#32
  let v79 : BitVec 1 := Scalar.cmpi .sgt c2_i32_15 c0_i32_18
  let v80 : BitVec 32 := Scalar.extui v79
  let c0_i32_19 : BitVec 32 := 0#32
  let v81 : BitVec 1 := Scalar.cmpi .slt c2_i32_15 c0_i32_19
  let v82 : BitVec 32 := Scalar.extui v81
  let v83 : BitVec 32 := Scalar.subi v80 v82
  let v84 : BitVec 1 := Scalar.cmpi .ne v78 v83
  let v85 : BitVec 32 := Scalar.remsi v72 c2_i32_15
  let c0_i32_20 : BitVec 32 := 0#32
  let v86 : BitVec 1 := Scalar.cmpi .ne v85 c0_i32_20
  let v87 : BitVec 1 := Scalar.andi v84 v86
  let v73 : BitVec 32 := Scalar.divsi v72 c2_i32_15
  let c1_i32_21 : BitVec 32 := 1#32
  let v88 : BitVec 32 := Scalar.subi v73 c1_i32_21
  let v89 : BitVec 32 := Scalar.select v87 v88 v73
  let v112 : BitVec 32 := Scalar.subi v89 c0_i32_34
  let c1_i32_35 : BitVec 32 := 1#32
  let v114 : BitVec 32 := Scalar.divsi v112 c1_i32_35
  let v115 : BitVec 32 := Scalar.muli v114 c1_i32_35
  let v116 : BitVec 32 := Scalar.addi c0_i32_34 v115
  let c1_i32_37 : BitVec 32 := 1#32
  let arg17 : BitVec 32 := Scf.iv v116 c1_i32_37 k1_t7
  let v120 : BitVec 32 := Scalar.muli c2_i32_44 arg17
  let c3_i32_77 : BitVec 32 := 3#32
  let v171 : BitVec 32 := Scalar.addi v120 c3_i32_77
  let c128_i32_78 : BitVec 32 := 128#32
  let v172 : BitVec 32 := Scalar.muli v171 c128_i32_78
  let v173 : BitVec 32 := Scalar.addi v12 v172
  let c49872_i32_79 : BitVec 32 := 49872#32
  let v174 : BitVec 32 := Scalar.minsi v173 c49872_i32_79
  let v175 : BitVec 32 := v174
  ![v175.toNat]

def k1_chk2 (v9 : BitVec 32) (v11 : BitVec 32) : Prop :=
  ((k1_t2_loop v9 v11).OK) ∧
  (∀ k1_t2 : Fin (k1_t2_loop v9 v11).trips, 8 ∣ (k1_mult3 v9 v11 k1_t2).toNat) ∧
  (∀ k1_t2 : Fin (k1_t2_loop v9 v11).trips, ∀ a, (k1_off21 v9 v11 k1_t2) a + S128x256.size a ≤ S50000x256.size a) ∧
  (∀ k1_t2 : Fin (k1_t2_loop v9 v11).trips, ∀ a, (k1_off22 v9 v11 k1_t2) a + S128.size a ≤ S50000.size a) ∧
  (∀ k1_t2 : Fin (k1_t2_loop v9 v11).trips, 8 ∣ (k1_mult4 v9 v11 k1_t2).toNat) ∧
  (∀ k1_t2 : Fin (k1_t2_loop v9 v11).trips, ∀ (k1_h1 : k1_cond1 v9 v11 k1_t2 = 1#1), 8 ∣ (k1_mult6 v9 v11 k1_t2).toNat) ∧
  (∀ k1_t2 : Fin (k1_t2_loop v9 v11).trips, ∀ (k1_h1 : k1_cond1 v9 v11 k1_t2 = 1#1), ∀ a, (k1_off57 v9 v11 k1_t2) a + S128x256.size a ≤ S50000x256.size a) ∧
  (∀ k1_t2 : Fin (k1_t2_loop v9 v11).trips, ∀ (k1_h1 : k1_cond1 v9 v11 k1_t2 = 1#1), ∀ a, (k1_off58 v9 v11 k1_t2) a + S128.size a ≤ S50000.size a) ∧
  (∀ k1_t2 : Fin (k1_t2_loop v9 v11).trips, 8 ∣ (k1_mult7 v9 v11 k1_t2).toNat) ∧
  (∀ k1_t2 : Fin (k1_t2_loop v9 v11).trips, ∀ a, (k1_off59 v9 v11 k1_t2) a + S128x256.size a ≤ S50000x256.size a) ∧
  (∀ k1_t2 : Fin (k1_t2_loop v9 v11).trips, ∀ a, (k1_off60 v9 v11 k1_t2) a + S128.size a ≤ S50000.size a) ∧
  (∀ k1_t2 : Fin (k1_t2_loop v9 v11).trips, 8 ∣ (k1_mult8 v9 v11 k1_t2).toNat) ∧
  (∀ k1_t2 : Fin (k1_t2_loop v9 v11).trips, ∀ (k1_h2 : k1_cond2 v9 v11 k1_t2 = 1#1), 8 ∣ (k1_mult10 v9 v11 k1_t2).toNat) ∧
  (∀ k1_t2 : Fin (k1_t2_loop v9 v11).trips, ∀ (k1_h2 : k1_cond2 v9 v11 k1_t2 = 1#1), ∀ a, (k1_off95 v9 v11 k1_t2) a + S128x256.size a ≤ S50000x256.size a) ∧
  (∀ k1_t2 : Fin (k1_t2_loop v9 v11).trips, ∀ (k1_h2 : k1_cond2 v9 v11 k1_t2 = 1#1), ∀ a, (k1_off96 v9 v11 k1_t2) a + S128.size a ≤ S50000.size a) ∧
  ((k1_t7_loop v9 v11).OK) ∧
  (∀ k1_t7 : Fin (k1_t7_loop v9 v11).trips, 8 ∣ (k1_mult11 v9 v11 k1_t7).toNat) ∧
  (∀ k1_t7 : Fin (k1_t7_loop v9 v11).trips, ∀ a, (k1_off97 v9 v11 k1_t7) a + S128x256.size a ≤ S50000x256.size a) ∧
  (∀ k1_t7 : Fin (k1_t7_loop v9 v11).trips, ∀ a, (k1_off98 v9 v11 k1_t7) a + S128.size a ≤ S50000.size a) ∧
  (∀ k1_t7 : Fin (k1_t7_loop v9 v11).trips, 8 ∣ (k1_mult12 v9 v11 k1_t7).toNat) ∧
  (∀ k1_t7 : Fin (k1_t7_loop v9 v11).trips, ∀ (k1_h3 : k1_cond3 v9 v11 k1_t7 = 1#1), 8 ∣ (k1_mult14 v9 v11 k1_t7).toNat) ∧
  (∀ k1_t7 : Fin (k1_t7_loop v9 v11).trips, ∀ (k1_h3 : k1_cond3 v9 v11 k1_t7 = 1#1), ∀ a, (k1_off133 v9 v11 k1_t7) a + S128x256.size a ≤ S50000x256.size a) ∧
  (∀ k1_t7 : Fin (k1_t7_loop v9 v11).trips, ∀ (k1_h3 : k1_cond3 v9 v11 k1_t7 = 1#1), ∀ a, (k1_off134 v9 v11 k1_t7) a + S128.size a ≤ S50000.size a) ∧
  (∀ k1_t7 : Fin (k1_t7_loop v9 v11).trips, 8 ∣ (k1_mult15 v9 v11 k1_t7).toNat) ∧
  (∀ k1_t7 : Fin (k1_t7_loop v9 v11).trips, ∀ a, (k1_off135 v9 v11 k1_t7) a + S128x256.size a ≤ S50000x256.size a) ∧
  (∀ k1_t7 : Fin (k1_t7_loop v9 v11).trips, ∀ a, (k1_off136 v9 v11 k1_t7) a + S128.size a ≤ S50000.size a) ∧
  (∀ k1_t7 : Fin (k1_t7_loop v9 v11).trips, 8 ∣ (k1_mult16 v9 v11 k1_t7).toNat) ∧
  (∀ k1_t7 : Fin (k1_t7_loop v9 v11).trips, ∀ (k1_h4 : k1_cond4 v9 v11 k1_t7 = 1#1), 8 ∣ (k1_mult18 v9 v11 k1_t7).toNat) ∧
  (∀ k1_t7 : Fin (k1_t7_loop v9 v11).trips, ∀ (k1_h4 : k1_cond4 v9 v11 k1_t7 = 1#1), ∀ a, (k1_off171 v9 v11 k1_t7) a + S128x256.size a ≤ S50000x256.size a) ∧
  (∀ k1_t7 : Fin (k1_t7_loop v9 v11).trips, ∀ (k1_h4 : k1_cond4 v9 v11 k1_t7 = 1#1), ∀ a, (k1_off172 v9 v11 k1_t7) a + S128.size a ≤ S50000.size a)
theorem k1_t2_ok : ∀ (v9 : BitVec 32) (v11 : BitVec 32) (k1_hw2 : k1_chk2 v9 v11), (k1_t2_loop v9 v11).OK := fun v9 v11 k1_hw2 => k1_hw2.1
theorem k1_mult3_dvd : ∀ (v9 : BitVec 32) (v11 : BitVec 32) (k1_hw2 : k1_chk2 v9 v11) (k1_t2 : Fin (k1_t2_loop v9 v11).trips), 8 ∣ (k1_mult3 v9 v11 k1_t2).toNat := fun v9 v11 k1_hw2 k1_t2 => k1_hw2.2.1 k1_t2
theorem k1_off21_inb : ∀ (v9 : BitVec 32) (v11 : BitVec 32) (k1_hw2 : k1_chk2 v9 v11) (k1_t2 : Fin (k1_t2_loop v9 v11).trips), ∀ a, (k1_off21 v9 v11 k1_t2) a + S128x256.size a ≤ S50000x256.size a := fun v9 v11 k1_hw2 k1_t2 => k1_hw2.2.2.1 k1_t2
theorem k1_off22_inb : ∀ (v9 : BitVec 32) (v11 : BitVec 32) (k1_hw2 : k1_chk2 v9 v11) (k1_t2 : Fin (k1_t2_loop v9 v11).trips), ∀ a, (k1_off22 v9 v11 k1_t2) a + S128.size a ≤ S50000.size a := fun v9 v11 k1_hw2 k1_t2 => k1_hw2.2.2.2.1 k1_t2
theorem k1_mult4_dvd : ∀ (v9 : BitVec 32) (v11 : BitVec 32) (k1_hw2 : k1_chk2 v9 v11) (k1_t2 : Fin (k1_t2_loop v9 v11).trips), 8 ∣ (k1_mult4 v9 v11 k1_t2).toNat := fun v9 v11 k1_hw2 k1_t2 => k1_hw2.2.2.2.2.1 k1_t2
theorem k1_mult6_dvd : ∀ (v9 : BitVec 32) (v11 : BitVec 32) (k1_hw2 : k1_chk2 v9 v11) (k1_t2 : Fin (k1_t2_loop v9 v11).trips), ∀ (k1_h1 : k1_cond1 v9 v11 k1_t2 = 1#1), 8 ∣ (k1_mult6 v9 v11 k1_t2).toNat := fun v9 v11 k1_hw2 k1_t2 k1_h1 => k1_hw2.2.2.2.2.2.1 k1_t2 k1_h1
theorem k1_off57_inb : ∀ (v9 : BitVec 32) (v11 : BitVec 32) (k1_hw2 : k1_chk2 v9 v11) (k1_t2 : Fin (k1_t2_loop v9 v11).trips), ∀ (k1_h1 : k1_cond1 v9 v11 k1_t2 = 1#1), ∀ a, (k1_off57 v9 v11 k1_t2) a + S128x256.size a ≤ S50000x256.size a := fun v9 v11 k1_hw2 k1_t2 k1_h1 => k1_hw2.2.2.2.2.2.2.1 k1_t2 k1_h1
theorem k1_off58_inb : ∀ (v9 : BitVec 32) (v11 : BitVec 32) (k1_hw2 : k1_chk2 v9 v11) (k1_t2 : Fin (k1_t2_loop v9 v11).trips), ∀ (k1_h1 : k1_cond1 v9 v11 k1_t2 = 1#1), ∀ a, (k1_off58 v9 v11 k1_t2) a + S128.size a ≤ S50000.size a := fun v9 v11 k1_hw2 k1_t2 k1_h1 => k1_hw2.2.2.2.2.2.2.2.1 k1_t2 k1_h1
theorem k1_mult7_dvd : ∀ (v9 : BitVec 32) (v11 : BitVec 32) (k1_hw2 : k1_chk2 v9 v11) (k1_t2 : Fin (k1_t2_loop v9 v11).trips), 8 ∣ (k1_mult7 v9 v11 k1_t2).toNat := fun v9 v11 k1_hw2 k1_t2 => k1_hw2.2.2.2.2.2.2.2.2.1 k1_t2
theorem k1_off59_inb : ∀ (v9 : BitVec 32) (v11 : BitVec 32) (k1_hw2 : k1_chk2 v9 v11) (k1_t2 : Fin (k1_t2_loop v9 v11).trips), ∀ a, (k1_off59 v9 v11 k1_t2) a + S128x256.size a ≤ S50000x256.size a := fun v9 v11 k1_hw2 k1_t2 => k1_hw2.2.2.2.2.2.2.2.2.2.1 k1_t2
theorem k1_off60_inb : ∀ (v9 : BitVec 32) (v11 : BitVec 32) (k1_hw2 : k1_chk2 v9 v11) (k1_t2 : Fin (k1_t2_loop v9 v11).trips), ∀ a, (k1_off60 v9 v11 k1_t2) a + S128.size a ≤ S50000.size a := fun v9 v11 k1_hw2 k1_t2 => k1_hw2.2.2.2.2.2.2.2.2.2.2.1 k1_t2
theorem k1_mult8_dvd : ∀ (v9 : BitVec 32) (v11 : BitVec 32) (k1_hw2 : k1_chk2 v9 v11) (k1_t2 : Fin (k1_t2_loop v9 v11).trips), 8 ∣ (k1_mult8 v9 v11 k1_t2).toNat := fun v9 v11 k1_hw2 k1_t2 => k1_hw2.2.2.2.2.2.2.2.2.2.2.2.1 k1_t2
theorem k1_mult10_dvd : ∀ (v9 : BitVec 32) (v11 : BitVec 32) (k1_hw2 : k1_chk2 v9 v11) (k1_t2 : Fin (k1_t2_loop v9 v11).trips), ∀ (k1_h2 : k1_cond2 v9 v11 k1_t2 = 1#1), 8 ∣ (k1_mult10 v9 v11 k1_t2).toNat := fun v9 v11 k1_hw2 k1_t2 k1_h2 => k1_hw2.2.2.2.2.2.2.2.2.2.2.2.2.1 k1_t2 k1_h2
theorem k1_off95_inb : ∀ (v9 : BitVec 32) (v11 : BitVec 32) (k1_hw2 : k1_chk2 v9 v11) (k1_t2 : Fin (k1_t2_loop v9 v11).trips), ∀ (k1_h2 : k1_cond2 v9 v11 k1_t2 = 1#1), ∀ a, (k1_off95 v9 v11 k1_t2) a + S128x256.size a ≤ S50000x256.size a := fun v9 v11 k1_hw2 k1_t2 k1_h2 => k1_hw2.2.2.2.2.2.2.2.2.2.2.2.2.2.1 k1_t2 k1_h2
theorem k1_off96_inb : ∀ (v9 : BitVec 32) (v11 : BitVec 32) (k1_hw2 : k1_chk2 v9 v11) (k1_t2 : Fin (k1_t2_loop v9 v11).trips), ∀ (k1_h2 : k1_cond2 v9 v11 k1_t2 = 1#1), ∀ a, (k1_off96 v9 v11 k1_t2) a + S128.size a ≤ S50000.size a := fun v9 v11 k1_hw2 k1_t2 k1_h2 => k1_hw2.2.2.2.2.2.2.2.2.2.2.2.2.2.2.1 k1_t2 k1_h2
theorem k1_t7_ok : ∀ (v9 : BitVec 32) (v11 : BitVec 32) (k1_hw2 : k1_chk2 v9 v11), (k1_t7_loop v9 v11).OK := fun v9 v11 k1_hw2 => k1_hw2.2.2.2.2.2.2.2.2.2.2.2.2.2.2.2.1
theorem k1_mult11_dvd : ∀ (v9 : BitVec 32) (v11 : BitVec 32) (k1_hw2 : k1_chk2 v9 v11) (k1_t7 : Fin (k1_t7_loop v9 v11).trips), 8 ∣ (k1_mult11 v9 v11 k1_t7).toNat := fun v9 v11 k1_hw2 k1_t7 => k1_hw2.2.2.2.2.2.2.2.2.2.2.2.2.2.2.2.2.1 k1_t7
theorem k1_off97_inb : ∀ (v9 : BitVec 32) (v11 : BitVec 32) (k1_hw2 : k1_chk2 v9 v11) (k1_t7 : Fin (k1_t7_loop v9 v11).trips), ∀ a, (k1_off97 v9 v11 k1_t7) a + S128x256.size a ≤ S50000x256.size a := fun v9 v11 k1_hw2 k1_t7 => k1_hw2.2.2.2.2.2.2.2.2.2.2.2.2.2.2.2.2.2.1 k1_t7
theorem k1_off98_inb : ∀ (v9 : BitVec 32) (v11 : BitVec 32) (k1_hw2 : k1_chk2 v9 v11) (k1_t7 : Fin (k1_t7_loop v9 v11).trips), ∀ a, (k1_off98 v9 v11 k1_t7) a + S128.size a ≤ S50000.size a := fun v9 v11 k1_hw2 k1_t7 => k1_hw2.2.2.2.2.2.2.2.2.2.2.2.2.2.2.2.2.2.2.1 k1_t7
theorem k1_mult12_dvd : ∀ (v9 : BitVec 32) (v11 : BitVec 32) (k1_hw2 : k1_chk2 v9 v11) (k1_t7 : Fin (k1_t7_loop v9 v11).trips), 8 ∣ (k1_mult12 v9 v11 k1_t7).toNat := fun v9 v11 k1_hw2 k1_t7 => k1_hw2.2.2.2.2.2.2.2.2.2.2.2.2.2.2.2.2.2.2.2.1 k1_t7
theorem k1_mult14_dvd : ∀ (v9 : BitVec 32) (v11 : BitVec 32) (k1_hw2 : k1_chk2 v9 v11) (k1_t7 : Fin (k1_t7_loop v9 v11).trips), ∀ (k1_h3 : k1_cond3 v9 v11 k1_t7 = 1#1), 8 ∣ (k1_mult14 v9 v11 k1_t7).toNat := fun v9 v11 k1_hw2 k1_t7 k1_h3 => k1_hw2.2.2.2.2.2.2.2.2.2.2.2.2.2.2.2.2.2.2.2.2.1 k1_t7 k1_h3
theorem k1_off133_inb : ∀ (v9 : BitVec 32) (v11 : BitVec 32) (k1_hw2 : k1_chk2 v9 v11) (k1_t7 : Fin (k1_t7_loop v9 v11).trips), ∀ (k1_h3 : k1_cond3 v9 v11 k1_t7 = 1#1), ∀ a, (k1_off133 v9 v11 k1_t7) a + S128x256.size a ≤ S50000x256.size a := fun v9 v11 k1_hw2 k1_t7 k1_h3 => k1_hw2.2.2.2.2.2.2.2.2.2.2.2.2.2.2.2.2.2.2.2.2.2.1 k1_t7 k1_h3
theorem k1_off134_inb : ∀ (v9 : BitVec 32) (v11 : BitVec 32) (k1_hw2 : k1_chk2 v9 v11) (k1_t7 : Fin (k1_t7_loop v9 v11).trips), ∀ (k1_h3 : k1_cond3 v9 v11 k1_t7 = 1#1), ∀ a, (k1_off134 v9 v11 k1_t7) a + S128.size a ≤ S50000.size a := fun v9 v11 k1_hw2 k1_t7 k1_h3 => k1_hw2.2.2.2.2.2.2.2.2.2.2.2.2.2.2.2.2.2.2.2.2.2.2.1 k1_t7 k1_h3
theorem k1_mult15_dvd : ∀ (v9 : BitVec 32) (v11 : BitVec 32) (k1_hw2 : k1_chk2 v9 v11) (k1_t7 : Fin (k1_t7_loop v9 v11).trips), 8 ∣ (k1_mult15 v9 v11 k1_t7).toNat := fun v9 v11 k1_hw2 k1_t7 => k1_hw2.2.2.2.2.2.2.2.2.2.2.2.2.2.2.2.2.2.2.2.2.2.2.2.1 k1_t7
theorem k1_off135_inb : ∀ (v9 : BitVec 32) (v11 : BitVec 32) (k1_hw2 : k1_chk2 v9 v11) (k1_t7 : Fin (k1_t7_loop v9 v11).trips), ∀ a, (k1_off135 v9 v11 k1_t7) a + S128x256.size a ≤ S50000x256.size a := fun v9 v11 k1_hw2 k1_t7 => k1_hw2.2.2.2.2.2.2.2.2.2.2.2.2.2.2.2.2.2.2.2.2.2.2.2.2.1 k1_t7
theorem k1_off136_inb : ∀ (v9 : BitVec 32) (v11 : BitVec 32) (k1_hw2 : k1_chk2 v9 v11) (k1_t7 : Fin (k1_t7_loop v9 v11).trips), ∀ a, (k1_off136 v9 v11 k1_t7) a + S128.size a ≤ S50000.size a := fun v9 v11 k1_hw2 k1_t7 => k1_hw2.2.2.2.2.2.2.2.2.2.2.2.2.2.2.2.2.2.2.2.2.2.2.2.2.2.1 k1_t7
theorem k1_mult16_dvd : ∀ (v9 : BitVec 32) (v11 : BitVec 32) (k1_hw2 : k1_chk2 v9 v11) (k1_t7 : Fin (k1_t7_loop v9 v11).trips), 8 ∣ (k1_mult16 v9 v11 k1_t7).toNat := fun v9 v11 k1_hw2 k1_t7 => k1_hw2.2.2.2.2.2.2.2.2.2.2.2.2.2.2.2.2.2.2.2.2.2.2.2.2.2.2.1 k1_t7
theorem k1_mult18_dvd : ∀ (v9 : BitVec 32) (v11 : BitVec 32) (k1_hw2 : k1_chk2 v9 v11) (k1_t7 : Fin (k1_t7_loop v9 v11).trips), ∀ (k1_h4 : k1_cond4 v9 v11 k1_t7 = 1#1), 8 ∣ (k1_mult18 v9 v11 k1_t7).toNat := fun v9 v11 k1_hw2 k1_t7 k1_h4 => k1_hw2.2.2.2.2.2.2.2.2.2.2.2.2.2.2.2.2.2.2.2.2.2.2.2.2.2.2.2.1 k1_t7 k1_h4
theorem k1_off171_inb : ∀ (v9 : BitVec 32) (v11 : BitVec 32) (k1_hw2 : k1_chk2 v9 v11) (k1_t7 : Fin (k1_t7_loop v9 v11).trips), ∀ (k1_h4 : k1_cond4 v9 v11 k1_t7 = 1#1), ∀ a, (k1_off171 v9 v11 k1_t7) a + S128x256.size a ≤ S50000x256.size a := fun v9 v11 k1_hw2 k1_t7 k1_h4 => k1_hw2.2.2.2.2.2.2.2.2.2.2.2.2.2.2.2.2.2.2.2.2.2.2.2.2.2.2.2.2.1 k1_t7 k1_h4
theorem k1_off172_inb : ∀ (v9 : BitVec 32) (v11 : BitVec 32) (k1_hw2 : k1_chk2 v9 v11) (k1_t7 : Fin (k1_t7_loop v9 v11).trips), ∀ (k1_h4 : k1_cond4 v9 v11 k1_t7 = 1#1), ∀ a, (k1_off172 v9 v11 k1_t7) a + S128.size a ≤ S50000.size a := fun v9 v11 k1_hw2 k1_t7 k1_h4 => k1_hw2.2.2.2.2.2.2.2.2.2.2.2.2.2.2.2.2.2.2.2.2.2.2.2.2.2.2.2.2.2 k1_t7 k1_h4

@[reducible] def k1_t12_loop : Scf.Loop 32 :=
  let c0_i32_39 : BitVec 32 := 0#32
  let c16_i32_40 : BitVec 32 := 16#32
  let v117 : BitVec 32 := Scalar.addi c0_i32_39 c16_i32_40
  let c1_i32_41 : BitVec 32 := 1#32
  ⟨c0_i32_39, v117, c1_i32_41⟩
def k1_off173 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v120 : Index := Scalar.indexCast arg17
  let c256 : Index := 256#32
  ![v120.toNat, 256]
def k1_off174 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v128 : Index := Scalar.indexCast arg17
  let c0_45 : Index := 0#32
  ![v128.toNat, 0]
def k1_off175 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v132 : Index := Scalar.indexCast arg17
  let c0_46 : Index := 0#32
  ![v132.toNat, 0]
def k1_off176 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v136 : Index := Scalar.indexCast arg17
  let c16_47 : Index := 16#32
  ![v136.toNat, 16]
def k1_off177 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v140 : Index := Scalar.indexCast arg17
  let c16_48 : Index := 16#32
  ![v140.toNat, 16]
def k1_off178 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v144 : Index := Scalar.indexCast arg17
  let c32_49 : Index := 32#32
  ![v144.toNat, 32]
def k1_off179 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v148 : Index := Scalar.indexCast arg17
  let c32_50 : Index := 32#32
  ![v148.toNat, 32]
def k1_off180 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v152 : Index := Scalar.indexCast arg17
  let c48_51 : Index := 48#32
  ![v152.toNat, 48]
def k1_off181 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v156 : Index := Scalar.indexCast arg17
  let c48_52 : Index := 48#32
  ![v156.toNat, 48]
def k1_off182 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v160 : Index := Scalar.indexCast arg17
  let c64_53 : Index := 64#32
  ![v160.toNat, 64]
def k1_off183 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v164 : Index := Scalar.indexCast arg17
  let c64_54 : Index := 64#32
  ![v164.toNat, 64]
def k1_off184 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v168 : Index := Scalar.indexCast arg17
  let c80_55 : Index := 80#32
  ![v168.toNat, 80]
def k1_off185 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v172 : Index := Scalar.indexCast arg17
  let c80_56 : Index := 80#32
  ![v172.toNat, 80]
def k1_off186 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v176 : Index := Scalar.indexCast arg17
  let c96_57 : Index := 96#32
  ![v176.toNat, 96]
def k1_off187 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v180 : Index := Scalar.indexCast arg17
  let c96_58 : Index := 96#32
  ![v180.toNat, 96]
def k1_off188 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v184 : Index := Scalar.indexCast arg17
  let c112_59 : Index := 112#32
  ![v184.toNat, 112]
def k1_off189 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v188 : Index := Scalar.indexCast arg17
  let c112_60 : Index := 112#32
  ![v188.toNat, 112]
def k1_off190 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v192 : Index := Scalar.indexCast arg17
  let c128_61 : Index := 128#32
  ![v192.toNat, 128]
def k1_off191 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v196 : Index := Scalar.indexCast arg17
  let c128_62 : Index := 128#32
  ![v196.toNat, 128]
def k1_off192 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v200 : Index := Scalar.indexCast arg17
  let c144_63 : Index := 144#32
  ![v200.toNat, 144]
def k1_off193 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v204 : Index := Scalar.indexCast arg17
  let c144_64 : Index := 144#32
  ![v204.toNat, 144]
def k1_off194 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v208 : Index := Scalar.indexCast arg17
  let c160_65 : Index := 160#32
  ![v208.toNat, 160]
def k1_off195 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v212 : Index := Scalar.indexCast arg17
  let c160_66 : Index := 160#32
  ![v212.toNat, 160]
def k1_off196 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v216 : Index := Scalar.indexCast arg17
  let c176_67 : Index := 176#32
  ![v216.toNat, 176]
def k1_off197 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v220 : Index := Scalar.indexCast arg17
  let c176_68 : Index := 176#32
  ![v220.toNat, 176]
def k1_off198 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v224 : Index := Scalar.indexCast arg17
  let c192_69 : Index := 192#32
  ![v224.toNat, 192]
def k1_off199 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v228 : Index := Scalar.indexCast arg17
  let c192_70 : Index := 192#32
  ![v228.toNat, 192]
def k1_off200 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v232 : Index := Scalar.indexCast arg17
  let c208_71 : Index := 208#32
  ![v232.toNat, 208]
def k1_off201 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v236 : Index := Scalar.indexCast arg17
  let c208_72 : Index := 208#32
  ![v236.toNat, 208]
def k1_off202 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v240 : Index := Scalar.indexCast arg17
  let c224_73 : Index := 224#32
  ![v240.toNat, 224]
def k1_off203 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v244 : Index := Scalar.indexCast arg17
  let c224_74 : Index := 224#32
  ![v244.toNat, 224]
def k1_off204 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v248 : Index := Scalar.indexCast arg17
  let c240_75 : Index := 240#32
  ![v248.toNat, 240]
def k1_off205 (k1_t12 : Fin k1_t12_loop.trips) : Fin 2 → Nat :=
  let c0_i32_39 : BitVec 32 := 0#32
  let c1_i32_41 : BitVec 32 := 1#32
  let arg17 : BitVec 32 := Scf.iv c0_i32_39 c1_i32_41 k1_t12
  let v252 : Index := Scalar.indexCast arg17
  let c240_76 : Index := 240#32
  ![v252.toNat, 240]
def k1_mult19 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_43 : BitVec 32 := 16#32
  let v118 : BitVec 32 := Scalar.muli v1 c16_i32_43
  v118
def k1_off206 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_43 : BitVec 32 := 16#32
  let v118 : BitVec 32 := Scalar.muli v1 c16_i32_43
  let v119 : BitVec 32 := v118
  let c0_i32_44_r2 : BitVec 32 := 0#32
  ![v119.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S50000x256 : Shape := ⟨2, ![50000, 256]⟩
abbrev S50000 : Shape := ⟨1, ![50000]⟩
abbrev S256 : Shape := ⟨1, ![256]⟩
abbrev S1x256 : Shape := ⟨2, ![1, 256]⟩
abbrev S_ : Shape := ⟨0, ![]⟩
abbrev S50000x1 : Shape := ⟨2, ![50000, 1]⟩
abbrev S512 : Shape := ⟨1, ![512]⟩
abbrev S1x512 : Shape := ⟨2, ![1, 512]⟩
abbrev S50000x512 : Shape := ⟨2, ![50000, 512]⟩
abbrev S512x256 : Shape := ⟨2, ![512, 256]⟩

abbrev nBuf : Space → Nat
  | .hbm => 80
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256, .f32⟩
  | .hbm, ⟨3, _⟩ => ⟨S1x256, .f32⟩
  | .hbm, ⟨4, _⟩ => ⟨S50000x256, .f32⟩
  | .hbm, ⟨5, _⟩ => ⟨S50000x256, .f32⟩
  | .hbm, ⟨6, _⟩ => ⟨S_, .f32⟩
  | .hbm, ⟨7, _⟩ => ⟨S50000, .f32⟩
  | .hbm, ⟨8, _⟩ => ⟨S50000x1, .i32⟩
  | .hbm, ⟨9, _⟩ => ⟨S512, .i32⟩
  | .hbm, ⟨10, _⟩ => ⟨S1x512, .i32⟩
  | .hbm, ⟨11, _⟩ => ⟨S50000x512, .i32⟩
  | .hbm, ⟨12, _⟩ => ⟨S50000x512, .i32⟩
  | .hbm, ⟨13, _⟩ => ⟨S50000x512, .i1⟩
  | .hbm, ⟨14, _⟩ => ⟨S50000x1, .f32⟩
  | .hbm, ⟨15, _⟩ => ⟨S_, .f32⟩
  | .hbm, ⟨16, _⟩ => ⟨S_, .f32⟩
  | .hbm, ⟨17, _⟩ => ⟨S50000x512, .f32⟩
  | .hbm, ⟨18, _⟩ => ⟨S50000x512, .f32⟩
  | .hbm, ⟨19, _⟩ => ⟨S50000x512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .i1⟩
  | .hbm, ⟨25, _⟩ => ⟨S_, .f32⟩
  | .hbm, ⟨26, _⟩ => ⟨S512, .f32⟩
  | .hbm, ⟨27, _⟩ => ⟨S512, .i1⟩
  | .hbm, ⟨28, _⟩ => ⟨S512, .i1⟩
  | .hbm, ⟨29, _⟩ => ⟨S_, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S_, .i32⟩
  | .hbm, ⟨34, _⟩ => ⟨S50000, .i32⟩
  | .hbm, ⟨35, _⟩ => ⟨S50000, .i1⟩
  | .hbm, ⟨36, _⟩ => ⟨S_, .i32⟩
  | .hbm, ⟨37, _⟩ => ⟨S50000, .i32⟩
  | .hbm, ⟨38, _⟩ => ⟨S50000, .i32⟩
  | .hbm, ⟨39, _⟩ => ⟨S50000, .i32⟩
  | .hbm, ⟨40, _⟩ => ⟨S50000x1, .i32⟩
  | .hbm, ⟨41, _⟩ => ⟨S50000, .f32⟩
  | .hbm, ⟨42, _⟩ => ⟨S50000, .f32⟩
  | .hbm, ⟨43, _⟩ => ⟨S50000, .f32⟩
  | .hbm, ⟨44, _⟩ => ⟨S_, .f32⟩
  | .hbm, ⟨45, _⟩ => ⟨S512, .f32⟩
  | .hbm, ⟨46, _⟩ => ⟨S50000x1, .i32⟩
  | .hbm, ⟨47, _⟩ => ⟨S512, .f32⟩
  | .hbm, ⟨48, _⟩ => ⟨S_, .i32⟩
  | .hbm, ⟨49, _⟩ => ⟨S50000, .i32⟩
  | .hbm, ⟨50, _⟩ => ⟨S50000, .i1⟩
  | .hbm, ⟨51, _⟩ => ⟨S_, .i32⟩
  | .hbm, ⟨52, _⟩ => ⟨S50000, .i32⟩
  | .hbm, ⟨53, _⟩ => ⟨S50000, .i32⟩
  | .hbm, ⟨54, _⟩ => ⟨S50000, .i32⟩
  | .hbm, ⟨55, _⟩ => ⟨S50000x1, .i32⟩
  | .hbm, ⟨56, _⟩ => ⟨S50000, .f32⟩
  | .hbm, ⟨57, _⟩ => ⟨S512, .f32⟩
  | .hbm, ⟨58, _⟩ => ⟨S512, .f32⟩
  | .hbm, ⟨59, _⟩ => ⟨S_, .i32⟩
  | .hbm, ⟨60, _⟩ => ⟨S50000, .i32⟩
  | .hbm, ⟨61, _⟩ => ⟨S50000, .i1⟩
  | .hbm, ⟨62, _⟩ => ⟨S_, .i32⟩
  | .hbm, ⟨63, _⟩ => ⟨S50000, .i32⟩
  | .hbm, ⟨64, _⟩ => ⟨S50000, .i32⟩
  | .hbm, ⟨65, _⟩ => ⟨S50000, .i32⟩
  | .hbm, ⟨66, _⟩ => ⟨S50000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S512x256, .f32⟩
  | .hbm, ⟨78, _⟩ => ⟨S50000x1, .i32⟩
  | .hbm, ⟨79, _⟩ => ⟨S512x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proof.Base.lean ====
/-
  The names the kernel's proof shares: the program as the SparseCore launch theorem sees it, the resource algebra, the
  arrays and a tile's buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the pipeline's rounds, the transfers' counters -/

abbrev UH : Type := URounds (GSem nD τ sig) ℕ
abbrev UP : Type := URounds (GSem nD τ sig) Unit
abbrev UU : Type := UH × (UP × Counters)

abbrev MM (F : FTy → Type) := MT nD τ sig (HIx 1) (Elt F) ℕ UU ℕ

/-! ## The arrays, a tile's memrefs -/

abbrev xLoc (d : Dev nD) : Loc nD τ sig := (SparseCore.T d).loc main_arg0
abbrev bLoc (d : Dev nD) : Loc nD τ sig := (SparseCore.T d).loc main_arg1
abbrev qLoc (d : Dev nD) : Loc nD τ sig := (SparseCore.T d).loc main_arg2
abbrev rLoc (d : Dev nD) : Loc nD τ sig := (SparseCore.T d).loc main_v1
abbrev oLoc (d : Dev nD) : Loc nD τ sig := (SparseCore.T d).loc main_v2

abbrev xV : Memref sig .scVector .hbm S50000x256 .f32 := Memref.whole main_arg0_scv
abbrev bV : Memref sig .scVector .hbm S50000 .i32 := Memref.whole main_arg1_scv
abbrev qV : Memref sig .scVector .hbm S256 .f32 := Memref.whole main_arg2_scv
abbrev rV : Memref sig .scVector .hbm S32x16 .i32 := Memref.whole main_v1_scv
abbrev oV : Memref sig .scVector .hbm S512x256 .f32 := Memref.whole main_v2_scv
abbrev xA : Memref sig .scVector .vmem S128x256 .f32 := Memref.whole cc1_scratch0
abbrev sA : Memref sig .scVector .vmem S128 .i32 := Memref.whole cc1_scratch1
abbrev xB : Memref sig .scVector .vmem S128x256 .f32 := Memref.whole cc1_scratch2
abbrev sB : Memref sig .scVector .vmem S128 .i32 := Memref.whole cc1_scratch3
abbrev qS : Memref sig .scVector .vmem S256 .f32 := Memref.whole cc1_scratch4
abbrev rS : Memref sig .scVector .vmem S32x16 .i32 := Memref.whole cc1_scratch5
abbrev gS : Memref sig .scVector .vmem S16x272 .f32 := Memref.whole cc1_scratch6
abbrev oS : Memref sig .scVector .vmem S16x256 .f32 := Memref.whole cc1_scratch7

/-! ## A tile's coordinates -/

abbrev cV (i : grid1.Coords) : Fin τ.nSC := (i 0).castLE hcore1
abbrev jV (i : grid1.Coords) : Fin τ.nSub := (i 1).castLE hsub1
/-- The tile's thread. -/
abbrev thr (d : Dev nD) (i : grid1.Coords) : Thread nD τ := V d (cV i) (jV i)

end Cert.Proof

end
-- ==== Proof.Vals.lean ====
/-
  What the kernel's vector program computes, over any floats: the score of a row, the weight a row gets, the step one row
  takes on the accumulators, the accumulators after the rows of a chunk.
-/
module

public import proofs.«01_k».proof.Proof.Base
public import Idealize.ShloMosaic.Lib.Writes
public import Idealize.ShloMosaic.Lib.Pointwise.SelectCore

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Indices -/

/-- Lane `j` of a register. -/
def lane (j : Fin 16) : S16.Idx | 0 => j
/-- Word `k` of a group of 256 columns by 16: column `16 k + j`. -/
def col (ρ : Fin 128) (k : Fin 16) (j : S16.Idx) : S128x256.Idx
  | 0 => ρ
  | 1 => ⟨16 * k.val + (j 0).val, by have := (j 0).isLt; have := k.isLt; show _ < 256; change (j 0).val < 16 at *; omega⟩

abbrev GB (F : FTy → Type) := S16x272.Idx → F .f32
abbrev XB (F : FTy → Type) := S128x256.Idx → F .f32
abbrev SB := S128.Idx → BitVec 32

/-- Columns `16 k … 16 k + 15` of row `ρ` of a buffer. -/
def xrow (fx : XB F) (ρ : Fin 128) (k : Fin 16) : FVec F S16 .f32 := fun j => fx (col ρ k j)

/-! ## The score, the weight -/

/-- A register added to itself rotated by 8, then by 4, by 2, by 1: every lane the sum of all. -/
def lanesum (v258 : FVec F S16 .f32) : FVec F S16 .f32 :=
  have v259 : FVec F S8 .f32 := extractStridedSlice S8 ![8] v258 slices_S16_o8_S8
  have v260 : FVec F S8 .f32 := extractStridedSlice S8 ![0] v258 slices_S16_o0_S8
  have v261 : FVec F S16 .f32 := concatenate S16 0 [⟨S8, v259⟩, ⟨S8, v260⟩] concatenates_S8_S8_S16_d0
  have v262 : FVec F S16 .f32 := addf v258 v261
  have v263 : FVec F S12 .f32 := extractStridedSlice S12 ![4] v262 slices_S16_o4_S12
  have v264 : FVec F S4 .f32 := extractStridedSlice S4 ![0] v262 slices_S16_o0_S4
  have v265 : FVec F S16 .f32 := concatenate S16 0 [⟨S12, v263⟩, ⟨S4, v264⟩] concatenates_S12_S4_S16_d0
  have v266 : FVec F S16 .f32 := addf v262 v265
  have v267 : FVec F S14 .f32 := extractStridedSlice S14 ![2] v266 slices_S16_o2_S14
  have v268 : FVec F S2 .f32 := extractStridedSlice S2 ![0] v266 slices_S16_o0_S2
  have v269 : FVec F S16 .f32 := concatenate S16 0 [⟨S14, v267⟩, ⟨S2, v268⟩] concatenates_S14_S2_S16_d0
  have v270 : FVec F S16 .f32 := addf v266 v269
  have v271 : FVec F S15 .f32 := extractStridedSlice S15 ![1] v270 slices_S16_o1_S15
  have v272 : FVec F S1 .f32 := extractStridedSlice S1 ![0] v270 slices_S16_o0_S1
  have v273 : FVec F S16 .f32 := concatenate S16 0 [⟨S15, v271⟩, ⟨S1, v272⟩] concatenates_S15_S1_S16_d0
  addf v270 v273

/-- A row against the query, lane by lane, in four running sums. -/
def partials (r q : Fin 16 → FVec F S16 .f32) : FVec F S16 .f32 :=
  addf (addf (addf (addf (addf (mulf (r 0) (q 0)) (mulf (r 4) (q 4))) (mulf (r 8) (q 8))) (mulf (r 12) (q 12)))
      (addf (addf (addf (mulf (r 1) (q 1)) (mulf (r 5) (q 5))) (mulf (r 9) (q 9))) (mulf (r 13) (q 13))))
    (addf (addf (addf (addf (mulf (r 2) (q 2)) (mulf (r 6) (q 6))) (mulf (r 10) (q 10))) (mulf (r 14) (q 14)))
      (addf (addf (addf (mulf (r 3) (q 3)) (mulf (r 7) (q 7))) (mulf (r 11) (q 11))) (mulf (r 15) (q 15))))

/-- The score of a row, the same in every lane. -/
def score (r q : Fin 16 → FVec F S16 .f32) : FVec F S16 .f32 := lanesum (partials r q)

/-- What a row weighs: the exponential of its score, times one if the row counts and zero if not. -/
def weight (s : FVec F S16 .f32) (valid : BitVec 1) : FVec F S16 .f32 :=
  mulf (exp s) (broadcast S16 (Scalar.select valid (Scalar.ofBits .f32 0x3F800000#32) (Scalar.ofBits .f32 0x00000000#32)))

/-- Whether row `r` of the array is in `[lo, hi)`, as the program asks it. -/
def inRange (cs lo hi : BitVec 32) (ρ : ℕ) : BitVec 1 :=
  Scalar.andi (Scalar.cmpi .sge (Scalar.addi cs (BitVec.ofNat 32 ρ)) lo) (Scalar.cmpi .slt (Scalar.addi cs (BitVec.ofNat 32 ρ)) hi)

/-! ## The step of a row -/

/-- What a row adds in its segment's accumulators: the weighted row in columns 0 to 255, the weight in the seventeenth register. -/
def contrib (r : Fin 16 → FVec F S16 .f32) (w e0 : FVec F S16 .f32) (k : ℕ) : FVec F S16 .f32 :=
  if h : k < 16 then mulf (r ⟨k, h⟩) w else mulf w e0

theorem contrib_reg (r : Fin 16 → FVec F S16 .f32) (w e0 : FVec F S16 .f32) (k : Fin 16) : contrib r w e0 k.val = mulf (r k) w := dif_pos k.isLt

theorem contrib_last (r : Fin 16 → FVec F S16 .f32) (w e0 : FVec F S16 .f32) : contrib r w e0 16 = mulf w e0 := dif_neg (by decide)

/-- The lane of a column. -/
def laneOf (c : ℕ) : S16.Idx | 0 => ⟨c % 16, Nat.mod_lt _ (by decide)⟩

/-- The first `n` registers of accumulator row `row` taken forward. -/
def rowPart (row n : ℕ) (c : ℕ → FVec F S16 .f32) (g : GB F) : GB F := fun y =>
  if (y 0).val = row ∧ (y 1).val < 16 * n then FloatOps.addf (g y) (c ((y 1).val / 16) (laneOf (y 1).val)) else g y

theorem rowPart_zero (row : ℕ) (c : ℕ → FVec F S16 .f32) (g : GB F) : rowPart row 0 c g = g := by
  funext y; unfold rowPart; rw [if_neg (by omega)]

/-- The step one row takes. -/
def rowStep (row : ℕ) (r : Fin 16 → FVec F S16 .f32) (w e0 : FVec F S16 .f32) (g : GB F) : GB F := rowPart row 17 (contrib r w e0) g

/-- Lane `j` of a one-row block. -/
def laneRow (j : Fin 16) : S1x16.Idx
  | 0 => ⟨0, by decide⟩
  | 1 => j

theorem cast_1x16 {α : Type} (v : S1x16.Idx → α) (h : S1x16.ShapeCasts S16) (j : S16.Idx) :
    shapeCast S16 v h j = v (laneRow (j 0)) := by
  unfold shapeCast; congr 1
  have : ∀ j : S16.Idx, Shape.reshapeEquiv shapeCasts_S1x16_S16 j = laneRow (j 0) := by decide +kernel
  exact this j

theorem cast_16 {α : Type} (v : S16.Idx → α) (h : S16.ShapeCasts S1x16) (j : Fin 16) :
    shapeCast S1x16 v h (laneRow j) = v (lane j) := by
  unfold shapeCast; congr 1
  have : ∀ j : Fin 16, Shape.reshapeEquiv shapeCasts_S16_S1x16 (laneRow j) = lane j := by decide +kernel
  exact this j

theorem cast_self {α : Type} (v : S16.Idx → α) (h : S16.ShapeCasts S16) (j : S16.Idx) : shapeCast S16 v h j = v j := by
  unfold shapeCast; congr 1
  have : ∀ j : S16.Idx, Shape.reshapeEquiv shapeCasts_S16_S16 j = j := by decide +kernel
  exact this j

/-- One register of the row: the store lists a piece, and the contents are the row's part taken one register further. -/
theorem rmw {g : GB F} {L : List (View.Piece (Elt F) S16x272 .f32)} {row k : ℕ} {c : ℕ → FVec F S16 .f32}
    (hL : gS.view.writes (Elt F) g L = rowPart row k c g) (off : Fin 2 → ℕ) (h : ∀ a, off a + S1x16.size a ≤ S16x272.size a)
    (h0 : off 0 = row) (h1 : off 1 = 16 * k) (pay : S1x16.Idx → F .f32) (w : FVec F S16 .f32)
    (hp : pay = shapeCast S1x16 (addf (shapeCast S16 (gS.view.readAt (Elt F) (Rect.unit (s := S16x272) off S1x16.size h).toLoadRect
      (gS.view.writes (Elt F) g L)) shapeCasts_S1x16_S16) w) shapeCasts_S16_S1x16) (hw : w = c k) :
    gS.view.writes (Elt F) g (⟨Rect.unit (s := S16x272) off ![1, 16] h, pay⟩ :: L) = rowPart row (k + 1) c g := by
  funext y
  have hy0 := (y 0).isLt
  have hy1 := (y 1).isLt
  change gS.view.read (Elt F) (gS.view.writes (Elt F) g (⟨Rect.unit (s := S16x272) off ![1, 16] h, pay⟩ :: L)) y = _
  by_cases hy : (y 0).val = row ∧ 16 * k ≤ (y 1).val ∧ (y 1).val < 16 * (k + 1)
  · obtain ⟨hr, hlo, hhi⟩ := hy
    have hx : ∀ a, (y a).val = off a + 1 * (laneRow ⟨(y 1).val - 16 * k, by omega⟩ a).val := by
      intro a
      match a with
      | 0 => show (y 0).val = off 0 + 1 * 0; omega
      | 1 => show (y 1).val = off 1 + 1 * ((y 1).val - 16 * k); omega
    rw [View.read_writes_cons_hit_of_coords gS.view g (Rect.unit (s := S16x272) off ![1, 16] h) pay L
      (laneRow ⟨(y 1).val - 16 * k, by omega⟩) y hx, hp, cast_16, addf, cast_1x16, hw, hL]
    unfold rowPart
    rw [if_pos ⟨hr, hhi⟩]
    have e1 : (y 1).val / 16 = k := by omega
    have e2 : (Rect.unit (s := S16x272) off S1x16.size h).toLoadRect.idx (laneRow ⟨(y 1).val - 16 * k, by omega⟩) = y :=
      funext fun a => Fin.ext (hx a).symm
    have e3 : laneOf (y 1).val = lane ⟨(y 1).val - 16 * k, by omega⟩ := by
      funext a
      match a with
      | 0 => apply Fin.ext; show (y 1).val % 16 = (y 1).val - 16 * k; omega
    have e4 : gS.view.readAt (Elt F) (Rect.unit (s := S16x272) off S1x16.size h).toLoadRect (rowPart row k c g)
        (laneRow ⟨(y 1).val - 16 * k, by omega⟩) = g y := by
      have e5 : gS.view.readAt (Elt F) (Rect.unit (s := S16x272) off S1x16.size h).toLoadRect (rowPart row k c g)
          (laneRow ⟨(y 1).val - 16 * k, by omega⟩)
          = rowPart row k c g ((Rect.unit (s := S16x272) off S1x16.size h).toLoadRect.idx (laneRow ⟨(y 1).val - 16 * k, by omega⟩)) := rfl
      rw [e5, e2]
      unfold rowPart
      rw [if_neg (by omega)]
    rw [e1, e3]
    exact congrArg (fun z => FloatOps.addf z (c k (lane ⟨(y 1).val - 16 * k, by omega⟩))) e4
  · rw [View.read_writes_cons_miss]
    · rw [hL]
      change rowPart row k c g y = _
      unfold rowPart
      by_cases hr : (y 0).val = row ∧ (y 1).val < 16 * k
      · rw [if_pos hr, if_pos ⟨hr.1, by omega⟩]
      · rw [if_neg hr, if_neg (by omega)]
    · intro hm
      obtain ⟨j0, hj0, e0⟩ := (Rect.unit (s := S16x272) off ![1, 16] h).mem_set.mp hm 0
      obtain ⟨j1, hj1, e1⟩ := (Rect.unit (s := S16x272) off ![1, 16] h).mem_set.mp hm 1
      change j0 < 1 at hj0
      change j1 < 16 at hj1
      change (y 0).val = off 0 + 1 * j0 at e0
      change (y 1).val = off 1 + 1 * j1 at e1
      omega

/-- A register of a row of the chunk's buffer, loaded. -/
theorem xrow_of_load (m : Memref sig .scVector .vmem S128x256 .f32) (fx : m.view.ty.Contents (Elt F)) (fx' : XB F)
    (hm : ∀ y, m.view.read (Elt F) fx y = fx' y) (off : Fin 2 → ℕ)
    (h : ∀ a, off a + S1x16.size a ≤ S128x256.size a) (ρ : Fin 128) (k : Fin 16) (h0 : off 0 = ρ.val) (h1 : off 1 = 16 * k.val) :
    shapeCast S16 (m.view.readAt (Elt F) (Rect.unit (s := S128x256) off S1x16.size h).toLoadRect fx) shapeCasts_S1x16_S16 = xrow fx' ρ k := by
  funext j
  rw [cast_1x16, View.readAt_apply, hm]
  unfold xrow
  congr 1
  funext a
  apply Fin.ext
  match a with
  | 0 => show off 0 + 1 * 0 = ρ.val; omega
  | 1 => show off 1 + 1 * (j 0).val = 16 * k.val + (j 0).val; omega

/-! ## The rows of a chunk -/

/-- Entry `ρ` of a chunk's segments. -/
def seg (ρ : Fin 128) : S128.Idx | 0 => ρ

/-- The accumulator row of a segment on the tile whose first segment is `s0`. -/
def slot (s0 : BitVec 32) (s : BitVec 32) : ℕ := (Scalar.minsi 15#32 (Scalar.maxsi 0#32 (Scalar.subi s s0))).toNat

/-- Row `ρ` of a chunk that starts at row `cs` of the array, its rows in `[lo, hi)` counting. -/
def chunkStep (q : Fin 16 → FVec F S16 .f32) (e0 : FVec F S16 .f32) (s0 : BitVec 32) (fx : XB F) (fs : SB) (cs lo hi : BitVec 32) (ρ : Fin 128)
    (g : GB F) : GB F :=
  rowStep (slot s0 (fs (seg ρ))) (xrow fx ρ) (weight (score (xrow fx ρ) q) (inRange cs lo hi ρ.val)) e0 g

/-- The accumulators after the first `n` rows of a chunk. -/
def chunkRows (q : Fin 16 → FVec F S16 .f32) (e0 : FVec F S16 .f32) (s0 : BitVec 32) (fx : XB F) (fs : SB) (cs lo hi : BitVec 32) (g : GB F) : ℕ → GB F
  | 0 => g
  | n + 1 => if h : n < 128 then chunkStep q e0 s0 fx fs cs lo hi ⟨n, h⟩ (chunkRows q e0 s0 fx fs cs lo hi g n) else chunkRows q e0 s0 fx fs cs lo hi g n

theorem chunkRows_succ (q : Fin 16 → FVec F S16 .f32) (e0 : FVec F S16 .f32) (s0 : BitVec 32) (fx : XB F) (fs : SB) (cs lo hi : BitVec 32) (g : GB F)
    (n : ℕ) (h : n < 128) :
    chunkRows q e0 s0 fx fs cs lo hi g (n + 1) = chunkStep q e0 s0 fx fs cs lo hi ⟨n, h⟩ (chunkRows q e0 s0 fx fs cs lo hi g n) := by
  rw [chunkRows, dif_pos h]

/-! ## The segments of a group, rotated -/

/-- The words of group `t` of a chunk's segments. -/
def segGroup (fs : SB) (t : Fin 8) : IVec S16 32 := fun j => fs (seg ⟨16 * t.val + (j 0).val, by have := (j 0).isLt; change (j 0).val < 16 at this; omega⟩)

/-- The register rotated by `k`. -/
def rot (k : ℕ) (v : IVec S16 32) : IVec S16 32 := fun j => v (laneOf ((j 0).val + k))

theorem rot_zero (v : IVec S16 32) : rot 0 v = v := by
  funext j
  unfold rot
  congr 1
  funext a
  match a with
  | 0 => apply Fin.ext; have := (j 0).isLt; change (j 0).val < 16 at this; show ((j 0).val + 0) % 16 = _; omega

theorem extract_zero (v : IVec S16 32) : extractAt ![0] (extractStridedSlice S1 ![0] v slices_S16_o0_S1) inpos_S1_p0 = v (lane 0) := by
  unfold extractAt extractStridedSlice
  congr 1
  funext a
  match a with
  | 0 => rfl

/-- The rotation by one the program prints: all lanes but the first, then the first. -/
theorem rot_one (v : IVec S16 32) :
    concatenate S16 0 [⟨S15, extractStridedSlice S15 ![1] v slices_S16_o1_S15⟩, ⟨S1, extractStridedSlice S1 ![0] v slices_S16_o0_S1⟩]
      concatenates_S15_S1_S16_d0 = rot 1 v := by
  funext j
  have hj := (j 0).isLt
  change (j 0).val < 16 at hj
  rw [concatenate_pair_apply]
  split
  · rename_i hlt
    change (j 0).val < 15 at hlt
    unfold extractStridedSlice rot
    congr 1
    funext a
    match a with
    | 0 => apply Fin.ext; rw [Shape.Idx.norm_def]; show 1 + (j 0).val = ((j 0).val + 1) % 16; omega
  · rename_i hlt
    change ¬ (j 0).val < 15 at hlt
    unfold extractStridedSlice rot
    congr 1
    funext a
    match a with
    | 0 => apply Fin.ext; rw [Shape.Idx.norm_def]; show 0 + ((j 0).val - 15) = ((j 0).val + 1) % 16; omega

theorem rot_rot (k : ℕ) (v : IVec S16 32) : rot 1 (rot k v) = rot (k + 1) v := by
  funext j
  unfold rot
  congr 1
  funext a
  match a with
  | 0 => apply Fin.ext; show (((j 0).val + 1) % 16 + k) % 16 = ((j 0).val + (k + 1)) % 16; omega

end Cert.Proof

end
-- ==== Proof.Held.lean ====
/-
  What a tile holds of its own buffers, named.
-/
module

public import proofs.«01_k».proof.Proof.Vals

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tile's first segment, as the program computes it. -/
abbrev s0w (i : grid1.Coords) : BitVec 32 :=
  Scalar.muli (Scalar.addi (Scalar.muli (BitVec.ofNat 32 (i 1).val) 2#32) (BitVec.ofNat 32 (i 0).val)) 16#32

def hXA (d : Dev nD) (i : grid1.Coords) (f : XB F) : sProp 𝕄 := (xA).view.loc (thr d i) ↦{fullShare} f
def hXB (d : Dev nD) (i : grid1.Coords) (f : XB F) : sProp 𝕄 := (xB).view.loc (thr d i) ↦{fullShare} f
def hSA (d : Dev nD) (i : grid1.Coords) (f : SB) : sProp 𝕄 := (sA).view.loc (thr d i) ↦{fullShare} f
def hSB (d : Dev nD) (i : grid1.Coords) (f : SB) : sProp 𝕄 := (sB).view.loc (thr d i) ↦{fullShare} f
def hG (d : Dev nD) (i : grid1.Coords) (f : GB F) : sProp 𝕄 := (gS).view.loc (thr d i) ↦{fullShare} f

omit [FloatOps F] in
theorem hG_of (d : Dev nD) (i : grid1.Coords) {f g : GB F} (h : f = g) : ((gS).view.loc (thr d i) ↦{fullShare} f : sProp 𝕄) ⊢ ((gS).view.loc (thr d i) ↦{fullShare} g) := by
  subst h; exact .rfl

end Cert.Proof

end
-- ==== Proof.LaneA.lean ====
/-
  One row of a chunk in buffer A: the loads of the row, its score and weight, its seventeen registers added in the accumulators.
-/
module

public import proofs.«01_k».proof.Proof.Held

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem rowOffA : ∀ (t : Fin k1_t3_loop.trips) (l : Fin k1_t4_loop.trips), k1_off24 t l 0 = 16 * t.val + l.val := by decide +kernel
theorem rowWordA : ∀ (t : Fin k1_t3_loop.trips) (l : Fin k1_t4_loop.trips),
    Scalar.addi (Scalar.muli (Scf.iv 0#32 1#32 t) 16#32) (Scf.iv 0#32 1#32 l) = BitVec.ofNat 32 (16 * t.val + l.val) := by decide +kernel
theorem rowA_lt (t : Fin k1_t3_loop.trips) (l : Fin k1_t4_loop.trips) : 16 * t.val + l.val < 128 := by
  have ht : t.val < 8 := lt_of_lt_of_eq t.isLt (by decide)
  have hl : l.val < 16 := lt_of_lt_of_eq l.isLt (by decide)
  omega
abbrev rowA (t : Fin k1_t3_loop.trips) (l : Fin k1_t4_loop.trips) : Fin 128 := ⟨16 * t.val + l.val, rowA_lt t l⟩

/-- The sixteen registers of the row, as the trip loads them. -/
def ldA (t : Fin k1_t3_loop.trips) (l : Fin k1_t4_loop.trips) (fx : XB F) : Fin 16 → FVec F S16 .f32 :=
  ![shapeCast S16 (xA.view.readAt (Elt F) (Rect.unit (s := S128x256) (k1_off24 t l) S1x16.size (k1_off24_inb t l)).toLoadRect fx) shapeCasts_S1x16_S16,
    shapeCast S16 (xA.view.readAt (Elt F) (Rect.unit (s := S128x256) (k1_off25 t l) S1x16.size (k1_off25_inb t l)).toLoadRect fx) shapeCasts_S1x16_S16,
    shapeCast S16 (xA.view.readAt (Elt F) (Rect.unit (s := S128x256) (k1_off26 t l) S1x16.size (k1_off26_inb t l)).toLoadRect fx) shapeCasts_S1x16_S16,
    shapeCast S16 (xA.view.readAt (Elt F) (Rect.unit (s := S128x256) (k1_off27 t l) S1x16.size (k1_off27_inb t l)).toLoadRect fx) shapeCasts_S1x16_S16,
    shapeCast S16 (xA.view.readAt (Elt F) (Rect.unit (s := S128x256) (k1_off28 t l) S1x16.size (k1_off28_inb t l)).toLoadRect fx) shapeCasts_S1x16_S16,
    shapeCast S16 (xA.view.readAt (Elt F) (Rect.unit (s := S128x256) (k1_off29 t l) S1x16.size (k1_off29_inb t l)).toLoadRect fx) shapeCasts_S1x16_S16,
    shapeCast S16 (xA.view.readAt (Elt F) (Rect.unit (s := S128x256) (k1_off30 t l) S1x16.size (k1_off30_inb t l)).toLoadRect fx) shapeCasts_S1x16_S16,
    shapeCast S16 (xA.view.readAt (Elt F) (Rect.unit (s := S128x256) (k1_off31 t l) S1x16.size (k1_off31_inb t l)).toLoadRect fx) shapeCasts_S1x16_S16,
    shapeCast S16 (xA.view.readAt (Elt F) (Rect.unit (s := S128x256) (k1_off32 t l) S1x16.size (k1_off32_inb t l)).toLoadRect fx) shapeCasts_S1x16_S16,
    shapeCast S16 (xA.view.readAt (Elt F) (Rect.unit (s := S128x256) (k1_off33 t l) S1x16.size (k1_off33_inb t l)).toLoadRect fx) shapeCasts_S1x16_S16,
    shapeCast S16 (xA.view.readAt (Elt F) (Rect.unit (s := S128x256) (k1_off34 t l) S1x16.size (k1_off34_inb t l)).toLoadRect fx) shapeCasts_S1x16_S16,
    shapeCast S16 (xA.view.readAt (Elt F) (Rect.unit (s := S128x256) (k1_off35 t l) S1x16.size (k1_off35_inb t l)).toLoadRect fx) shapeCasts_S1x16_S16,
    shapeCast S16 (xA.view.readAt (Elt F) (Rect.unit (s := S128x256) (k1_off36 t l) S1x16.size (k1_off36_inb t l)).toLoadRect fx) shapeCasts_S1x16_S16,
    shapeCast S16 (xA.view.readAt (Elt F) (Rect.unit (s := S128x256) (k1_off37 t l) S1x16.size (k1_off37_inb t l)).toLoadRect fx) shapeCasts_S1x16_S16,
    shapeCast S16 (xA.view.readAt (Elt F) (Rect.unit (s := S128x256) (k1_off38 t l) S1x16.size (k1_off38_inb t l)).toLoadRect fx) shapeCasts_S1x16_S16,
    shapeCast S16 (xA.view.readAt (Elt F) (Rect.unit (s := S128x256) (k1_off39 t l) S1x16.size (k1_off39_inb t l)).toLoadRect fx) shapeCasts_S1x16_S16]

set_option maxHeartbeats 2000000 in
theorem rowA_loads (t : Fin k1_t3_loop.trips) (l : Fin k1_t4_loop.trips) (fx : XB F) : ldA t l fx = xrow fx (rowA t l) := by
  have h0 := rowOffA t l
  funext k
  fin_cases k
  all_goals exact xrow_of_load xA fx fx (fun _ => rfl) _ _ (rowA t l) _ h0 rfl

/-- Whether the row counts, as the trip asks it. -/
abbrev validA (v11 cs lo : BitVec 32) (t : Fin k1_t3_loop.trips) (l : Fin k1_t4_loop.trips) : BitVec 1 :=
  Scalar.andi (Scalar.cmpi .sge (Scalar.addi cs (Scalar.addi (Scalar.muli (Scf.iv 0#32 1#32 t) 16#32) (Scf.iv 0#32 1#32 l))) lo)
    (Scalar.cmpi .slt (Scalar.addi cs (Scalar.addi (Scalar.muli (Scf.iv 0#32 1#32 t) 16#32) (Scf.iv 0#32 1#32 l))) v11)

theorem rowA_weight (v11 : BitVec 32) (q : Fin 16 → FVec F S16 .f32) (cs lo : BitVec 32) (t : Fin k1_t3_loop.trips) (l : Fin k1_t4_loop.trips)
    (fx : XB F) : weight (score (ldA t l fx) q) (validA v11 cs lo t l)
      = weight (score (xrow fx (rowA t l)) q) (inRange cs lo v11 (rowA t l).val) := by
  rw [rowA_loads]
  unfold validA
  rw [rowWordA]
  rfl

theorem rowA_slot (i : grid1.Coords) (v : BitVec 32) : k1_off40 i v 0 = slot (s0w i) v := rfl

set_option maxHeartbeats 8000000 in
/-- The trip of row `16 t + l`. -/
theorem laneA (d : Dev nD) (i : grid1.Coords) (v2 v9 v11 : BitVec 32) (hw2 : k1_chk2 v9 v11) (v12 : BitVec 32)
    (q : Fin 16 → FVec F S16 .f32) (e0 : FVec F S16 .f32) (v72 w0 w1 : BitVec 32)
    (t2 : Fin (k1_t2_loop v9 v11).trips) (cs lo : BitVec 32)
    (t : Fin k1_t3_loop.trips) (l : Fin k1_t4_loop.trips) (sg : IVec S16 32) (fx : XB F) (fs : SB) (g : GB F)
    (h2 : v2 = s0w i) (hsg : sg (lane 0) = fs (seg (rowA t l))) :
    (iprop(hXA d i fx ∗ hG d i g) : sProp 𝕄)
      ⊢ wp frame (wpE (defs₀ (F := F)) 𝒱₀ (thr d i) none) Set.univ
          (k1_t4_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            v2 v9 v11 hw2 v12 (q 0) (q 1) (q 2) (q 3) (q 4) (q 5) (q 6) (q 7) (q 8) (q 9) (q 10) (q 11) (q 12) (q 13) (q 14) (q 15) e0 v72 w0 w1 t2 cs lo t (Scf.iv 0#32 1#32 t) l sg)
          fun r => iprop(⌜r = rot 1 sg⌝ ∗ hXA d i fx ∗ hG d i (chunkStep q e0 v2 fx fs cs lo v11 (rowA t l) g)) := by
  unfold k1_t4_body
  simp only [k1_part2_eq_skeleton, k1_part3_eq_skeleton, k1_part4_eq_skeleton, k1_part5_eq_skeleton, k1_part6_eq_skeleton]
  unfold hXA hG
  iintro ⟨Hx, Hg⟩
  sl_exec
  sl_step
  isplitr
  · ipureintro
    exact rot_one sg
  isplitl [Hx]; · iexact Hx
  iapply (hG_of d i ?he) $$ Hg
  case he =>
    have hv : laneA.sl.v284 sg = fs (seg (rowA t l)) := (extract_zero sg).trans hsg
    have hv2 : k1_off40 i (laneA.sl.v284 sg) 0 = slot v2 (fs (seg (rowA t l))) := (rowA_slot i _).trans (by rw [hv, h2])
    have hX := rowA_loads (F := F) t l fx
    have hw := rowA_weight v11 q cs lo t l fx
    have hc : ∀ k : Fin 16, mulf (ldA t l fx k) (weight (score (ldA t l fx) q) (validA v11 cs lo t l))
        = contrib (xrow fx (rowA t l)) (weight (score (xrow fx (rowA t l)) q) (inRange cs lo v11 (rowA t l).val)) e0 k.val := by
      intro k
      rw [hw, hX]
      exact (contrib_reg _ _ _ k).symm
    have he : mulf (weight (score (ldA t l fx) q) (validA v11 cs lo t l)) e0
        = contrib (xrow fx (rowA t l)) (weight (score (xrow fx (rowA t l)) q) (inRange cs lo v11 (rowA t l).val)) e0 16 := by
      rw [hw]
      exact (contrib_last _ _ _).symm
    refine rmw ?_ _ _ (by exact hv2) (by rfl) _ _ (by rfl) he
    refine rmw ?_ _ _ (by exact hv2) (by rfl) _ _ (by rfl) (hc 15)
    refine rmw ?_ _ _ (by exact hv2) (by rfl) _ _ (by rfl) (hc 14)
    refine rmw ?_ _ _ (by exact hv2) (by rfl) _ _ (by rfl) (hc 13)
    refine rmw ?_ _ _ (by exact hv2) (by rfl) _ _ (by rfl) (hc 12)
    refine rmw ?_ _ _ (by exact hv2) (by rfl) _ _ (by rfl) (hc 11)
    refine rmw ?_ _ _ (by exact hv2) (by rfl) _ _ (by rfl) (hc 10)
    refine rmw ?_ _ _ (by exact hv2) (by rfl) _ _ (by rfl) (hc 9)
    refine rmw ?_ _ _ (by exact hv2) (by rfl) _ _ (by rfl) (hc 8)
    refine rmw ?_ _ _ (by exact hv2) (by rfl) _ _ (by rfl) (hc 7)
    refine rmw ?_ _ _ (by exact hv2) (by rfl) _ _ (by rfl) (hc 6)
    refine rmw ?_ _ _ (by exact hv2) (by rfl) _ _ (by rfl) (hc 5)
    refine rmw ?_ _ _ (by exact hv2) (by rfl) _ _ (by rfl) (hc 4)
    refine rmw ?_ _ _ (by exact hv2) (by rfl) _ _ (by rfl) (hc 3)
    refine rmw ?_ _ _ (by exact hv2) (by rfl) _ _ (by rfl) (hc 2)
    refine rmw ?_ _ _ (by exact hv2) (by rfl) _ _ (by rfl) (hc 1)
    refine rmw ?_ _ _ (by exact hv2) (by rfl) _ _ (by rfl) (hc 0)
    exact (rowPart_zero _ _ _).symm

end Cert.Proof

end
-- ==== Proof.GroupA.lean ====
/-
  A group of sixteen rows of a chunk in buffer A: its segments loaded, its rows' trips.
-/
module

public import proofs.«01_k».proof.Proof.LaneA

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem segOffA : ∀ (t : Fin k1_t3_loop.trips), k1_off23 t 0 = 16 * t.val := by decide +kernel
abbrev grpA (t : Fin k1_t3_loop.trips) : Fin 8 := ⟨t.val, lt_of_lt_of_eq t.isLt (by decide)⟩

theorem segA_load (t : Fin k1_t3_loop.trips) (fs : SB) :
    k1_pay88 (F := F) (sA.view.readAt (Elt F) (Rect.unit (s := S128) (k1_off23 t) S16.size (k1_off23_inb t)).toLoadRect fs) = rot 0 (segGroup fs (grpA t)) := by
  rw [rot_zero]
  have h := segOffA t
  funext j
  show shapeCast S16 (sA.view.readAt (Elt F) (Rect.unit (s := S128) (k1_off23 t) S16.size (k1_off23_inb t)).toLoadRect fs) shapeCasts_S16_S16 j = _
  rw [cast_self, View.readAt_apply]
  show fs _ = fs _
  congr 1
  funext a
  match a with
  | 0 => apply Fin.ext; show k1_off23 t 0 + 1 * (j 0).val = 16 * t.val + (j 0).val; omega

set_option maxHeartbeats 8000000 in
/-- The trip of group `t`. -/
theorem groupA (d : Dev nD) (i : grid1.Coords) (v2 v9 v11 : BitVec 32) (hw2 : k1_chk2 v9 v11) (v12 : BitVec 32)
    (q : Fin 16 → FVec F S16 .f32) (e0 : FVec F S16 .f32) (v72 w0 w1 : BitVec 32)
    (t2 : Fin (k1_t2_loop v9 v11).trips) (cs lo : BitVec 32)
    (t : Fin k1_t3_loop.trips) (u : Unit) (fx : XB F) (fs : SB) (g : GB F) (h2 : v2 = s0w i) :
    (iprop(hXA d i fx ∗ hSA d i fs ∗ hG d i (chunkRows q e0 v2 fx fs cs lo v11 g (16 * t.val))) : sProp 𝕄)
      ⊢ wp frame (wpE (defs₀ (F := F)) 𝒱₀ (thr d i) none) Set.univ
          (k1_t3_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            v2 v9 v11 hw2 v12 (q 0) (q 1) (q 2) (q 3) (q 4) (q 5) (q 6) (q 7) (q 8) (q 9) (q 10) (q 11) (q 12) (q 13) (q 14) (q 15) e0 v72 w0 w1 t2 cs lo t u)
          fun _ => iprop(hXA d i fx ∗ hSA d i fs ∗ hG d i (chunkRows q e0 v2 fx fs cs lo v11 g (16 * (t.val + 1)))) := by
  unfold k1_t3_body hSA
  iintro ⟨Hx, Hs, Hg⟩
  sl_exec
  sl_for (fun k (r : IVec S16 32) => iprop(⌜r = rot k (segGroup fs (grpA t))⌝ ∗ hXA d i fx
      ∗ hG d i (chunkRows q e0 v2 fx fs cs lo v11 g (16 * t.val + k)))) $$ [Hx Hg]
  case region =>
    intro l r
    iintro ⟨%hr, Hx, Hg⟩
    have hl : l.val < 16 := lt_of_lt_of_eq l.isLt (by decide)
    have hlt := rowA_lt t l
    have hsg : r (lane 0) = fs (seg (rowA t l)) := by
      rw [hr]
      show fs _ = fs _
      congr 1
      funext a
      match a with
      | 0 => apply Fin.ext; show 16 * t.val + (0 + l.val) % 16 = 16 * t.val + l.val; omega
    have hstep := chunkRows_succ q e0 v2 fx fs cs lo v11 g (16 * t.val + l.val) hlt
    rw [← Nat.add_assoc, hstep, ← rot_rot, ← hr]
    iapply (laneA d i v2 v9 v11 hw2 v12 q e0 v72 w0 w1 t2 cs lo t l r fx fs _ h2 hsg)
    isplitl [Hx]; · iexact Hx
    iexact Hg
  · isplitr
    · ipureintro; exact segA_load t fs
    isplitl [Hx]; · iexact Hx
    iexact Hg
  iintro %_ ⟨-, Hx, Hg⟩
  sl_exec
  sl_step
  isplitl [Hx]; · iexact Hx
  isplitl [Hs]; · iexact Hs
  rw [show 16 * (t.val + 1) = 16 * t.val + k1_t4_loop.trips from by rw [show k1_t4_loop.trips = 16 by decide]; omega]
  iexact Hg

end Cert.Proof

end
-- ==== Proof.LaneB.lean ====
/-
  One row of a chunk in buffer B: the loads of the row, its score and weight, its seventeen registers added in the accumulators.
-/
module

public import proofs.«01_k».proof.Proof.Held

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem rowOffB : ∀ (t : Fin k1_t5_loop.trips) (l : Fin k1_t6_loop.trips), k1_off62 t l 0 = 16 * t.val + l.val := by decide +kernel
theorem rowWordB : ∀ (t : Fin k1_t5_loop.trips) (l : Fin k1_t6_loop.trips),
    Scalar.addi (Scalar.muli (Scf.iv 0#32 1#32 t) 16#32) (Scf.iv 0#32 1#32 l) = BitVec.ofNat 32 (16 * t.val + l.val) := by decide +kernel
theorem rowB_lt (t : Fin k1_t5_loop.trips) (l : Fin k1_t6_loop.trips) : 16 * t.val + l.val < 128 := by
  have ht : t.val < 8 := lt_of_lt_of_eq t.isLt (by decide)
  have hl : l.val < 16 := lt_of_lt_of_eq l.isLt (by decide)
  omega
abbrev rowB (t : Fin k1_t5_loop.trips) (l : Fin k1_t6_loop.trips) : Fin 128 := ⟨16 * t.val + l.val, rowB_lt t l⟩

/-- The sixteen registers of the row, as the trip loads them. -/
def ldB (t : Fin k1_t5_loop.trips) (l : Fin k1_t6_loop.trips) (fx : XB F) : Fin 16 → FVec F S16 .f32 :=
  ![shapeCast S16 (xB.view.readAt (Elt F) (Rect.unit (s := S128x256) (k1_off62 t l) S1x16.size (k1_off62_inb t l)).toLoadRect fx) shapeCasts_S1x16_S16,
    shapeCast S16 (xB.view.readAt (Elt F) (Rect.unit (s := S128x256) (k1_off63 t l) S1x16.size (k1_off63_inb t l)).toLoadRect fx) shapeCasts_S1x16_S16,
    shapeCast S16 (xB.view.readAt (Elt F) (Rect.unit (s := S128x256) (k1_off64 t l) S1x16.size (k1_off64_inb t l)).toLoadRect fx) shapeCasts_S1x16_S16,
    shapeCast S16 (xB.view.readAt (Elt F) (Rect.unit (s := S128x256) (k1_off65 t l) S1x16.size (k1_off65_inb t l)).toLoadRect fx) shapeCasts_S1x16_S16,
    shapeCast S16 (xB.view.readAt (Elt F) (Rect.unit (s := S128x256) (k1_off66 t l) S1x16.size (k1_off66_inb t l)).toLoadRect fx) shapeCasts_S1x16_S16,
    shapeCast S16 (xB.view.readAt (Elt F) (Rect.unit (s := S128x256) (k1_off67 t l) S1x16.size (k1_off67_inb t l)).toLoadRect fx) shapeCasts_S1x16_S16,
    shapeCast S16 (xB.view.readAt (Elt F) (Rect.unit (s := S128x256) (k1_off68 t l) S1x16.size (k1_off68_inb t l)).toLoadRect fx) shapeCasts_S1x16_S16,
    shapeCast S16 (xB.view.readAt (Elt F) (Rect.unit (s := S128x256) (k1_off69 t l) S1x16.size (k1_off69_inb t l)).toLoadRect fx) shapeCasts_S1x16_S16,
    shapeCast S16 (xB.view.readAt (Elt F) (Rect.unit (s := S128x256) (k1_off70 t l) S1x16.size (k1_off70_inb t l)).toLoadRect fx) shapeCasts_S1x16_S16,
    shapeCast S16 (xB.view.readAt (Elt F) (Rect.unit (s := S128x256) (k1_off71 t l) S1x16.size (k1_off71_inb t l)).toLoadRect fx) shapeCasts_S1x16_S16,
    shapeCast S16 (xB.view.readAt (Elt F) (Rect.unit (s := S128x256) (k1_off72 t l) S1x16.size (k1_off72_inb t l)).toLoadRect fx) shapeCasts_S1x16_S16,
    shapeCast S16 (xB.view.readAt (Elt F) (Rect.unit (s := S128x256) (k1_off73 t l) S1x16.size (k1_off73_inb t l)).toLoadRect fx) shapeCasts_S1x16_S16,
    shapeCast S16 (xB.view.readAt (Elt F) (Rect.unit (s := S128x256) (k1_off74 t l) S1x16.size (k1_off74_inb t l)).toLoadRect fx) shapeCasts_S1x16_S16,
    shapeCast S16 (xB.view.readAt (Elt F) (Rect.unit (s := S128x256) (k1_off75 t l) S1x16.size (k1_off75_inb t l)).toLoadRect fx) shapeCasts_S1x16_S16,
    shapeCast S16 (xB.view.readAt (Elt F) (Rect.unit (s := S128x256) (k1_off76 t l) S1x16.size (k1_off76_inb t l)).toLoadRect fx) shapeCasts_S1x16_S16,
    shapeCast S16 (xB.view.readAt (Elt F) (Rect.unit (s := S128x256) (k1_off77 t l) S1x16.size (k1_off77_inb t l)).toLoadRect fx) shapeCasts_S1x16_S16]

set_option maxHeartbeats 2000000 in
theorem rowB_loads (t : Fin k1_t5_loop.trips) (l : Fin k1_t6_loop.trips) (fx : XB F) : ldB t l fx = xrow fx (rowB t l) := by
  have h0 := rowOffB t l
  funext k
  fin_cases k
  all_goals exact xrow_of_load xB fx fx (fun _ => rfl) _ _ (rowB t l) _ h0 rfl

/-- Whether the row counts, as the trip asks it. -/
abbrev validB (v11 cs lo : BitVec 32) (t : Fin k1_t5_loop.trips) (l : Fin k1_t6_loop.trips) : BitVec 1 :=
  Scalar.andi (Scalar.cmpi .sge (Scalar.addi cs (Scalar.addi (Scalar.muli (Scf.iv 0#32 1#32 t) 16#32) (Scf.iv 0#32 1#32 l))) lo)
    (Scalar.cmpi .slt (Scalar.addi cs (Scalar.addi (Scalar.muli (Scf.iv 0#32 1#32 t) 16#32) (Scf.iv 0#32 1#32 l))) v11)

theorem rowB_weight (v11 : BitVec 32) (q : Fin 16 → FVec F S16 .f32) (cs lo : BitVec 32) (t : Fin k1_t5_loop.trips) (l : Fin k1_t6_loop.trips)
    (fx : XB F) : weight (score (ldB t l fx) q) (validB v11 cs lo t l)
      = weight (score (xrow fx (rowB t l)) q) (inRange cs lo v11 (rowB t l).val) := by
  rw [rowB_loads]
  unfold validB
  rw [rowWordB]
  rfl

theorem rowB_slot (i : grid1.Coords) (v : BitVec 32) : k1_off78 i v 0 = slot (s0w i) v := rfl

set_option maxHeartbeats 8000000 in
/-- The trip of row `16 t + l`. -/
theorem laneB (d : Dev nD) (i : grid1.Coords) (v2 v11 : BitVec 32)
    (q : Fin 16 → FVec F S16 .f32) (e0 : FVec F S16 .f32) (cs lo : BitVec 32)
    (t : Fin k1_t5_loop.trips) (l : Fin k1_t6_loop.trips) (sg : IVec S16 32) (fx : XB F) (fs : SB) (g : GB F)
    (h2 : v2 = s0w i) (hsg : sg (lane 0) = fs (seg (rowB t l))) :
    (iprop(hXB d i fx ∗ hG d i g) : sProp 𝕄)
      ⊢ wp frame (wpE (defs₀ (F := F)) 𝒱₀ (thr d i) none) Set.univ
          (k1_t6_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            v2 v11 (q 0) (q 1) (q 2) (q 3) (q 4) (q 5) (q 6) (q 7) (q 8) (q 9) (q 10) (q 11) (q 12) (q 13) (q 14) (q 15) e0 cs lo t (Scf.iv 0#32 1#32 t) l sg)
          fun r => iprop(⌜r = rot 1 sg⌝ ∗ hXB d i fx ∗ hG d i (chunkStep q e0 v2 fx fs cs lo v11 (rowB t l) g)) := by
  unfold k1_t6_body
  simp only [k1_part7_eq_skeleton, k1_part8_eq_skeleton, k1_part9_eq_skeleton, k1_part10_eq_skeleton, k1_part11_eq_skeleton]
  unfold hXB hG
  iintro ⟨Hx, Hg⟩
  sl_exec
  sl_step
  isplitr
  · ipureintro
    exact rot_one sg
  isplitl [Hx]; · iexact Hx
  iapply (hG_of d i ?he) $$ Hg
  case he =>
    have hv : laneB.sl.v284 sg = fs (seg (rowB t l)) := (extract_zero sg).trans hsg
    have hv2 : k1_off78 i (laneB.sl.v284 sg) 0 = slot v2 (fs (seg (rowB t l))) := (rowB_slot i _).trans (by rw [hv, h2])
    have hX := rowB_loads (F := F) t l fx
    have hw := rowB_weight v11 q cs lo t l fx
    have hc : ∀ k : Fin 16, mulf (ldB t l fx k) (weight (score (ldB t l fx) q) (validB v11 cs lo t l))
        = contrib (xrow fx (rowB t l)) (weight (score (xrow fx (rowB t l)) q) (inRange cs lo v11 (rowB t l).val)) e0 k.val := by
      intro k
      rw [hw, hX]
      exact (contrib_reg _ _ _ k).symm
    have he : mulf (weight (score (ldB t l fx) q) (validB v11 cs lo t l)) e0
        = contrib (xrow fx (rowB t l)) (weight (score (xrow fx (rowB t l)) q) (inRange cs lo v11 (rowB t l).val)) e0 16 := by
      rw [hw]
      exact (contrib_last _ _ _).symm
    refine rmw ?_ _ _ (by exact hv2) (by rfl) _ _ (by rfl) he
    refine rmw ?_ _ _ (by exact hv2) (by rfl) _ _ (by rfl) (hc 15)
    refine rmw ?_ _ _ (by exact hv2) (by rfl) _ _ (by rfl) (hc 14)
    refine rmw ?_ _ _ (by exact hv2) (by rfl) _ _ (by rfl) (hc 13)
    refine rmw ?_ _ _ (by exact hv2) (by rfl) _ _ (by rfl) (hc 12)
    refine rmw ?_ _ _ (by exact hv2) (by rfl) _ _ (by rfl) (hc 11)
    refine rmw ?_ _ _ (by exact hv2) (by rfl) _ _ (by rfl) (hc 10)
    refine rmw ?_ _ _ (by exact hv2) (by rfl) _ _ (by rfl) (hc 9)
    refine rmw ?_ _ _ (by exact hv2) (by rfl) _ _ (by rfl) (hc 8)
    refine rmw ?_ _ _ (by exact hv2) (by rfl) _ _ (by rfl) (hc 7)
    refine rmw ?_ _ _ (by exact hv2) (by rfl) _ _ (by rfl) (hc 6)
    refine rmw ?_ _ _ (by exact hv2) (by rfl) _ _ (by rfl) (hc 5)
    refine rmw ?_ _ _ (by exact hv2) (by rfl) _ _ (by rfl) (hc 4)
    refine rmw ?_ _ _ (by exact hv2) (by rfl) _ _ (by rfl) (hc 3)
    refine rmw ?_ _ _ (by exact hv2) (by rfl) _ _ (by rfl) (hc 2)
    refine rmw ?_ _ _ (by exact hv2) (by rfl) _ _ (by rfl) (hc 1)
    refine rmw ?_ _ _ (by exact hv2) (by rfl) _ _ (by rfl) (hc 0)
    exact (rowPart_zero _ _ _).symm

end Cert.Proof

end
-- ==== Proof.GroupB.lean ====
/-
  A group of sixteen rows of a chunk in buffer B: its segments loaded, its rows' trips.
-/
module

public import proofs.«01_k».proof.Proof.LaneB

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem segOffB : ∀ (t : Fin k1_t5_loop.trips), k1_off61 t 0 = 16 * t.val := by decide +kernel
abbrev grpB (t : Fin k1_t5_loop.trips) : Fin 8 := ⟨t.val, lt_of_lt_of_eq t.isLt (by decide)⟩

theorem segB_load (t : Fin k1_t5_loop.trips) (fs : SB) :
    k1_pay1 (F := F) (sB.view.readAt (Elt F) (Rect.unit (s := S128) (k1_off61 t) S16.size (k1_off61_inb t)).toLoadRect fs) = rot 0 (segGroup fs (grpB t)) := by
  rw [rot_zero]
  have h := segOffB t
  funext j
  show shapeCast S16 (sB.view.readAt (Elt F) (Rect.unit (s := S128) (k1_off61 t) S16.size (k1_off61_inb t)).toLoadRect fs) shapeCasts_S16_S16 j = _
  rw [cast_self, View.readAt_apply]
  show fs _ = fs _
  congr 1
  funext a
  match a with
  | 0 => apply Fin.ext; show k1_off61 t 0 + 1 * (j 0).val = 16 * t.val + (j 0).val; omega

set_option maxHeartbeats 8000000 in
/-- The trip of group `t`. -/
theorem groupB (d : Dev nD) (i : grid1.Coords) (v2 v11 : BitVec 32)
    (q : Fin 16 → FVec F S16 .f32) (e0 : FVec F S16 .f32) (cs lo : BitVec 32)
    (t : Fin k1_t5_loop.trips) (u : Unit) (fx : XB F) (fs : SB) (g : GB F) (h2 : v2 = s0w i) :
    (iprop(hXB d i fx ∗ hSB d i fs ∗ hG d i (chunkRows q e0 v2 fx fs cs lo v11 g (16 * t.val))) : sProp 𝕄)
      ⊢ wp frame (wpE (defs₀ (F := F)) 𝒱₀ (thr d i) none) Set.univ
          (k1_t5_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            v2 v11 (q 0) (q 1) (q 2) (q 3) (q 4) (q 5) (q 6) (q 7) (q 8) (q 9) (q 10) (q 11) (q 12) (q 13) (q 14) (q 15) e0 cs lo t u)
          fun _ => iprop(hXB d i fx ∗ hSB d i fs ∗ hG d i (chunkRows q e0 v2 fx fs cs lo v11 g (16 * (t.val + 1)))) := by
  unfold k1_t5_body hSB
  iintro ⟨Hx, Hs, Hg⟩
  sl_exec
  sl_for (fun k (r : IVec S16 32) => iprop(⌜r = rot k (segGroup fs (grpB t))⌝ ∗ hXB d i fx
      ∗ hG d i (chunkRows q e0 v2 fx fs cs lo v11 g (16 * t.val + k)))) $$ [Hx Hg]
  case region =>
    intro l r
    iintro ⟨%hr, Hx, Hg⟩
    have hl : l.val < 16 := lt_of_lt_of_eq l.isLt (by decide)
    have hlt := rowB_lt t l
    have hsg : r (lane 0) = fs (seg (rowB t l)) := by
      rw [hr]
      show fs _ = fs _
      congr 1
      funext a
      match a with
      | 0 => apply Fin.ext; show 16 * t.val + (0 + l.val) % 16 = 16 * t.val + l.val; omega
    have hstep := chunkRows_succ q e0 v2 fx fs cs lo v11 g (16 * t.val + l.val) hlt
    rw [← Nat.add_assoc, hstep, ← rot_rot, ← hr]
    iapply (laneB d i v2 v11 q e0 cs lo t l r fx fs _ h2 hsg)
    isplitl [Hx]; · iexact Hx
    iexact Hg
  · isplitr
    · ipureintro; exact segB_load t fs
    isplitl [Hx]; · iexact Hx
    iexact Hg
  iintro %_ ⟨-, Hx, Hg⟩
  sl_exec
  sl_step
  isplitl [Hx]; · iexact Hx
  isplitl [Hs]; · iexact Hs
  rw [show 16 * (t.val + 1) = 16 * t.val + k1_t6_loop.trips from by rw [show k1_t6_loop.trips = 16 by decide]; omega]
  iexact Hg

end Cert.Proof

end
-- ==== Proof.Words.lean ====
module

public import proofs.«01_k».proof.Proof.Base
public import Idealize.ShloMosaic.Lib.WordArith
public import Idealize.ShloMosaic.Lib.WordArith.Masks

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Words of small naturals -/

abbrev W (n : ℕ) : BitVec 32 := BitVec.ofNat 32 n

theorem W_toNat {n : ℕ} (h : n < 2 ^ 31) : (W n).toNat = n := by
  simp [W, BitVec.toNat_ofNat]; omega

theorem W_toInt {n : ℕ} (h : n < 2 ^ 31) : (W n).toInt = n := by
  rw [BitVec.toInt_eq_toNat_cond, W_toNat h]; split <;> omega

theorem W_add (a b : ℕ) : Scalar.addi (W a) (W b) = W (a + b) := by
  show BitVec.ofNat 32 a + BitVec.ofNat 32 b = _; exact (BitVec.ofNat_add a b).symm

theorem W_mul (a b : ℕ) : Scalar.muli (W a) (W b) = W (a * b) := by
  show BitVec.ofNat 32 a * BitVec.ofNat 32 b = _; exact (BitVec.ofNat_mul a b).symm

theorem W_sub {a b : ℕ} (h : b ≤ a) : Scalar.subi (W a) (W b) = W (a - b) := by
  show BitVec.ofNat 32 a - BitVec.ofNat 32 b = _
  have : BitVec.ofNat 32 a = BitVec.ofNat 32 (a - b) + BitVec.ofNat 32 b := by
    rw [← BitVec.ofNat_add]; congr 1; omega
  rw [this]; exact BitVec.add_sub_cancel _ _

theorem W_slt {a b : ℕ} (ha : a < 2 ^ 31) (hb : b < 2 ^ 31) : (W a).slt (W b) = decide (a < b) := by
  unfold BitVec.slt; rw [W_toInt ha, W_toInt hb]; simp

theorem W_cslt {a b : ℕ} (ha : a < 2 ^ 31) (hb : b < 2 ^ 31) : Scalar.cmpi .slt (W a) (W b) = BitVec.ofBool (decide (a < b)) := by
  show BitVec.ofBool ((W a).slt (W b)) = _; rw [W_slt ha hb]

theorem W_csgt {a b : ℕ} (ha : a < 2 ^ 31) (hb : b < 2 ^ 31) : Scalar.cmpi .sgt (W a) (W b) = BitVec.ofBool (decide (b < a)) := by
  show BitVec.ofBool ((W b).slt (W a)) = _; rw [W_slt hb ha]

theorem W_inj {a b : ℕ} (ha : a < 2 ^ 31) (hb : b < 2 ^ 31) : W a = W b ↔ a = b := by
  constructor
  · intro h; have := congrArg BitVec.toNat h; rwa [W_toNat ha, W_toNat hb] at this
  · rintro rfl; rfl

theorem W_cne {a b : ℕ} (ha : a < 2 ^ 31) (hb : b < 2 ^ 31) : Scalar.cmpi .ne (W a) (W b) = BitVec.ofBool (decide (a ≠ b)) := by
  show BitVec.ofBool (W a != W b) = _
  congr 1
  by_cases h : a = b
  · subst h; simp
  · have := mt (W_inj ha hb).mp h; rw [bne_iff_ne.mpr this]; simp [h]

theorem W_ext (b : Bool) : Scalar.extui (BitVec.ofBool b) = W (if b then 1 else 0) := by cases b <;> decide

theorem W_min {a b : ℕ} (ha : a < 2 ^ 31) (hb : b < 2 ^ 31) : Scalar.minsi (W a) (W b) = W (min a b) := by
  show (if (W a).slt (W b) then W a else W b) = _
  rw [W_slt ha hb]; rcases Nat.lt_or_ge a b with h | h
  · simp [h, Nat.min_eq_left h.le]
  · simp [Nat.not_lt.mpr h, Nat.min_eq_right h]

theorem W_max {a b : ℕ} (ha : a < 2 ^ 31) (hb : b < 2 ^ 31) : Scalar.maxsi (W a) (W b) = W (max a b) := by
  show (if (W b).slt (W a) then W a else W b) = _
  rw [W_slt hb ha]; rcases Nat.lt_or_ge b a with h | h
  · simp [h, Nat.max_eq_left h.le]
  · simp [Nat.not_lt.mpr h, Nat.max_eq_right h]

theorem W_corner {a b : ℕ} (ha : a < 2 ^ 31) (hb : b < 2 ^ 31) (h0 : 0 < b) : ¬ IntOp.SDivCorner (W a) (W b) := by
  unfold IntOp.SDivCorner
  rintro (h | ⟨h, -⟩)
  · exact absurd ((W_inj (b := 0) hb (by decide)).mp h) (by omega)
  · have := congrArg BitVec.toInt h
    rw [W_toInt ha] at this
    have h2 : (BitVec.intMin 32).toInt = -2147483648 := by decide
    rw [h2] at this; have := Int.natCast_nonneg a; omega

theorem W_div {a b : ℕ} (ha : a < 2 ^ 31) (hb : b < 2 ^ 31) (h0 : 0 < b) : Scalar.divsi (W a) (W b) = W (a / b) := by
  show (if IntOp.SDivCorner (W a) (W b) then _ else (W a).sdiv (W b)) = _
  rw [if_neg (W_corner ha hb h0)]
  have hd : a / b < 2 ^ 31 := lt_of_le_of_lt (Nat.div_le_self _ _) ha
  apply BitVec.eq_of_toInt_eq
  rw [BitVec.toInt_sdiv, W_toInt ha, W_toInt hb, W_toInt hd]
  rw [show ((a:ℤ).tdiv (b:ℤ)) = ((a / b : ℕ) : ℤ) from rfl]
  have h1 : (0:ℤ) ≤ ((a / b : ℕ) : ℤ) := Int.natCast_nonneg _
  have h2 : ((a / b : ℕ) : ℤ) < 2 ^ 31 := by exact_mod_cast hd
  generalize ((a / b : ℕ) : ℤ) = z at h1 h2
  exact Int.bmod_eq_of_le (by omega) (by omega)

theorem W_rem {a b : ℕ} (ha : a < 2 ^ 31) (hb : b < 2 ^ 31) (h0 : 0 < b) : Scalar.remsi (W a) (W b) = W (a % b) := by
  show (if IntOp.SDivCorner (W a) (W b) then _ else (W a).srem (W b)) = _
  rw [if_neg (W_corner ha hb h0)]
  have hd : a % b < 2 ^ 31 := lt_of_le_of_lt (Nat.mod_le _ _) ha
  apply BitVec.eq_of_toInt_eq
  rw [BitVec.toInt_srem, W_toInt ha, W_toInt hb, W_toInt hd]
  rfl

theorem W_and8 {a : ℕ} (ha : a < 2 ^ 31) : Scalar.andi (W a) 4294967288#32 = W (a / 8 * 8) := by
  have h : (W a) &&& 4294967288#32 = ((W a) >>> 3) <<< 3 := by
    have hm : (4294967288#32 : BitVec 32) = BitVec.allOnes 32 <<< 3 := by decide
    rw [hm]; ext k hk
    simp only [BitVec.getElem_and, BitVec.getElem_shiftLeft, BitVec.getElem_ushiftRight, BitVec.getElem_allOnes]
    by_cases h : k < 3
    · simp only [h, decide_true, Bool.not_true, Bool.false_and, Bool.and_false]
    · simp only [h, decide_false, Bool.not_false, Bool.true_and]
      rw [Bool.and_true, show 3 + (k - 3) = k by omega, BitVec.getLsbD_eq_getElem hk]
  apply BitVec.eq_of_toNat_eq
  rw [Scalar.andi, IntOp.andi, h, BitVec.toNat_shiftLeft, BitVec.toNat_ushiftRight, Nat.shiftLeft_eq, Nat.shiftRight_eq_div_pow, W_toNat ha, W_toNat (by omega)]
  omega

theorem W_and1 {a : ℕ} (ha : a < 2 ^ 31) : Scalar.andi (W a) 1#32 = W (a % 2) := by
  apply BitVec.eq_of_toNat_eq
  rw [Idealize.ShloMosaic.WordArith.toNat_andi_lowMask _ _ 1 (by decide), W_toNat ha, W_toNat (by omega)]; rfl

/-- The printed floor division by a positive word. -/
theorem W_floor {a b : ℕ} (ha : a < 2 ^ 31) (hb : b < 2 ^ 31) (h0 : 0 < b) :
    Scalar.select (Scalar.andi (Scalar.cmpi .ne (Scalar.subi (Scalar.extui (Scalar.cmpi .sgt (W a) 0#32)) (Scalar.extui (Scalar.cmpi .slt (W a) 0#32)))
        (Scalar.subi (Scalar.extui (Scalar.cmpi .sgt (W b) 0#32)) (Scalar.extui (Scalar.cmpi .slt (W b) 0#32))))
        (Scalar.cmpi .ne (Scalar.remsi (W a) (W b)) 0#32)) (Scalar.subi (Scalar.divsi (W a) (W b)) 1#32) (Scalar.divsi (W a) (W b)) = W (a / b) := by
  have z : (0#32) = W 0 := rfl
  have hr : a % b < 2 ^ 31 := lt_of_le_of_lt (Nat.mod_le _ _) ha
  rw [z, W_csgt ha (by decide), W_cslt ha (by decide), W_csgt hb (by decide), W_cslt hb (by decide), W_rem ha hb h0, W_cne hr (by decide), W_div ha hb h0]
  rcases Nat.eq_zero_or_pos a with rfl | hp
  · simp [Scalar.select, Scalar.andi, IntOp.andi]
  · simp [hp, h0, Scalar.select, Scalar.andi, IntOp.andi, Scalar.cmpi, IntOp.cmpi]

/-! ## The tile's chunks -/

/-- The first row of the first chunk: the tile's first row, rounded down to a multiple of 8. -/
def a0 (rs : ℕ) : ℕ := rs / 8 * 8
/-- Chunks that cover the tile's rows. -/
def nch (rs re : ℕ) : ℕ := (re - a0 rs + 127) / 128
/-- Chunks the tile walks: an even number, at least two. -/
def nchE (rs re : ℕ) : ℕ := max (nch rs re + nch rs re % 2) 2
def npairs (rs re : ℕ) : ℕ := nchE rs re / 2
/-- Where chunk `j` is read. -/
def cs (rs j : ℕ) : ℕ := min (a0 rs + j * 128) 49872
/-- The first row that chunk `j` counts. -/
def lo (rs j : ℕ) : ℕ := max rs (a0 rs + j * 128)

structure Span (rs re : ℕ) : Prop where
  le : rs ≤ re
  hi : re ≤ 50000

theorem a0_le (rs : ℕ) : a0 rs ≤ rs := by unfold a0; omega
theorem nch_le {rs re : ℕ} (h : Span rs re) : nch rs re ≤ 391 := by
  have := h.hi; unfold nch; omega
theorem nchE_le {rs re : ℕ} (h : Span rs re) : nchE rs re ≤ 392 := by
  have := nch_le h; unfold nchE; omega
theorem two_npairs (rs re : ℕ) : 2 * npairs rs re = nchE rs re := by
  unfold npairs nchE; omega
theorem npairs_pos (rs re : ℕ) : 0 < npairs rs re := by unfold npairs nchE; omega
theorem npairs_le {rs re : ℕ} (h : Span rs re) : npairs rs re ≤ 196 := by
  have := nchE_le h; unfold npairs; omega
theorem cs_le (rs j : ℕ) : cs rs j + 128 ≤ 50000 := by unfold cs; omega
theorem cs_dvd (rs j : ℕ) : 8 ∣ cs rs j := by
  unfold cs a0; rcases Nat.le_total (rs / 8 * 8 + j * 128) 49872 with h | h
  · rw [Nat.min_eq_left h]; omega
  · rw [Nat.min_eq_right h]; decide

theorem v12_eq {rs : ℕ} (h : rs ≤ 50000) : Scalar.andi (W rs) 4294967288#32 = W (a0 rs) := W_and8 (by omega)

theorem csW {rs j : ℕ} (h : rs ≤ 50000) (hj : j < 1000) :
    Scalar.minsi (Scalar.addi (Scalar.andi (W rs) 4294967288#32) (W (j * 128))) 49872#32 = W (cs rs j) := by
  have := a0_le rs
  rw [v12_eq h, W_add, W_min (by omega) (by decide)]; rfl

theorem loW {rs j : ℕ} (h : rs ≤ 50000) (hj : j < 1000) :
    Scalar.maxsi (W rs) (Scalar.addi (Scalar.andi (W rs) 4294967288#32) (W (j * 128))) = W (lo rs j) := by
  have := a0_le rs
  rw [v12_eq h, W_add, W_max (by omega) (by omega)]; rfl

theorem t2_loop_eq {rs re : ℕ} (h : Span rs re) : k1_t2_loop (W rs) (W re) = ⟨0#32, W (npairs rs re), 1#32⟩ := by
  have h1 := h.le; have h2 := h.hi; have h3 := a0_le rs; have h4 := nch_le h; have h5 := nchE_le h; have h6 := npairs_le h
  unfold k1_t2_loop
  dsimp only
  rw [v12_eq (by omega), W_sub (by omega), W_add, W_floor (by omega) (by decide) (by decide)]
  rw [show (re - a0 rs + 127) / 128 = nch rs re from rfl, W_and1 (by omega), W_add, W_max (by omega) (by decide)]
  rw [show max (nch rs re + nch rs re % 2) 2 = nchE rs re from rfl, W_floor (by omega) (by decide) (by decide)]
  rw [show nchE rs re / 2 = npairs rs re from rfl, W_sub (by omega), W_div (by omega) (by decide) (by decide), W_mul, W_add]
  simp

theorem t7_loop_eq {rs re : ℕ} (h : Span rs re) : k1_t7_loop (W rs) (W re) = ⟨W (npairs rs re), W (npairs rs re), 1#32⟩ := by
  have h1 := h.le; have h2 := h.hi; have h3 := a0_le rs; have h4 := nch_le h; have h5 := nchE_le h; have h6 := npairs_le h
  unfold k1_t7_loop
  dsimp only
  rw [v12_eq (by omega), W_sub (by omega), W_add, W_floor (by omega) (by decide) (by decide)]
  rw [show (re - a0 rs + 127) / 128 = nch rs re from rfl, W_and1 (by omega), W_add, W_max (by omega) (by decide)]
  rw [show max (nch rs re + nch rs re % 2) 2 = nchE rs re from rfl, W_floor (by omega) (by decide) (by decide)]
  rw [show nchE rs re / 2 = npairs rs re from rfl, W_sub (by omega), W_div (by omega) (by decide) (by decide), W_mul, W_add, W_add]
  simp

theorem t2_trips {rs re : ℕ} (h : Span rs re) : (k1_t2_loop (W rs) (W re)).trips = npairs rs re := by
  have h6 := npairs_le h
  rw [t2_loop_eq h]; show Scf.trips _ _ _ = _
  unfold Scf.trips; rw [W_toInt (by omega), show (0#32 : BitVec 32).toInt = 0 from rfl, show (1#32 : BitVec 32).toInt = 1 from by decide]; simp

theorem t7_trips {rs re : ℕ} (h : Span rs re) : (k1_t7_loop (W rs) (W re)).trips = 0 := by
  have h6 := npairs_le h
  rw [t7_loop_eq h]; show Scf.trips _ _ _ = _
  unfold Scf.trips; rw [W_toInt (by omega), show (1#32 : BitVec 32).toInt = 1 from by decide]; simp

theorem t2_OK {rs re : ℕ} (h : Span rs re) : (k1_t2_loop (W rs) (W re)).OK := by
  have h6 := npairs_le h; have ht := t2_trips h
  unfold Scf.Loop.trips at ht
  unfold Scf.Loop.OK Scf.OK; rw [ht, t2_loop_eq h]
  constructor
  · show (0:ℤ) < (1#32 : BitVec 32).toInt; decide
  · show (0#32 : BitVec 32).toInt + _ * (1#32 : BitVec 32).toInt < _
    rw [show (0#32 : BitVec 32).toInt = 0 from rfl, show (1#32 : BitVec 32).toInt = 1 from by decide]
    norm_num; omega

theorem t7_OK {rs re : ℕ} (h : Span rs re) : (k1_t7_loop (W rs) (W re)).OK := by
  have h6 := npairs_le h; have ht := t7_trips h
  unfold Scf.Loop.trips at ht
  unfold Scf.Loop.OK Scf.OK; rw [ht, t7_loop_eq h]
  constructor
  · show (0:ℤ) < (1#32 : BitVec 32).toInt; decide
  · show (W (npairs rs re)).toInt + _ * (1#32 : BitVec 32).toInt < _
    rw [W_toInt (by omega)]
    norm_num; omega

theorem iv_eq (t : ℕ) : Scf.iv 0#32 1#32 t = W t := by
  simp [Scf.iv, W]

theorem cond1_iff {rs re : ℕ} (h : Span rs re) (t : Fin (k1_t2_loop (W rs) (W re)).trips) :
    k1_cond1 (W rs) (W re) t = 1#1 ↔ t.val + 1 < npairs rs re := by
  have h1 := h.le; have h2 := h.hi; have h3 := a0_le rs; have h4 := nch_le h; have h5 := nchE_le h; have h6 := npairs_le h
  have ht : t.val < npairs rs re := lt_of_lt_of_eq t.isLt (t2_trips h)
  have h7 := two_npairs rs re
  unfold k1_cond1
  dsimp only
  rw [iv_eq, W_mul, W_add, v12_eq (by omega), W_sub (by omega), W_add, W_floor (by omega) (by decide) (by decide)]
  rw [show (re - a0 rs + 127) / 128 = nch rs re from rfl, W_and1 (by omega), W_add, W_max (by omega) (by decide)]
  rw [show max (nch rs re + nch rs re % 2) 2 = nchE rs re from rfl, W_cslt (by omega) (by omega), W_ext]
  rw [show (0#32 : BitVec 32) = W 0 from rfl, W_cne (by split <;> decide) (by decide), Idealize.ShloMosaic.WordArith.ofBool_eq_one_iff]
  simp; omega

theorem cond2_iff {rs re : ℕ} (h : Span rs re) (t : Fin (k1_t2_loop (W rs) (W re)).trips) :
    k1_cond2 (W rs) (W re) t = 1#1 ↔ t.val + 1 < npairs rs re := by
  have h1 := h.le; have h2 := h.hi; have h3 := a0_le rs; have h4 := nch_le h; have h5 := nchE_le h; have h6 := npairs_le h
  have ht : t.val < npairs rs re := lt_of_lt_of_eq t.isLt (t2_trips h)
  have h7 := two_npairs rs re
  unfold k1_cond2
  dsimp only
  rw [iv_eq, W_mul, W_add, v12_eq (by omega), W_sub (by omega), W_add, W_floor (by omega) (by decide) (by decide)]
  rw [show (re - a0 rs + 127) / 128 = nch rs re from rfl, W_and1 (by omega), W_add, W_max (by omega) (by decide)]
  rw [show max (nch rs re + nch rs re % 2) 2 = nchE rs re from rfl, W_cslt (by omega) (by omega), W_ext]
  rw [show (0#32 : BitVec 32) = W 0 from rfl, W_cne (by split <;> decide) (by decide), Idealize.ShloMosaic.WordArith.ofBool_eq_one_iff]
  simp; omega

end Cert.Proof

end
-- ==== Proof.Pair.lean ====
module

public import proofs.«01_k».proof.Proof.GroupA
public import proofs.«01_k».proof.Proof.GroupB
public import proofs.«01_k».proof.Proof.Words
public import Idealize.ShloMosaic.Lib.Writes

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A flight delivers what is framed around it -/

abbrev EC : UEmb Counters 𝕄 := countersEmb

omit [FloatOps F] in
theorem flight_frame (c : Thread nD τ) {sm : SemLoc sig} {ι : HIx 1} {N : ℕ} {D R₀ : sProp 𝕄} :
    iprop(Transfers.Flight EC c sm ι N D ∗ R₀) ⊢ (Transfers.Flight EC c sm ι N iprop(D ∗ R₀) : sProp 𝕄) := by
  unfold Transfers.Flight
  iintro ⟨⟨⟨%R, HR, %hcap, %hpeek⟩, Hcred⟩, H0⟩
  isplitl [HR H0]
  · iexists iprop(R ∗ R₀)
    isplitl [HR H0]; · isplitl [HR] <;> iassumption
    isplit
    · ipureintro
      intro K
      refine BIBase.Entails.trans ?_ (hcap K)
      iintro ⟨⟨HR, H0⟩, HK⟩
      isplitl [HR]; · iexact HR
      iintro ⟨Hv, HD⟩
      iapply HK
      isplitl [Hv]; · iexact Hv
      isplitl [HD]; · iexact HD
      iexact H0
    · ipureintro
      intro K
      refine BIBase.Entails.trans ?_ (hpeek K)
      iintro ⟨⟨HR, H0⟩, HK⟩
      isplitl [HR]; · iexact HR
      iintro HR
      iapply HK
      isplitl [HR]; · iexact HR
      iexact H0
  · iexact Hcred

/-! ## The two buffers' copies -/

abbrev XF (F : FTy → Type) : Type := S50000x256.Idx → Elt F .f32
abbrev BF : Type := S50000.Idx → BitVec 32

theorem cs_inbX (rs j : ℕ) : ∀ a, (![cs rs j, 0] : Fin 2 → ℕ) a + S128x256.size a ≤ S50000x256.size a
  | 0 => cs_le rs j
  | 1 => by show 0 + 256 ≤ 256; omega
theorem cs_inbB (rs j : ℕ) : ∀ a, (![cs rs j] : Fin 1 → ℕ) a + S128.size a ≤ S50000.size a
  | 0 => cs_le rs j

/-- What chunk `j`'s copies bring: 128 rows of `x`, 128 segments. -/
def xChunk (X : XF F) (rs j : ℕ) : XB F :=
  (xV.slice (Rect.unit (s := S50000x256) ![cs rs j, 0] S128x256.size (cs_inbX rs j)) (fun _ => rfl)).view.read (Elt F) X
def sChunk (B : BF) (rs j : ℕ) : SB :=
  (bV.slice (Rect.unit (s := S50000) ![cs rs j] S128.size (cs_inbB rs j)) (fun _ => rfl)).view.read (Elt F) B

abbrev semA0 : DmaSem sig := ((cc1_scratch8.slice (Rect.unit (s := S2) ![0] S1.size inb_S2_S1_0)).squeeze S_ squeezes_S1_S_).sem
abbrev semA1 : DmaSem sig := ((cc1_scratch8.slice (Rect.unit (s := S2) ![1] S1.size inb_S2_S1_1)).squeeze S_ squeezes_S1_S_).sem
abbrev semB0 : DmaSem sig := ((cc1_scratch9.slice (Rect.unit (s := S2) ![0] S1.size inb_S2_S1_0)).squeeze S_ squeezes_S1_S_).sem
abbrev semB1 : DmaSem sig := ((cc1_scratch9.slice (Rect.unit (s := S2) ![1] S1.size inb_S2_S1_1)).squeeze S_ squeezes_S1_S_).sem

abbrev FxA (d : Dev nD) (i : grid1.Coords) (qx : PosShare TreeShare) (X : XF F) (rs j : ℕ) : sProp 𝕄 :=
  Transfers.Flight EC (thr d i) (.dma semA0) none ((xA).view.amount (SemLoc.dma semA0))
    iprop(((xA).view.loc (thr d i) ↦{fullShare} xChunk X rs j) ∗ ((xV).view.loc (thr d i) ↦{qx} X))
abbrev FsA (d : Dev nD) (i : grid1.Coords) (qb : PosShare TreeShare) (B : BF) (rs j : ℕ) : sProp 𝕄 :=
  Transfers.Flight EC (thr d i) (.dma semA1) none ((sA).view.amount (SemLoc.dma semA1))
    iprop(((sA).view.loc (thr d i) ↦{fullShare} sChunk (F := F) B rs j) ∗ ((bV).view.loc (thr d i) ↦{qb} B))
abbrev FxB (d : Dev nD) (i : grid1.Coords) (qx : PosShare TreeShare) (X : XF F) (rs j : ℕ) : sProp 𝕄 :=
  Transfers.Flight EC (thr d i) (.dma semB0) none ((xB).view.amount (SemLoc.dma semB0))
    iprop(((xB).view.loc (thr d i) ↦{fullShare} xChunk X rs j) ∗ ((xV).view.loc (thr d i) ↦{qx} X))
abbrev FsB (d : Dev nD) (i : grid1.Coords) (qb : PosShare TreeShare) (B : BF) (rs j : ℕ) : sProp 𝕄 :=
  Transfers.Flight EC (thr d i) (.dma semB1) none ((sB).view.amount (SemLoc.dma semB1))
    iprop(((sB).view.loc (thr d i) ↦{fullShare} sChunk (F := F) B rs j) ∗ ((bV).view.loc (thr d i) ↦{qb} B))

/-- The sums after the first `n` chunks. -/
def gChunks (q : Fin 16 → FVec F S16 .f32) (e0 : FVec F S16 .f32) (s0 : BitVec 32) (X : XF F) (B : BF) (rs re : ℕ) (g : GB F) : ℕ → GB F
  | 0 => g
  | n + 1 => chunkRows q e0 s0 (xChunk X rs n) (sChunk (F := F) B rs n) (W (cs rs n)) (W (lo rs n)) (W re) (gChunks q e0 s0 X B rs re g n) 128

/-- Buffer A's side before trip `n`: its two copies in flight, or everything at rest. -/
def sideA (d : Dev nD) (i : grid1.Coords) (qx qb : PosShare TreeShare) (X : XF F) (B : BF) (rs re n : ℕ) : sProp 𝕄 :=
  if n < npairs rs re then iprop(FxA d i qx X rs (2 * n) ∗ FsA d i qb B rs (2 * n))
  else iprop(semVal (thr d i, SemLoc.dma semA0) 0 ∗ semVal (thr d i, SemLoc.dma semA1) 0
    ∗ (∃ f, (xA).view.loc (thr d i) ↦{fullShare} f) ∗ (∃ f, (sA).view.loc (thr d i) ↦{fullShare} f)
    ∗ ((xV).view.loc (thr d i) ↦{qx} X) ∗ ((bV).view.loc (thr d i) ↦{qb} B))
def sideB (d : Dev nD) (i : grid1.Coords) (qx qb : PosShare TreeShare) (X : XF F) (B : BF) (rs re n : ℕ) : sProp 𝕄 :=
  if n < npairs rs re then iprop(FxB d i qx X rs (2 * n + 1) ∗ FsB d i qb B rs (2 * n + 1))
  else iprop(semVal (thr d i, SemLoc.dma semB0) 0 ∗ semVal (thr d i, SemLoc.dma semB1) 0
    ∗ (∃ f, (xB).view.loc (thr d i) ↦{fullShare} f) ∗ (∃ f, (sB).view.loc (thr d i) ↦{fullShare} f)
    ∗ ((xV).view.loc (thr d i) ↦{qx} X) ∗ ((bV).view.loc (thr d i) ↦{qb} B))

/-- What the tile owes and has waited for. -/
abbrev owing (d : Dev nD) (i : grid1.Coords) (O : CellTallies nD τ sig (HIx 1)) (W₀ : Waits sig (HIx 1)) : sProp 𝕄 :=
  iprop(∃ W', ⌜∀ p ∈ W', p ∈ W₀ ∨ p.2 = none⌝ ∗ owes (thr d i) O W')

/-! ## The words a trip computes -/

theorem csA_eq {rs : ℕ} (h : rs ≤ 50000) (t : ℕ) (ht : t < 200) :
    Scalar.minsi (Scalar.addi (Scalar.andi (W rs) 4294967288#32) (Scalar.muli (Scalar.muli 2#32 (Scf.iv 0#32 1#32 t)) 128#32)) 49872#32 = W (cs rs (2 * t)) := by
  rw [iv_eq, W_mul, W_mul]; exact csW h (by omega)
theorem loA_eq {rs : ℕ} (h : rs ≤ 50000) (t : ℕ) (ht : t < 200) :
    Scalar.maxsi (W rs) (Scalar.addi (Scalar.andi (W rs) 4294967288#32) (Scalar.muli (Scalar.muli 2#32 (Scf.iv 0#32 1#32 t)) 128#32)) = W (lo rs (2 * t)) := by
  rw [iv_eq, W_mul, W_mul]; exact loW h (by omega)
theorem csN_eq {rs : ℕ} (h : rs ≤ 50000) (t k : ℕ) (ht : t < 200) (hk : k < 8) :
    Scalar.minsi (Scalar.addi (Scalar.andi (W rs) 4294967288#32) (Scalar.muli (Scalar.addi (Scalar.muli 2#32 (Scf.iv 0#32 1#32 t)) (W k)) 128#32)) 49872#32 = W (cs rs (2 * t + k)) := by
  rw [iv_eq, W_mul, W_add, W_mul]; exact csW h (by omega)
theorem loN_eq {rs : ℕ} (h : rs ≤ 50000) (t k : ℕ) (ht : t < 200) (hk : k < 8) :
    Scalar.maxsi (W rs) (Scalar.addi (Scalar.andi (W rs) 4294967288#32) (Scalar.muli (Scalar.addi (Scalar.muli 2#32 (Scf.iv 0#32 1#32 t)) (W k)) 128#32)) = W (lo rs (2 * t + k)) := by
  rw [iv_eq, W_mul, W_add, W_mul]; exact loW h (by omega)

theorem cs_toNat (rs j : ℕ) : (W (cs rs j)).toNat = cs rs j := W_toNat (by have := cs_le rs j; omega)

theorem off57_eq {rs re : ℕ} (h : Span rs re) (t : Fin (k1_t2_loop (W rs) (W re)).trips) (ht : t.val < 200) : k1_off57 (W rs) (W re) t = ![cs rs (2 * (t.val + 1)), 0] := by
  have := h.le; have := h.hi
  unfold k1_off57; dsimp only; rw [show (2#32 : BitVec 32) = W 2 from rfl, csN_eq (by omega) t.val 2 ht (by decide), cs_toNat, show 2 * t.val + 2 = 2 * (t.val + 1) by omega]
theorem off58_eq {rs re : ℕ} (h : Span rs re) (t : Fin (k1_t2_loop (W rs) (W re)).trips) (ht : t.val < 200) : k1_off58 (W rs) (W re) t = ![cs rs (2 * (t.val + 1))] := by
  have := h.le; have := h.hi
  unfold k1_off58; dsimp only; rw [show (2#32 : BitVec 32) = W 2 from rfl, csN_eq (by omega) t.val 2 ht (by decide), cs_toNat, show 2 * t.val + 2 = 2 * (t.val + 1) by omega]
theorem off95_eq {rs re : ℕ} (h : Span rs re) (t : Fin (k1_t2_loop (W rs) (W re)).trips) (ht : t.val < 200) : k1_off95 (W rs) (W re) t = ![cs rs (2 * (t.val + 1) + 1), 0] := by
  have := h.le; have := h.hi
  unfold k1_off95; dsimp only; rw [show (3#32 : BitVec 32) = W 3 from rfl, csN_eq (by omega) t.val 3 ht (by decide), cs_toNat, show 2 * t.val + 3 = 2 * (t.val + 1) + 1 by omega]
theorem off96_eq {rs re : ℕ} (h : Span rs re) (t : Fin (k1_t2_loop (W rs) (W re)).trips) (ht : t.val < 200) : k1_off96 (W rs) (W re) t = ![cs rs (2 * (t.val + 1) + 1)] := by
  have := h.le; have := h.hi
  unfold k1_off96; dsimp only; rw [show (3#32 : BitVec 32) = W 3 from rfl, csN_eq (by omega) t.val 3 ht (by decide), cs_toNat, show 2 * t.val + 3 = 2 * (t.val + 1) + 1 by omega]

omit [FloatOps F] in
/-- A copy's words, its offsets spelt by the program. -/
theorem xChunk_of (X : XF F) (rs j : ℕ) (o : Fin 2 → ℕ) (ho : ∀ a, o a + S128x256.size a ≤ S50000x256.size a) (h : o = ![cs rs j, 0]) :
    (xV.slice (Rect.unit (s := S50000x256) o S128x256.size ho) (fun _ => rfl)).view.read (Elt F) X = xChunk X rs j := by
  subst h; rfl
omit [FloatOps F] in
theorem sChunk_of (B : BF) (rs j : ℕ) (o : Fin 1 → ℕ) (ho : ∀ a, o a + S128.size a ≤ S50000.size a) (h : o = ![cs rs j]) :
    (bV.slice (Rect.unit (s := S50000) o S128.size ho) (fun _ => rfl)).view.read (Elt F) B = sChunk (F := F) B rs j := by
  subst h; rfl

/-- A group's trip, the chunk's words under the names the sums are stated at. -/
theorem grpTripA (d : Dev nD) (i : grid1.Coords) (v9 v11 : BitVec 32) (hw2 : k1_chk2 v9 v11) (v12 : BitVec 32) (q : Fin 16 → FVec F S16 .f32) (e0 : FVec F S16 .f32) (v72 w0 w1 : BitVec 32) (t2 : Fin (k1_t2_loop v9 v11).trips) (cs lo : BitVec 32)
    (t : Fin k1_t3_loop.trips) (u : Unit) (fx : XB F) (fs : SB) (g : GB F) {c' l' : BitVec 32} (hc : cs = c') (hl : lo = l') :
    (iprop(((xA).view.loc (thr d i) ↦{fullShare} fx) ∗ ((sA).view.loc (thr d i) ↦{fullShare} fs)
        ∗ hG d i (chunkRows q e0 (s0w i) fx fs c' l' v11 g (16 * t.val))) : sProp 𝕄)
      ⊢ wp frame (wpE (defs₀ (F := F)) 𝒱₀ (thr d i) none) Set.univ
          (k1_t3_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            (s0w i) v9 v11 hw2 v12 (q 0) (q 1) (q 2) (q 3) (q 4) (q 5) (q 6) (q 7) (q 8) (q 9) (q 10) (q 11) (q 12) (q 13) (q 14) (q 15) e0 v72 w0 w1 t2 cs lo t u)
          fun _ => iprop(((xA).view.loc (thr d i) ↦{fullShare} fx) ∗ ((sA).view.loc (thr d i) ↦{fullShare} fs)
            ∗ hG d i (chunkRows q e0 (s0w i) fx fs c' l' v11 g (16 * (t.val + 1)))) := by
  subst hc; subst hl
  exact groupA d i (s0w i) v9 v11 hw2 v12 q e0 v72 w0 w1 t2 cs lo t u fx fs g rfl

/-- A group's trip, the chunk's words under the names the sums are stated at. -/
theorem grpTripB (d : Dev nD) (i : grid1.Coords) (v11 : BitVec 32) (q : Fin 16 → FVec F S16 .f32) (e0 : FVec F S16 .f32) (cs lo : BitVec 32)
    (t : Fin k1_t5_loop.trips) (u : Unit) (fx : XB F) (fs : SB) (g : GB F) {c' l' : BitVec 32} (hc : cs = c') (hl : lo = l') :
    (iprop(((xB).view.loc (thr d i) ↦{fullShare} fx) ∗ ((sB).view.loc (thr d i) ↦{fullShare} fs)
        ∗ hG d i (chunkRows q e0 (s0w i) fx fs c' l' v11 g (16 * t.val))) : sProp 𝕄)
      ⊢ wp frame (wpE (defs₀ (F := F)) 𝒱₀ (thr d i) none) Set.univ
          (k1_t5_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            (s0w i) v11 (q 0) (q 1) (q 2) (q 3) (q 4) (q 5) (q 6) (q 7) (q 8) (q 9) (q 10) (q 11) (q 12) (q 13) (q 14) (q 15) e0 cs lo t u)
          fun _ => iprop(((xB).view.loc (thr d i) ↦{fullShare} fx) ∗ ((sB).view.loc (thr d i) ↦{fullShare} fs)
            ∗ hG d i (chunkRows q e0 (s0w i) fx fs c' l' v11 g (16 * (t.val + 1)))) := by
  subst hc; subst hl
  exact groupB d i (s0w i) v11 q e0 cs lo t u fx fs g rfl

omit [FloatOps F] in
/-- A copy's flight, the rest of its source taken in: it delivers the destination and the whole source. -/
theorem flight_join (c : Thread nD τ) {sm : SemLoc sig} {ι : HIx 1} {N : ℕ} {Dd Dd' : sProp 𝕄} {ℓ : Loc nD τ sig} {I : Finset (Idx ℓ)} {qs : PosShare TreeShare}
    {f : Buf (Elt F) ℓ} (h : Dd ⊢ Dd') :
    iprop(Transfers.Flight EC c sm ι N iprop(Dd ∗ (ℓ ↦[I]{qs} f)) ∗ (ℓ ↦[Finset.univ \ I]{qs} f))
      ⊢ (Transfers.Flight EC c sm ι N iprop(Dd' ∗ (ℓ ↦{qs} f)) : sProp 𝕄) := by
  refine (flight_frame c).trans (Transfers.Flight_mono EC c ?_)
  iintro ⟨⟨Hd, Hs⟩, Hr⟩
  isplitl [Hd]
  · iapply h $$ Hd
  iapply (pointsTo_split_subset (Finset.subset_univ I)).2
  isplitl [Hs] <;> iassumption

omit [FloatOps F] in
theorem dst_xA (d : Dev nD) (i : grid1.Coords) (f : XB F) {w v : XB F} (h : w = v) :
    (((xA).view.loc (thr d i) ↦{fullShare} View.write (Elt F) (xA).view f w Finset.univ) : sProp 𝕄) ⊢ (xA).view.loc (thr d i) ↦{fullShare} v :=
  Entails.of_eq (congrArg (fun f => ((xA).view.loc (thr d i) ↦{fullShare} f : sProp 𝕄)) ((View.write_whole_univ (Val := Elt F) cc1_scratch0 f w).trans h))

omit [FloatOps F] in
theorem dst_sA (d : Dev nD) (i : grid1.Coords) (f : SB) {w v : SB} (h : w = v) :
    (((sA).view.loc (thr d i) ↦{fullShare} View.write (Elt F) (sA).view f w Finset.univ) : sProp 𝕄) ⊢ (sA).view.loc (thr d i) ↦{fullShare} v :=
  Entails.of_eq (congrArg (fun f => ((sA).view.loc (thr d i) ↦{fullShare} f : sProp 𝕄)) ((View.write_whole_univ (Val := Elt F) cc1_scratch1 f w).trans h))

omit [FloatOps F] in
theorem dst_xB (d : Dev nD) (i : grid1.Coords) (f : XB F) {w v : XB F} (h : w = v) :
    (((xB).view.loc (thr d i) ↦{fullShare} View.write (Elt F) (xB).view f w Finset.univ) : sProp 𝕄) ⊢ (xB).view.loc (thr d i) ↦{fullShare} v :=
  Entails.of_eq (congrArg (fun f => ((xB).view.loc (thr d i) ↦{fullShare} f : sProp 𝕄)) ((View.write_whole_univ (Val := Elt F) cc1_scratch2 f w).trans h))

omit [FloatOps F] in
theorem dst_sB (d : Dev nD) (i : grid1.Coords) (f : SB) {w v : SB} (h : w = v) :
    (((sB).view.loc (thr d i) ↦{fullShare} View.write (Elt F) (sB).view f w Finset.univ) : sProp 𝕄) ⊢ (sB).view.loc (thr d i) ↦{fullShare} v :=
  Entails.of_eq (congrArg (fun f => ((sB).view.loc (thr d i) ↦{fullShare} f : sProp 𝕄)) ((View.write_whole_univ (Val := Elt F) cc1_scratch3 f w).trans h))

omit [FloatOps F] in
theorem chunkRows_next [FloatOps F] (q : Fin 16 → FVec F S16 .f32) (e0 : FVec F S16 .f32) (s0 : BitVec 32) (X : XF F) (B : BF) (rs re : ℕ) (g : GB F) (n : ℕ) :
    chunkRows q e0 s0 (xChunk X rs n) (sChunk (F := F) B rs n) (W (cs rs n)) (W (lo rs n)) (W re) (gChunks q e0 s0 X B rs re g n) (16 * 8)
      = gChunks q e0 s0 X B rs re g (n + 1) := rfl

/-- The waits recorded at no handshake. -/
theorem rec4 {W₀ W' : Waits sig (HIx 1)} (a b c e : SemLoc sig) (h : ∀ p ∈ W', p ∈ W₀ ∨ p.2 = none) :
    ∀ p ∈ (insert (a, (none : HIx 1)) (insert (b, none) (insert (c, none) (insert (e, none) W'))) : Waits sig (HIx 1)), p ∈ W₀ ∨ p.2 = none := by
  intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact h p hp

theorem pairTrip (d : Dev nD) (i : grid1.Coords) (O : CellTallies nD τ sig (HIx 1)) (W₀ : Waits sig (HIx 1)) (qa qb qc qe : PosShare TreeShare) (X : XF F) (B : BF)
    (rs re : ℕ) (hsp : Span rs re) (hw2 : k1_chk2 (W rs) (W re)) (q : Fin 16 → FVec F S16 .f32) (e0 : FVec F S16 .f32) (v72 : BitVec 32)
    (t : Fin (k1_t2_loop (W rs) (W re)).trips) (u : Unit) (g : GB F) :
    (iprop(Transfers.MayWaits (thr d i) (none : HIx 1) O ∗ sideA d i qa qb X B rs re t.val ∗ sideB d i qc qe X B rs re t.val
        ∗ hG d i (gChunks q e0 (s0w i) X B rs re g (2 * t.val)) ∗ owing d i O W₀) : sProp 𝕄)
      ⊢ wp frame (wpE (defs₀ (F := F)) 𝒱₀ (thr d i) none) Set.univ
          (k1_t2_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            (s0w i) (W rs) (W re) hw2 (Scalar.andi (W rs) 4294967288#32) (q 0) (q 1) (q 2) (q 3) (q 4) (q 5) (q 6) (q 7) (q 8) (q 9) (q 10) (q 11) (q 12) (q 13) (q 14) (q 15) e0 v72 t u)
          fun _ => iprop(Transfers.MayWaits (thr d i) (none : HIx 1) O ∗ sideA d i qa qb X B rs re (t.val + 1) ∗ sideB d i qc qe X B rs re (t.val + 1)
            ∗ hG d i (gChunks q e0 (s0w i) X B rs re g (2 * (t.val + 1))) ∗ owing d i O W₀) := by
  have ht : t.val < npairs rs re := lt_of_lt_of_eq t.isLt (t2_trips hsp)
  have hA : sideA d i qa qb X B rs re t.val = iprop(FxA d i qa X rs (2 * t.val) ∗ FsA d i qb B rs (2 * t.val)) := if_pos ht
  have hB : sideB d i qc qe X B rs re t.val = iprop(FxB d i qc X rs (2 * t.val + 1) ∗ FsB d i qe B rs (2 * t.val + 1)) := if_pos ht
  have h1 := hsp.le; have h2 := hsp.hi
  have hrs : rs ≤ 50000 := by omega
  have ht2 : t.val < 200 := by have := npairs_le hsp; omega
  rw [hA, hB]
  by_cases hn : t.val + 1 < npairs rs re
  · have c1 := (cond1_iff hsp t).mpr hn
    have c2 := (cond2_iff hsp t).mpr hn
    have hA' : sideA d i qa qb X B rs re (t.val + 1) = iprop(FxA d i qa X rs (2 * (t.val + 1)) ∗ FsA d i qb B rs (2 * (t.val + 1))) := if_pos hn
    have hB' : sideB d i qc qe X B rs re (t.val + 1) = iprop(FxB d i qc X rs (2 * (t.val + 1) + 1) ∗ FsB d i qe B rs (2 * (t.val + 1) + 1)) := if_pos hn
    unfold k1_t2_body
    simp only [k1_part12_eq_skeleton]
    iintro ⟨#Hmw, ⟨HxA, HsA⟩, ⟨HxB, HsB⟩, Hg, %W', %hW', HO⟩
    sl_exec (disch := first | sl_exact c1 | sl_exact c2)
    sl_for (fun k (_ : Unit) => iprop(((xA).view.loc (thr d i) ↦{fullShare} xChunk X rs (2 * t.val)) ∗ ((sA).view.loc (thr d i) ↦{fullShare} sChunk (F := F) B rs (2 * t.val))
        ∗ hG d i (chunkRows q e0 (s0w i) (xChunk X rs (2 * t.val)) (sChunk (F := F) B rs (2 * t.val)) (W (cs rs (2 * t.val))) (W (lo rs (2 * t.val))) (W re)
            (gChunks q e0 (s0w i) X B rs re g (2 * t.val)) (16 * k)))) $$ [HxA_dst HsA_dst Hg]
    case region =>
      intro l r
      exact grpTripA d i _ _ _ _ q e0 _ _ _ _ _ _ l _ _ _ _ (csA_eq hrs t.val ht2) (loA_eq hrs t.val ht2)
    · isplitl [HxA_dst]; · iexact HxA_dst
      isplitl [HsA_dst]; · iexact HsA_dst
      iexact Hg
    iintro %_ ⟨HxA_dst, HsA_dst, Hg⟩
    sl_exec (disch := first | sl_exact c1 | sl_exact c2)
    sl_for (fun k (_ : Unit) => iprop(((xB).view.loc (thr d i) ↦{fullShare} xChunk X rs (2 * t.val + 1)) ∗ ((sB).view.loc (thr d i) ↦{fullShare} sChunk (F := F) B rs (2 * t.val + 1))
        ∗ hG d i (chunkRows q e0 (s0w i) (xChunk X rs (2 * t.val + 1)) (sChunk (F := F) B rs (2 * t.val + 1)) (W (cs rs (2 * t.val + 1))) (W (lo rs (2 * t.val + 1))) (W re)
            (gChunks q e0 (s0w i) X B rs re g (2 * t.val + 1)) (16 * k)))) $$ [HxB_dst HsB_dst Hg]
    case region =>
      intro l r
      exact grpTripB d i _ q e0 _ _ l _ _ _ _ (csN_eq hrs t.val 1 ht2 (by decide)) (loN_eq hrs t.val 1 ht2 (by decide))
    · isplitl [HxB_dst]; · iexact HxB_dst
      isplitl [HsB_dst]; · iexact HsB_dst
      iexact Hg
    iintro %_ ⟨HxB_dst, HsB_dst, Hg⟩
    sl_exec (disch := first | sl_exact c1 | sl_exact c2)
    sl_step
    isplitr; · iexact Hmw
    isplitl [HxA HxA_src HsA HsA_src]
    · rw [hA']
      isplitl [HxA HxA_src]
      · iapply (flight_join (thr d i) (dst_xA d i _ (xChunk_of X rs (2 * (t.val + 1)) _ _ (off57_eq hsp t ht2))))
        isplitl [HxA]; · iexact HxA
        iexact HxA_src
      · iapply (flight_join (thr d i) (dst_sA d i _ (sChunk_of (F := F) B rs (2 * (t.val + 1)) _ _ (off58_eq hsp t ht2))))
        isplitl [HsA]; · iexact HsA
        iexact HsA_src
    isplitl [HxB HxB_src HsB HsB_src]
    · rw [hB']
      isplitl [HxB HxB_src]
      · iapply (flight_join (thr d i) (dst_xB d i _ (xChunk_of X rs (2 * (t.val + 1) + 1) _ _ (off95_eq hsp t ht2))))
        isplitl [HxB]; · iexact HxB
        iexact HxB_src
      · iapply (flight_join (thr d i) (dst_sB d i _ (sChunk_of (F := F) B rs (2 * (t.val + 1) + 1) _ _ (off96_eq hsp t ht2))))
        isplitl [HsB]; · iexact HsB
        iexact HsB_src
    isplitl [Hg]; · iexact Hg
    iexists _; isplitr
    swap
    · iexact HO
    ipureintro
    exact rec4 _ _ _ _ hW'
  · have c1 := mt (cond1_iff hsp t).mp hn
    have c2 := mt (cond2_iff hsp t).mp hn
    unfold k1_t2_body
    simp only [k1_part12_eq_skeleton]
    iintro ⟨#Hmw, ⟨HxA, HsA⟩, ⟨HxB, HsB⟩, Hg, %W', %hW', HO⟩
    sl_exec (disch := first | sl_exact c1 | sl_exact c2)
    sl_for (fun k (_ : Unit) => iprop(((xA).view.loc (thr d i) ↦{fullShare} xChunk X rs (2 * t.val)) ∗ ((sA).view.loc (thr d i) ↦{fullShare} sChunk (F := F) B rs (2 * t.val))
        ∗ hG d i (chunkRows q e0 (s0w i) (xChunk X rs (2 * t.val)) (sChunk (F := F) B rs (2 * t.val)) (W (cs rs (2 * t.val))) (W (lo rs (2 * t.val))) (W re)
            (gChunks q e0 (s0w i) X B rs re g (2 * t.val)) (16 * k)))) $$ [HxA_dst HsA_dst Hg]
    case region =>
      intro l r
      exact grpTripA d i _ _ _ _ q e0 _ _ _ _ _ _ l _ _ _ _ (csA_eq hrs t.val ht2) (loA_eq hrs t.val ht2)
    · isplitl [HxA_dst]; · iexact HxA_dst
      isplitl [HsA_dst]; · iexact HsA_dst
      iexact Hg
    iintro %_ ⟨HxA_dst, HsA_dst, Hg⟩
    sl_exec (disch := first | sl_exact c1 | sl_exact c2)
    sl_for (fun k (_ : Unit) => iprop(((xB).view.loc (thr d i) ↦{fullShare} xChunk X rs (2 * t.val + 1)) ∗ ((sB).view.loc (thr d i) ↦{fullShare} sChunk (F := F) B rs (2 * t.val + 1))
        ∗ hG d i (chunkRows q e0 (s0w i) (xChunk X rs (2 * t.val + 1)) (sChunk (F := F) B rs (2 * t.val + 1)) (W (cs rs (2 * t.val + 1))) (W (lo rs (2 * t.val + 1))) (W re)
            (gChunks q e0 (s0w i) X B rs re g (2 * t.val + 1)) (16 * k)))) $$ [HxB_dst HsB_dst Hg]
    case region =>
      intro l r
      exact grpTripB d i _ q e0 _ _ l _ _ _ _ (csN_eq hrs t.val 1 ht2 (by decide)) (loN_eq hrs t.val 1 ht2 (by decide))
    · isplitl [HxB_dst]; · iexact HxB_dst
      isplitl [HsB_dst]; · iexact HsB_dst
      iexact Hg
    iintro %_ ⟨HxB_dst, HsB_dst, Hg⟩
    sl_exec (disch := first | sl_exact c1 | sl_exact c2)
    sl_step
    isplitr; · iexact Hmw
    isplitl [HxA HxA_src HxA_dst HsA HsA_src HsA_dst]
    · unfold sideA; rw [if_neg hn]
      isplitl [HxA]; · iexact HxA
      isplitl [HsA]; · iexact HsA
      isplitl [HxA_dst]; · iexists _; iexact HxA_dst
      isplitl [HsA_dst]; · iexists _; iexact HsA_dst
      isplitl [HxA_src]; · iexact HxA_src
      iexact HsA_src
    isplitl [HxB HxB_src HxB_dst HsB HsB_src HsB_dst]
    · unfold sideB; rw [if_neg hn]
      isplitl [HxB]; · iexact HxB
      isplitl [HsB]; · iexact HsB
      isplitl [HxB_dst]; · iexists _; iexact HxB_dst
      isplitl [HsB_dst]; · iexists _; iexact HsB_dst
      isplitl [HxB_src]; · iexact HxB_src
      iexact HsB_src
    isplitl [Hg]; · iexact Hg
    iexists _; isplitr
    swap
    · iexact HO
    ipureintro
    exact rec4 _ _ _ _ hW'

end Cert.Proof

end
-- ==== Proof.Chk.lean ====
/-
  The side conditions the body assumes of the two words it reads.
-/
module

public import proofs.«01_k».proof.Proof.Pair

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem dvdW {w : BitVec 32} (rs j : ℕ) (h : w = W (cs rs j)) : 8 ∣ w.toNat := by
  rw [h, cs_toNat]; exact cs_dvd rs j

theorem inbX {w : BitVec 32} (rs j : ℕ) (h : w = W (cs rs j)) : ∀ a, (![w.toNat, 0] : Fin 2 → ℕ) a + S128x256.size a ≤ S50000x256.size a := by
  rw [h, cs_toNat]; exact cs_inbX rs j

theorem inbB {w : BitVec 32} (rs j : ℕ) (h : w = W (cs rs j)) : ∀ a, (![w.toNat] : Fin 1 → ℕ) a + S128.size a ≤ S50000.size a := by
  rw [h, cs_toNat]; exact cs_inbB rs j

theorem off19_eq {rs : ℕ} (h : rs ≤ 50000) (r : ℕ) (hr : r < 8) : k1_off19 (W rs) (BitVec.ofNat 32 (128 * r)) = ![cs rs r, 0] := by
  unfold k1_off19; dsimp only; rw [Nat.mul_comm]; rw [csW h (by omega), cs_toNat]
theorem off20_eq {rs : ℕ} (h : rs ≤ 50000) (r : ℕ) (hr : r < 8) : k1_off20 (W rs) (BitVec.ofNat 32 (128 * r)) = ![cs rs r] := by
  unfold k1_off20; dsimp only; rw [Nat.mul_comm]; rw [csW h (by omega), cs_toNat]

theorem csW0 {rs : ℕ} (h : rs ≤ 50000) : Scalar.minsi (Scalar.addi (Scalar.andi (W rs) 4294967288#32) 0#32) 49872#32 = W (cs rs 0) :=
  csW (j := 0) h (by decide)
theorem csW1 {rs : ℕ} (h : rs ≤ 50000) : Scalar.minsi (Scalar.addi (Scalar.andi (W rs) 4294967288#32) 128#32) 49872#32 = W (cs rs 1) :=
  csW (j := 1) h (by decide)

theorem chk1_ok {rs re : ℕ} (h : Span rs re) : k1_chk1 (W rs) := by
  have hrs : rs ≤ 50000 := h.le.trans h.hi
  have e1 : 8 ∣ (k1_mult1 (W rs)).toNat := by unfold k1_mult1; dsimp only; exact dvdW rs 0 (csW0 hrs)
  have e2 : 8 ∣ (k1_mult2 (W rs)).toNat := by unfold k1_mult2; dsimp only; exact dvdW rs 1 (csW1 hrs)
  have e3 : ∀ (r : Fin 2), ∀ a, (k1_off19 (W rs) (BitVec.ofNat 32 (128 * r.val))) a + S128x256.size a ≤ S50000x256.size a := fun r => by
    rw [off19_eq hrs r.val (by have := r.isLt; omega)]; exact cs_inbX rs r.val
  have e4 : ∀ (r : Fin 2), ∀ a, (k1_off20 (W rs) (BitVec.ofNat 32 (128 * r.val))) a + S128.size a ≤ S50000.size a := fun r => by
    rw [off20_eq hrs r.val (by have := r.isLt; omega)]; exact cs_inbB rs r.val
  exact ⟨e1, e3, e4, e2⟩

set_option maxHeartbeats 4000000 in
theorem chk2_ok {rs re : ℕ} (h : Span rs re) : k1_chk2 (W rs) (W re) := by
  have hrs : rs ≤ 50000 := h.le.trans h.hi
  have ht : ∀ t : Fin (k1_t2_loop (W rs) (W re)).trips, t.val < 200 := fun t =>
    lt_of_lt_of_le (lt_of_lt_of_eq t.isLt (t2_trips h)) ((npairs_le h).trans (by decide))
  have no : Fin (k1_t7_loop (W rs) (W re)).trips → False := fun t => absurd (lt_of_lt_of_eq t.isLt (t7_trips h)) (Nat.not_lt_zero _)
  exact ⟨t2_OK h, fun t => dvdW rs _ (csA_eq hrs t.val (ht t)), fun t => inbX rs _ (csA_eq hrs t.val (ht t)), fun t => inbB rs _ (csA_eq hrs t.val (ht t)),
    fun t => dvdW rs _ (csA_eq hrs t.val (ht t)),
    fun t _ => dvdW rs _ (csN_eq hrs t.val 2 (ht t) (by decide)), fun t _ => inbX rs _ (csN_eq hrs t.val 2 (ht t) (by decide)), fun t _ => inbB rs _ (csN_eq hrs t.val 2 (ht t) (by decide)),
    fun t => dvdW rs _ (csN_eq hrs t.val 1 (ht t) (by decide)), fun t => inbX rs _ (csN_eq hrs t.val 1 (ht t) (by decide)), fun t => inbB rs _ (csN_eq hrs t.val 1 (ht t) (by decide)),
    fun t => dvdW rs _ (csN_eq hrs t.val 1 (ht t) (by decide)),
    fun t _ => dvdW rs _ (csN_eq hrs t.val 3 (ht t) (by decide)), fun t _ => inbX rs _ (csN_eq hrs t.val 3 (ht t) (by decide)), fun t _ => inbB rs _ (csN_eq hrs t.val 3 (ht t) (by decide)),
    t7_OK h, fun t => (no t).elim, fun t => (no t).elim, fun t => (no t).elim, fun t => (no t).elim, fun t => (no t).elim, fun t => (no t).elim, fun t => (no t).elim,
    fun t => (no t).elim, fun t => (no t).elim, fun t => (no t).elim, fun t => (no t).elim, fun t => (no t).elim, fun t => (no t).elim, fun t => (no t).elim⟩

end Cert.Proof

end
-- ==== Proof.Fill.lean ====
/-
  The two loops over the accumulator's rows: the one that clears them, and the one that divides them out.
-/
module

public import proofs.«01_k».proof.Proof.Held
public import Idealize.ShloMosaic.Lib.Writes

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- `f` with the rows under `row` and the first `n` registers of row `row` those of `v`. -/
def filled {z : ℕ} {α : Type} (v : (⟨2, ![16, z]⟩ : Shape).Idx → α) (f : (⟨2, ![16, z]⟩ : Shape).Idx → α) (row n : ℕ) :
    (⟨2, ![16, z]⟩ : Shape).Idx → α :=
  fun y => if (y 0).val < row ∨ ((y 0).val = row ∧ (y 1).val < 16 * n) then v y else f y

theorem filled_zero {z : ℕ} {α : Type} (v f : (⟨2, ![16, z]⟩ : Shape).Idx → α) : filled v f 0 0 = f := by
  funext y; exact if_neg (by omega)

theorem filled_next {z : ℕ} {α : Type} (v f : (⟨2, ![16, z]⟩ : Shape).Idx → α) (row n : ℕ) (h : z ≤ 16 * n) : filled v f row n = filled v f (row + 1) 0 := by
  funext y
  have h1 : (y 1).val < z := (y 1).isLt
  unfold filled
  by_cases hy : (y 0).val < row + 1
  · rw [if_pos (by omega), if_pos (by omega)]
  · rw [if_neg (by omega), if_neg (by omega)]

theorem filled_all {z : ℕ} {α : Type} (v f : (⟨2, ![16, z]⟩ : Shape).Idx → α) : filled v f 16 0 = v := by
  funext y
  have h0 : (y 0).val < 16 := (y 0).isLt
  exact if_pos (Or.inl h0)

/-- Column `c` of row `r`. -/
def at2 {z : ℕ} (r : Fin 16) (c : Fin z) : (⟨2, ![16, z]⟩ : Shape).Idx
  | 0 => r
  | 1 => c

/-- One register stored. -/
theorem fill_step {z : ℕ} (m : Memref sig .scVector .vmem (⟨2, ![16, z]⟩ : Shape) .f32) (g : m.view.ty.Contents (Elt F))
    {L : List (View.Piece (Elt F) (⟨2, ![16, z]⟩ : Shape) .f32)} {row k : ℕ} {v f : (⟨2, ![16, z]⟩ : Shape).Idx → F .f32}
    (hL : m.view.read (Elt F) (m.view.writes (Elt F) g L) = filled v f row k) (off : Fin 2 → ℕ)
    (h : ∀ a, off a + S1x16.size a ≤ (⟨2, ![16, z]⟩ : Shape).size a)
    (h0 : off 0 = row) (h1 : off 1 = 16 * k) (pay : S1x16.Idx → F .f32)
    (hp : ∀ j : Fin 16, pay (laneRow j) = v ((Rect.unit (s := (⟨2, ![16, z]⟩ : Shape)) off S1x16.size h).idx (laneRow j))) :
    m.view.read (Elt F) (m.view.writes (Elt F) g (⟨Rect.unit (s := (⟨2, ![16, z]⟩ : Shape)) off ![1, 16] h, pay⟩ :: L)) = filled v f row (k + 1) := by
  funext y
  by_cases hy : (y 0).val = row ∧ 16 * k ≤ (y 1).val ∧ (y 1).val < 16 * (k + 1)
  · obtain ⟨hr, hlo, hhi⟩ := hy
    have hx : ∀ a, (y a).val = off a + 1 * (laneRow ⟨(y 1).val - 16 * k, by omega⟩ a).val := by
      intro a
      match a with
      | 0 => show (y 0).val = off 0 + 1 * 0; omega
      | 1 => show (y 1).val = off 1 + 1 * ((y 1).val - 16 * k); omega
    rw [View.read_writes_cons_hit_of_coords m.view g (Rect.unit (s := (⟨2, ![16, z]⟩ : Shape)) off ![1, 16] h) pay L
      (laneRow ⟨(y 1).val - 16 * k, by omega⟩) y hx, hp]
    have e2 : (Rect.unit (s := (⟨2, ![16, z]⟩ : Shape)) off S1x16.size h).idx (laneRow ⟨(y 1).val - 16 * k, by omega⟩) = y :=
      funext fun a => Fin.ext (hx a).symm
    rw [e2]
    exact (if_pos (Or.inr ⟨hr, hhi⟩)).symm
  · rw [View.read_writes_cons_miss]
    · rw [hL]
      unfold filled
      by_cases hr : (y 0).val < row ∨ ((y 0).val = row ∧ (y 1).val < 16 * k)
      · rw [if_pos hr, if_pos (by omega)]
      · rw [if_neg hr, if_neg (by omega)]
    · intro hm
      obtain ⟨j0, hj0, e0⟩ := (Rect.unit (s := (⟨2, ![16, z]⟩ : Shape)) off ![1, 16] h).mem_set.mp hm 0
      obtain ⟨j1, hj1, e1⟩ := (Rect.unit (s := (⟨2, ![16, z]⟩ : Shape)) off ![1, 16] h).mem_set.mp hm 1
      change j0 < 1 at hj0
      change j1 < 16 at hj1
      change (y 0).val = off 0 + 1 * j0 at e0
      change (y 1).val = off 1 + 1 * j1 at e1
      omega

/-! ## Clearing -/

/-- The cleared accumulator. -/
def zeroG : GB F := fun _ => Scalar.ofBits .f32 0x00000000#32

theorem row1 (t : Fin k1_t1_loop.trips) : k1_off1 t 0 = t.val := by
  have : ∀ t : Fin k1_t1_loop.trips, k1_off1 t 0 = t.val := by decide +kernel
  exact this t

theorem clear_lane (z : ℕ) (f : (⟨2, ![16, z]⟩ : Shape).Idx → F .f32) (pay : S1x16.Idx → F .f32) (off : Fin 2 → ℕ) (h)
    (hp : pay = shapeCast S1x16 (k1_pay182 (F := F)) shapeCasts_S16_S1x16) (j : Fin 16) :
    pay (laneRow j) = (fun _ => Scalar.ofBits .f32 0x00000000#32 : (⟨2, ![16, z]⟩ : Shape).Idx → F .f32)
      ((Rect.unit (s := (⟨2, ![16, z]⟩ : Shape)) off S1x16.size h).idx (laneRow j)) := by
  rw [hp, cast_16]; rfl

set_option maxHeartbeats 8000000 in
theorem clearTrip (d : Dev nD) (i : grid1.Coords) (f : GB F) (t : Fin k1_t1_loop.trips) (u : Unit) :
    (hG d i (filled zeroG f t.val 0) : sProp 𝕄)
      ⊢ wp frame (wpE (defs₀ (F := F)) 𝒱₀ (thr d i) none) Set.univ
          (k1_t1_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2 t u)
          fun _ => hG d i (filled zeroG f (t.val + 1) 0) := by
  unfold k1_t1_body
  simp only [k1_part1_eq_skeleton]
  have h0 := row1 t
  unfold hG
  iintro Hg
  sl_exec
  sl_step
  iapply (hG_of d i ?he) $$ Hg
  case he =>
    rw [← filled_next (z := 272) zeroG f t.val 17 (by decide)]
    have st := fun (L : List (View.Piece (Elt F) S16x272 .f32)) k hL off h h1 h2 pay hp =>
      fill_step (F := F) (z := 272) gS (filled (z := 272) zeroG f t.val 0) (L := L) (row := t.val) (k := k) (v := zeroG) (f := f) hL off h h1 h2 pay
        (clear_lane 272 f pay off h hp)
    refine st _ 16 ?_ _ _ (by exact h0) (by rfl) _ (by rfl)
    refine st _ 15 ?_ _ _ (by exact h0) (by rfl) _ (by rfl)
    refine st _ 14 ?_ _ _ (by exact h0) (by rfl) _ (by rfl)
    refine st _ 13 ?_ _ _ (by exact h0) (by rfl) _ (by rfl)
    refine st _ 12 ?_ _ _ (by exact h0) (by rfl) _ (by rfl)
    refine st _ 11 ?_ _ _ (by exact h0) (by rfl) _ (by rfl)
    refine st _ 10 ?_ _ _ (by exact h0) (by rfl) _ (by rfl)
    refine st _ 9 ?_ _ _ (by exact h0) (by rfl) _ (by rfl)
    refine st _ 8 ?_ _ _ (by exact h0) (by rfl) _ (by rfl)
    refine st _ 7 ?_ _ _ (by exact h0) (by rfl) _ (by rfl)
    refine st _ 6 ?_ _ _ (by exact h0) (by rfl) _ (by rfl)
    refine st _ 5 ?_ _ _ (by exact h0) (by rfl) _ (by rfl)
    refine st _ 4 ?_ _ _ (by exact h0) (by rfl) _ (by rfl)
    refine st _ 3 ?_ _ _ (by exact h0) (by rfl) _ (by rfl)
    refine st _ 2 ?_ _ _ (by exact h0) (by rfl) _ (by rfl)
    refine st _ 1 ?_ _ _ (by exact h0) (by rfl) _ (by rfl)
    refine st [] 0 ?_ _ _ (by exact h0) (by rfl) _ (by rfl)
    rfl

/-! ## Dividing out -/

/-- What is added to a segment's sum of weights. -/
def eps : F .f32 := Scalar.ofBits .f32 0x24E69595#32

/-- The tile's rows of the result, from its accumulators. -/
def outV (g : GB F) : S16x256.Idx → F .f32 :=
  fun y => FloatOps.divf (g (at2 (y 0) ⟨(y 1).val, lt_trans (y 1).isLt (by decide)⟩)) (FloatOps.addf (g (at2 (y 0) ⟨256, by decide⟩)) eps)

def hO (d : Dev nD) (i : grid1.Coords) (f : S16x256.Idx → F .f32) : sProp 𝕄 := (oS).view.loc (thr d i) ↦{fullShare} f

omit [FloatOps F] in
theorem hO_of (d : Dev nD) (i : grid1.Coords) {f g : S16x256.Idx → F .f32} (h : f = g) : ((oS).view.loc (thr d i) ↦{fullShare} f : sProp 𝕄) ⊢ ((oS).view.loc (thr d i) ↦{fullShare} g) := by
  subst h; exact .rfl

theorem row12 (t : Fin k1_t12_loop.trips) : k1_off173 t 0 = t.val := by
  have : ∀ t : Fin k1_t12_loop.trips, k1_off173 t 0 = t.val := by decide +kernel
  exact this t

theorem extract_first {α : Type} (v : S16.Idx → α) : extractAt ![0] (extractStridedSlice S1 ![0] v slices_S16_o0_S1) inpos_S1_p0 = v (lane 0) := by
  unfold extractAt extractStridedSlice
  congr 1
  funext a
  match a with
  | 0 => rfl

/-- The divisor, as the trip computes it. -/
def den (g : GB F) (t : Fin k1_t12_loop.trips) : FVec F S16 .f32 :=
  k1_pay164 (gS.view.readAt (Elt F) (Rect.unit (s := S16x272) (k1_off173 t) S1x16.size (k1_off173_inb t)).toLoadRect g)

theorem den_eq (g : GB F) (t : Fin k1_t12_loop.trips) (r : Fin 16) (hr : r.val = t.val) (j : S16.Idx) :
    den g t j = FloatOps.addf (g (at2 r ⟨256, by decide⟩)) eps := by
  unfold den
  have h0 := row12 t
  have e : (Rect.unit (s := S16x272) (k1_off173 t) S1x16.size (k1_off173_inb t)).toLoadRect.idx (laneRow 0) = at2 (z := 272) r ⟨256, by decide⟩ := by
    funext a
    apply Fin.ext
    match a with
    | 0 => show k1_off173 t 0 + 1 * 0 = r.val; omega
    | 1 => rfl
  unfold k1_pay164
  show FloatOps.addf (extractAt ![0] (extractStridedSlice S1 ![0] (shapeCast S16 (gS.view.readAt (Elt F) (Rect.unit (s := S16x272) (k1_off173 t) S1x16.size (k1_off173_inb t)).toLoadRect g) shapeCasts_S1x16_S16) slices_S16_o0_S1) inpos_S1_p0) eps = _
  rw [extract_first, cast_1x16, View.readAt_apply]
  exact congrArg (fun z => FloatOps.addf (g z) eps) e

theorem out_lane (g : GB F) (t : Fin k1_t12_loop.trips) (pay : S1x16.Idx → F .f32) (off : Fin 2 → ℕ) (h : ∀ a, off a + S1x16.size a ≤ S16x272.size a) (off' : Fin 2 → ℕ)
    (h' : ∀ a, off' a + S1x16.size a ≤ S16x256.size a) (hf : off 0 = t.val) (hf' : off' 0 = t.val) (hb : off' 1 = off 1)
    (hp : pay = shapeCast S1x16 (divf (shapeCast S16 (gS.view.readAt (Elt F) (Rect.unit (s := S16x272) off S1x16.size h).toLoadRect g) shapeCasts_S1x16_S16) (den g t)) shapeCasts_S16_S1x16)
    (j : Fin 16) :
    pay (laneRow j) = outV g ((Rect.unit (s := S16x256) off' S1x16.size h').idx (laneRow j)) := by
  rw [hp, cast_16, divf, cast_1x16, View.readAt_apply]
  unfold outV
  have e0 : (((Rect.unit (s := S16x256) off' S1x16.size h').idx (laneRow j) 0)).val = t.val := by
    show off' 0 + 1 * 0 = t.val; omega
  rw [den_eq g t _ e0]
  have e : (Rect.unit (s := S16x272) off S1x16.size h).toLoadRect.idx (laneRow j)
      = at2 (z := 272) ((Rect.unit (s := S16x256) off' S1x16.size h').idx (laneRow j) 0)
          ⟨((Rect.unit (s := S16x256) off' S1x16.size h').idx (laneRow j) 1).val, lt_trans ((Rect.unit (s := S16x256) off' S1x16.size h').idx (laneRow j) 1).isLt (by decide)⟩ := by
    funext a
    apply Fin.ext
    match a with
    | 0 => show off 0 + 1 * 0 = off' 0 + 1 * 0; omega
    | 1 => show off 1 + 1 * j.val = off' 1 + 1 * j.val; omega
  exact congrArg (fun z => FloatOps.divf (g z) _) e

set_option maxHeartbeats 8000000 in
theorem outTrip (d : Dev nD) (i : grid1.Coords) (g : GB F) (f : S16x256.Idx → F .f32) (t : Fin k1_t12_loop.trips) (u : Unit) :
    (iprop(hG d i g ∗ hO d i (filled (outV g) f t.val 0)) : sProp 𝕄)
      ⊢ wp frame (wpE (defs₀ (F := F)) 𝒱₀ (thr d i) none) Set.univ
          (k1_t12_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2 t u)
          fun _ => iprop(hG d i g ∗ hO d i (filled (outV g) f (t.val + 1) 0)) := by
  unfold k1_t12_body
  simp only [k1_part24_eq_skeleton, k1_part25_eq_skeleton, k1_part26_eq_skeleton]
  have h0 := row12 t
  unfold hG hO
  iintro ⟨Hg, Ho⟩
  sl_exec
  sl_step
  isplitl [Hg]; · iexact Hg
  iapply (hO_of d i ?he) $$ Ho
  case he =>
    rw [← filled_next (z := 256) (outV g) f t.val 16 (by decide)]
    have st := fun (L : List (View.Piece (Elt F) S16x256 .f32)) k hL off h h1 h2 off' h' h3 h4 pay hp =>
      fill_step (F := F) (z := 256) oS (filled (z := 256) (outV g) f t.val 0) (L := L) (row := t.val) (k := k) (v := outV g) (f := f) hL off h h1 h2 pay
        (out_lane g t pay off' h' off h h3 h1 h4 hp)
    refine st _ 15 ?_ _ _ (by exact h0) (by rfl) (k1_off204 t) (k1_off204_inb t) (by exact h0) (by rfl) _ (by rfl)
    refine st _ 14 ?_ _ _ (by exact h0) (by rfl) (k1_off202 t) (k1_off202_inb t) (by exact h0) (by rfl) _ (by rfl)
    refine st _ 13 ?_ _ _ (by exact h0) (by rfl) (k1_off200 t) (k1_off200_inb t) (by exact h0) (by rfl) _ (by rfl)
    refine st _ 12 ?_ _ _ (by exact h0) (by rfl) (k1_off198 t) (k1_off198_inb t) (by exact h0) (by rfl) _ (by rfl)
    refine st _ 11 ?_ _ _ (by exact h0) (by rfl) (k1_off196 t) (k1_off196_inb t) (by exact h0) (by rfl) _ (by rfl)
    refine st _ 10 ?_ _ _ (by exact h0) (by rfl) (k1_off194 t) (k1_off194_inb t) (by exact h0) (by rfl) _ (by rfl)
    refine st _ 9 ?_ _ _ (by exact h0) (by rfl) (k1_off192 t) (k1_off192_inb t) (by exact h0) (by rfl) _ (by rfl)
    refine st _ 8 ?_ _ _ (by exact h0) (by rfl) (k1_off190 t) (k1_off190_inb t) (by exact h0) (by rfl) _ (by rfl)
    refine st _ 7 ?_ _ _ (by exact h0) (by rfl) (k1_off188 t) (k1_off188_inb t) (by exact h0) (by rfl) _ (by rfl)
    refine st _ 6 ?_ _ _ (by exact h0) (by rfl) (k1_off186 t) (k1_off186_inb t) (by exact h0) (by rfl) _ (by rfl)
    refine st _ 5 ?_ _ _ (by exact h0) (by rfl) (k1_off184 t) (k1_off184_inb t) (by exact h0) (by rfl) _ (by rfl)
    refine st _ 4 ?_ _ _ (by exact h0) (by rfl) (k1_off182 t) (k1_off182_inb t) (by exact h0) (by rfl) _ (by rfl)
    refine st _ 3 ?_ _ _ (by exact h0) (by rfl) (k1_off180 t) (k1_off180_inb t) (by exact h0) (by rfl) _ (by rfl)
    refine st _ 2 ?_ _ _ (by exact h0) (by rfl) (k1_off178 t) (k1_off178_inb t) (by exact h0) (by rfl) _ (by rfl)
    refine st _ 1 ?_ _ _ (by exact h0) (by rfl) (k1_off176 t) (k1_off176_inb t) (by exact h0) (by rfl) _ (by rfl)
    refine st [] 0 ?_ _ _ (by exact h0) (by rfl) (k1_off174 t) (k1_off174_inb t) (by exact h0) (by rfl) _ (by rfl)
    rfl

end Cert.Proof

end
-- ==== Proof.Tile.lean ====
/-
  A tile's whole run.
-/
module

public import proofs.«01_k».proof.Proof.Chk
public import proofs.«01_k».proof.Proof.Fill

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tile's number: twice the subcore's, and the core's. -/
def tileNo (i : grid1.Coords) : ℕ := 2 * (i 1).val + (i 0).val

theorem tileNo_lt (i : grid1.Coords) : tileNo i < 32 := by
  have h0 : (i 0).val < 2 := (i 0).isLt
  have h1 : (i 1).val < 16 := (i 1).isLt
  unfold tileNo; omega

/-- Entry `c` of the tile's row of bounds. -/
def bAt (i : grid1.Coords) (c : Fin 16) : S32x16.Idx
  | 0 => ⟨tileNo i, tileNo_lt i⟩
  | 1 => c

theorem rowOff18 (i : grid1.Coords) : k1_off18 i 0 = tileNo i := by
  have h0 : (i 0).val < 2 := (i 0).isLt
  have h1 : (i 1).val < 16 := (i 1).isLt
  show (Scalar.addi (Scalar.muli (W (i 1).val) (W 2)) (W (i 0).val)).toNat = _
  rw [W_mul, W_add, W_toNat (by omega)]; unfold tileNo; omega

theorem extract_snd {α : Type} (v : S16.Idx → α) : extractAt ![0] (extractStridedSlice S1 ![1] v slices_S16_o1_S1) inpos_S1_p0 = v (lane 1) := by
  unfold extractAt extractStridedSlice
  congr 1
  funext a
  match a with
  | 0 => rfl

theorem row18_idx (i : grid1.Coords) (c : Fin 16) :
    (Rect.unit (s := S32x16) (k1_off18 i) S1x16.size (k1_off18_inb i)).toLoadRect.idx (laneRow c) = bAt i c := by
  funext a
  apply Fin.ext
  match a with
  | 0 => show k1_off18 i 0 + 1 * 0 = tileNo i; rw [rowOff18]; rfl
  | 1 => show 0 + 1 * c.val = c.val; omega

theorem word9 (i : grid1.Coords) (R : S32x16.Idx → BitVec 32) :
    extractAt ![0] (k1_pay191 (F := F) (rS.view.readAt (Elt F) (Rect.unit (s := S32x16) (k1_off18 i) S1x16.size (k1_off18_inb i)).toLoadRect R)) inpos_S1_p0 = R (bAt i 0) := by
  refine (extract_first _).trans ?_
  unfold k1_pay190
  rw [cast_1x16]
  exact congrArg R (row18_idx i 0)

theorem word11 (i : grid1.Coords) (R : S32x16.Idx → BitVec 32) :
    extractAt ![0] (k1_pay192 (F := F) (rS.view.readAt (Elt F) (Rect.unit (s := S32x16) (k1_off18 i) S1x16.size (k1_off18_inb i)).toLoadRect R)) inpos_S1_p0 = R (bAt i 1) := by
  refine (extract_snd _).trans ?_
  unfold k1_pay190
  rw [cast_1x16]
  exact congrArg R (row18_idx i 1)

/-- The registers of `q`. -/
def qregs (f : S256.Idx → F .f32) : Fin 16 → FVec F S16 .f32 :=
  ![k1_pay193 (qS.view.readAt (Elt F) (Rect.unit (s := S256) ![0] S16.size inb_S256_S16_0).toLoadRect f),
    k1_pay194 (qS.view.readAt (Elt F) (Rect.unit (s := S256) ![16] S16.size inb_S256_S16_16).toLoadRect f),
    k1_pay195 (qS.view.readAt (Elt F) (Rect.unit (s := S256) ![32] S16.size inb_S256_S16_32).toLoadRect f),
    k1_pay196 (qS.view.readAt (Elt F) (Rect.unit (s := S256) ![48] S16.size inb_S256_S16_48).toLoadRect f),
    k1_pay197 (qS.view.readAt (Elt F) (Rect.unit (s := S256) ![64] S16.size inb_S256_S16_64).toLoadRect f),
    k1_pay198 (qS.view.readAt (Elt F) (Rect.unit (s := S256) ![80] S16.size inb_S256_S16_80).toLoadRect f),
    k1_pay199 (qS.view.readAt (Elt F) (Rect.unit (s := S256) ![96] S16.size inb_S256_S16_96).toLoadRect f),
    k1_pay200 (qS.view.readAt (Elt F) (Rect.unit (s := S256) ![112] S16.size inb_S256_S16_112).toLoadRect f),
    k1_pay201 (qS.view.readAt (Elt F) (Rect.unit (s := S256) ![128] S16.size inb_S256_S16_128).toLoadRect f),
    k1_pay202 (qS.view.readAt (Elt F) (Rect.unit (s := S256) ![144] S16.size inb_S256_S16_144).toLoadRect f),
    k1_pay203 (qS.view.readAt (Elt F) (Rect.unit (s := S256) ![160] S16.size inb_S256_S16_160).toLoadRect f),
    k1_pay204 (qS.view.readAt (Elt F) (Rect.unit (s := S256) ![176] S16.size inb_S256_S16_176).toLoadRect f),
    k1_pay205 (qS.view.readAt (Elt F) (Rect.unit (s := S256) ![192] S16.size inb_S256_S16_192).toLoadRect f),
    k1_pay206 (qS.view.readAt (Elt F) (Rect.unit (s := S256) ![208] S16.size inb_S256_S16_208).toLoadRect f),
    k1_pay207 (qS.view.readAt (Elt F) (Rect.unit (s := S256) ![224] S16.size inb_S256_S16_224).toLoadRect f),
    k1_pay208 (qS.view.readAt (Elt F) (Rect.unit (s := S256) ![240] S16.size inb_S256_S16_240).toLoadRect f)]

/-- The tile's accumulators after every chunk. -/
def gEnd (i : grid1.Coords) (X : XF F) (B : BF) (Q : S256.Idx → F .f32) (rs re : ℕ) : GB F :=
  gChunks (qregs Q) (k1_pay209 (F := F)) (s0w i) X B rs re zeroG (2 * npairs rs re)

/-- The tile's rows of the output. -/
abbrev oTile (i : grid1.Coords) : Memref sig .scVector .hbm S16x256 .f32 :=
  oV.slice (Rect.unit (s := S512x256) (k1_off206 i) S16x256.size (k1_off206_inb i)) (fun _ => rfl)

/-- A trip of the pair loop at the words read. -/
theorem pairAt (d : Dev nD) (i : grid1.Coords) (O : CellTallies nD τ sig (HIx 1)) (W₀ : Waits sig (HIx 1)) (qa qb qc qe : PosShare TreeShare) (X : XF F) (B : BF)
    (rs re : ℕ) (hsp : Span rs re) (v9 v11 : BitVec 32) (h9 : v9 = W rs) (h11 : v11 = W re) (hw2 : k1_chk2 v9 v11) (q : Fin 16 → FVec F S16 .f32) (e0 : FVec F S16 .f32) (v72 : BitVec 32)
    (t : Fin (k1_t2_loop v9 v11).trips) (u : Unit) (g : GB F) :
    (iprop(Transfers.MayWaits (thr d i) (none : HIx 1) O ∗ sideA d i qa qb X B rs re t.val ∗ sideB d i qc qe X B rs re t.val
        ∗ hG d i (gChunks q e0 (s0w i) X B rs re g (2 * t.val)) ∗ owing d i O W₀) : sProp 𝕄)
      ⊢ wp frame (wpE (defs₀ (F := F)) 𝒱₀ (thr d i) none) Set.univ
          (k1_t2_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2
            (s0w i) v9 v11 hw2 (Scalar.andi v9 4294967288#32) (q 0) (q 1) (q 2) (q 3) (q 4) (q 5) (q 6) (q 7) (q 8) (q 9) (q 10) (q 11) (q 12) (q 13) (q 14) (q 15) e0 v72 t u)
          fun _ => iprop(Transfers.MayWaits (thr d i) (none : HIx 1) O ∗ sideA d i qa qb X B rs re (t.val + 1) ∗ sideB d i qc qe X B rs re (t.val + 1)
            ∗ hG d i (gChunks q e0 (s0w i) X B rs re g (2 * (t.val + 1))) ∗ owing d i O W₀) := by
  subst h9 h11
  exact pairTrip d i O W₀ qa qb qc qe X B rs re hsp hw2 q e0 v72 t u g

/-- What a tile starts from. -/
def tilePre (d : Dev nD) (i : grid1.Coords) (O : CellTallies nD τ sig (HIx 1)) (W₀ : Waits sig (HIx 1)) (qa qb qc qe qq qr : PosShare TreeShare) (X : XF F) (B : BF)
    (Q : S256.Idx → F .f32) (R : S32x16.Idx → BitVec 32) (fo : S512x256.Idx → F .f32)
    (f0 f2 : XB F) (f1 f3 : SB) (f4 : S256.Idx → F .f32) (f5 : S32x16.Idx → BitVec 32) (f6 : GB F) (f7 : S16x256.Idx → F .f32) : sProp 𝕄 :=
  iprop(Transfers.MayWaits (thr d i) (none : HIx 1) O ∗ owes (thr d i) O W₀
        ∗ ((xV).view.loc (thr d i) ↦{qa} X) ∗ ((bV).view.loc (thr d i) ↦{qb} B) ∗ ((xV).view.loc (thr d i) ↦{qc} X) ∗ ((bV).view.loc (thr d i) ↦{qe} B)
        ∗ ((qV).view.loc (thr d i) ↦{qq} Q) ∗ ((rV).view.loc (thr d i) ↦{qr} R)
        ∗ ((oTile i).view.loc (thr d i) ↦[(oTile i).view.set]{fullShare} fo)
        ∗ ((xA).view.loc (thr d i) ↦{fullShare} f0) ∗ ((sA).view.loc (thr d i) ↦{fullShare} f1)
        ∗ ((xB).view.loc (thr d i) ↦{fullShare} f2) ∗ ((sB).view.loc (thr d i) ↦{fullShare} f3)
        ∗ ((qS).view.loc (thr d i) ↦{fullShare} f4) ∗ ((rS).view.loc (thr d i) ↦{fullShare} f5)
        ∗ hG d i f6 ∗ hO d i f7
        ∗ semVal (thr d i, SemLoc.dma semA0) 0 ∗ semVal (thr d i, SemLoc.dma semA1) 0 ∗ semVal (thr d i, SemLoc.dma semB0) 0 ∗ semVal (thr d i, SemLoc.dma semB1) 0
        ∗ semVal (thr d i, SemLoc.dma cc1_scoped0.sem) 0 ∗ semVal (thr d i, SemLoc.dma cc1_scoped1.sem) 0 ∗ semVal (thr d i, SemLoc.dma cc1_scoped2.sem) 0)

/-- What a tile leaves. -/
def tilePost (d : Dev nD) (i : grid1.Coords) (O : CellTallies nD τ sig (HIx 1)) (W₀ : Waits sig (HIx 1)) (qa qb qc qe qq qr : PosShare TreeShare) (X : XF F) (B : BF)
    (Q : S256.Idx → F .f32) (R : S32x16.Idx → BitVec 32) (fo : S512x256.Idx → F .f32) (rs re : ℕ) : sProp 𝕄 :=
  iprop(sideA d i qa qb X B rs re (npairs rs re) ∗ sideB d i qc qe X B rs re (npairs rs re)
            ∗ ((qV).view.loc (thr d i) ↦{qq} Q) ∗ ((rV).view.loc (thr d i) ↦{qr} R)
            ∗ ((oTile i).view.loc (thr d i) ↦[(oTile i).view.set]{fullShare} View.write (Elt F) (oTile i).view fo (outV (gEnd i X B Q rs re)) Finset.univ)
            ∗ (∃ f, (qS).view.loc (thr d i) ↦{fullShare} f) ∗ (∃ f, (rS).view.loc (thr d i) ↦{fullShare} f)
            ∗ (∃ f, hG d i f) ∗ (∃ f, hO d i f)
            ∗ semVal (thr d i, SemLoc.dma cc1_scoped0.sem) 0 ∗ semVal (thr d i, SemLoc.dma cc1_scoped1.sem) 0 ∗ semVal (thr d i, SemLoc.dma cc1_scoped2.sem) 0
            ∗ owing d i O W₀)

theorem oTile_of (d : Dev nD) (i : grid1.Coords) (fo : S512x256.Idx → F .f32) (w v : S16x256.Idx → F .f32) (h : v = w) :
    ((oTile i).view.loc (thr d i) ↦[(oTile i).view.set]{fullShare} (oTile i).view.writes (Elt F) fo [⟨Rect.whole S16x256, v⟩] : sProp 𝕄)
      ⊢ ((oTile i).view.loc (thr d i) ↦[(oTile i).view.set]{fullShare} View.write (Elt F) (oTile i).view fo w Finset.univ) := by
  subst h
  exact Entails.of_eq (congrArg (fun f => ((oTile i).view.loc (thr d i) ↦[(oTile i).view.set]{fullShare} f : sProp 𝕄))
    (View.write_univ_eq_writes_whole (Val := Elt F) (oTile i).view fo [] v).symm)

set_option maxHeartbeats 8000000 in
theorem tileRun (d : Dev nD) (i : grid1.Coords) (O : CellTallies nD τ sig (HIx 1)) (W₀ : Waits sig (HIx 1)) (qa qb qc qe qq qr : PosShare TreeShare) (X : XF F) (B : BF)
    (Q : S256.Idx → F .f32) (R : S32x16.Idx → BitVec 32) (fo : S512x256.Idx → F .f32)
    (rs re : ℕ) (hsp : Span rs re) (hr0 : R (bAt i 0) = W rs) (hr1 : R (bAt i 1) = W re)
    (f0 f2 : XB F) (f1 f3 : SB) (f4 : S256.Idx → F .f32) (f5 : S32x16.Idx → BitVec 32) (f6 : GB F) (f7 : S16x256.Idx → F .f32) :
    (tilePre d i O W₀ qa qb qc qe qq qr X B Q R fo f0 f2 f1 f3 f4 f5 f6 f7 : sProp 𝕄)
      ⊢ wp frame (wpE (defs₀ (F := F)) 𝒱₀ (thr d i) none) Set.univ
          (cc1__sc_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2)
          fun _ => tilePost d i O W₀ qa qb qc qe qq qr X B Q R fo rs re := by
  simp only [cc1__sc_body_eq_skeleton]
  unfold cc1__sc_body_skel
  simp only [k1_part27_eq_skeleton, k1_part28_eq_skeleton, k1_part29_eq_skeleton]
  unfold tilePre tilePost
  iintro ⟨#Hmw, HO, Hxa, Hba, Hxc, Hbc, Hq, Hr, Ho, HxA, HsA, HxB, HsB, HqS, HrS, Hg, HoS, Hc0, Hc1, Hc2, Hc3, Hd0, Hd1, Hd2⟩
  sl_exec
  sl_for (fun k (_ : Unit) => hG d i (filled zeroG f6 k 0)) $$ [Hg]
  case region =>
    intro l r
    exact clearTrip d i f6 l r
  · rw [filled_zero]; iexact Hg
  iintro %_ Hg
  sl_exec
  have h9 : tileRun.sl.v9 (F := F) i R f5 = W rs := (word9 (F := F) i _).trans ((congrFun (View.write_whole_univ (Val := Elt F) cc1_scratch5 f5 _) _).trans hr0)
  have hc1 : k1_chk1 (tileRun.sl.v9 (F := F) i R f5) := by rw [h9]; exact chk1_ok hsp
  sl_exec
  have h11 : tileRun.sl.v11 (F := F) i R f5 = W re := (word11 (F := F) i _).trans ((congrFun (View.write_whole_univ (Val := Elt F) cc1_scratch5 f5 _) _).trans hr1)
  have hc2 : k1_chk2 (tileRun.sl.v9 (F := F) i R f5) (tileRun.sl.v11 (F := F) i R f5) := by rw [h9, h11]; exact chk2_ok hsp
  sl_exec
  have hz : filled zeroG f6 (Scf.trips k1_t1_loop.lb k1_t1_loop.ub k1_t1_loop.st) 0 = zeroG := filled_all (z := 272) zeroG f6
  rw [hz]
  have hrs : rs ≤ 50000 := hsp.le.trans hsp.hi
  have hq : qregs (View.write (Elt F) (qS).view f4 (tileRun.sl.dma0_1 (F := F) Q) Finset.univ) = qregs Q :=
    congrArg qregs (View.write_whole_univ (Val := Elt F) cc1_scratch4 f4 _)
  have htr : (k1_t2_loop (tileRun.sl.v9 (F := F) i R f5) (tileRun.sl.v11 (F := F) i R f5)).trips = npairs rs re := by rw [h9, h11]; exact t2_trips hsp
  have ht7 : (k1_t7_loop (tileRun.sl.v9 (F := F) i R f5) (tileRun.sl.v11 (F := F) i R f5)).trips = 0 := by rw [h9, h11]; exact t7_trips hsp
  have hsA : sideA d i qa qb X B rs re 0 = iprop(FxA d i qa X rs (2 * 0) ∗ FsA d i qb B rs (2 * 0)) := if_pos (npairs_pos rs re)
  have hsB : sideB d i qc qe X B rs re 0 = iprop(FxB d i qc X rs (2 * 0 + 1) ∗ FsB d i qe B rs (2 * 0 + 1)) := if_pos (npairs_pos rs re)
  have o19 : ∀ r : Fin 2, k1_off19 (tileRun.sl.v9 (F := F) i R f5) (BitVec.ofNat 32 (128 * r.val)) = ![cs rs r.val, 0] := fun r => by
    rw [h9]; exact off19_eq hrs r.val (by have := r.isLt; omega)
  have o20 : ∀ r : Fin 2, k1_off20 (tileRun.sl.v9 (F := F) i R f5) (BitVec.ofNat 32 (128 * r.val)) = ![cs rs r.val] := fun r => by
    rw [h9]; exact off20_eq hrs r.val (by have := r.isLt; omega)
  sl_for (fun k (_ : Unit) => iprop(Transfers.MayWaits (thr d i) (none : HIx 1) O ∗ sideA d i qa qb X B rs re k ∗ sideB d i qc qe X B rs re k
        ∗ hG d i (gChunks (qregs (View.write (Elt F) (qS).view f4 (tileRun.sl.dma0_1 (F := F) Q) Finset.univ)) (k1_pay209 (F := F)) (s0w i) X B rs re zeroG (2 * k)) ∗ owing d i O W₀)) $$ [Hc0 Hxa Hc1 Hba Hc2 Hxc Hc3 Hbc Hg HO]
  case region =>
    intro l r
    exact pairAt d i O W₀ qa qb qc qe X B rs re hsp _ _ h9 h11 _ (qregs (View.write (Elt F) (qS).view f4 (tileRun.sl.dma0_1 (F := F) Q) Finset.univ)) _ _ l r zeroG
  · isplitr; · iexact Hmw
    isplitl [Hc0 Hxa Hc1 Hba]
    · rw [hsA]
      isplitl [Hc0 Hxa]
      · iapply (flight_join (thr d i) (dst_xA d i _ (xChunk_of X rs 0 _ _ (o19 0))))
        isplitl [Hc0]; · iexact Hc0
        iexact Hxa
      · iapply (flight_join (thr d i) (dst_sA d i _ (sChunk_of (F := F) B rs 0 _ _ (o20 0))))
        isplitl [Hc1]; · iexact Hc1
        iexact Hba
    isplitl [Hc2 Hxc Hc3 Hbc]
    · rw [hsB]
      isplitl [Hc2 Hxc]
      · iapply (flight_join (thr d i) (dst_xB d i _ (xChunk_of X rs 1 _ _ (o19 1))))
        isplitl [Hc2]; · iexact Hc2
        iexact Hxc
      · iapply (flight_join (thr d i) (dst_sB d i _ (sChunk_of (F := F) B rs 1 _ _ (o20 1))))
        isplitl [Hc3]; · iexact Hc3
        iexact Hbc
    isplitl [Hg]; · iexact Hg
    iexists _; isplitr
    swap
    · iexact HO
    ipureintro; intro p hp
    rcases Finset.mem_insert.mp hp with hp | hp; · exact .inr (hp ▸ rfl)
    rcases Finset.mem_insert.mp hp with hp | hp; · exact .inr (hp ▸ rfl)
    exact .inl hp
  iintro %_ ⟨-, HA, HB, Hg, %W1, %hW1, HO⟩
  have htr2 : Scf.trips (k1_t2_loop (tileRun.sl.v9 (F := F) i R f5) (tileRun.sl.v11 (F := F) i R f5)).lb
      (k1_t2_loop (tileRun.sl.v9 (F := F) i R f5) (tileRun.sl.v11 (F := F) i R f5)).ub
      (k1_t2_loop (tileRun.sl.v9 (F := F) i R f5) (tileRun.sl.v11 (F := F) i R f5)).st = npairs rs re := htr
  rw [htr2]
  sl_exec
  sl_for (fun k (_ : Unit) => iprop(hG d i (gChunks (qregs (View.write (Elt F) (qS).view f4 (tileRun.sl.dma0_1 (F := F) Q) Finset.univ)) (k1_pay209 (F := F)) (s0w i) X B rs re zeroG (2 * npairs rs re))
      ∗ hO d i (filled (outV (gChunks (qregs (View.write (Elt F) (qS).view f4 (tileRun.sl.dma0_1 (F := F) Q) Finset.univ)) (k1_pay209 (F := F)) (s0w i) X B rs re zeroG (2 * npairs rs re))) f7 k 0))) $$ [Hg HoS]
  case region =>
    intro l r
    exact outTrip d i _ f7 l r
  · isplitl [Hg]; · iexact Hg
    rw [filled_zero]; iexact HoS
  iintro %_ ⟨Hg, HoS⟩
  have hz2 : ∀ v : S16x256.Idx → F .f32, filled v f7 (Scf.trips k1_t12_loop.lb k1_t12_loop.ub k1_t12_loop.st) 0 = v := fun v => filled_all (z := 256) v f7
  rw [hz2, hq]
  unfold hO
  sl_exec
  sl_step
  isplitl [HA]; · iexact HA
  isplitl [HB]; · iexact HB
  isplitl [Hq]; · iexact Hq
  isplitl [Hr]; · iexact Hr
  isplitl [Ho]
  · iapply (oTile_of d i fo (outV (gEnd i X B Q rs re)) _ ?hv) $$ Ho
    case hv => exact (View.read_whole (Val := Elt F) cc1_scratch7 (outV (gEnd i X B Q rs re)))
  isplitl [HqS]; · iexists _; iexact HqS
  isplitl [HrS]; · iexists _; iexact HrS
  isplitl [Hg]; · iexists _; iexact Hg
  isplitl [HoS]; · iexists _; iexact HoS
  isplitl [Hd0]; · iexact Hd0
  isplitl [Hd1]; · iexact Hd1
  isplitl [Hd2]; · iexact Hd2
  iexists _; isplitr
  swap
  · iexact HO
  ipureintro; intro p hp
  rcases Finset.mem_insert.mp hp with hp | hp; · exact .inr (hp ▸ rfl)
  exact hW1 p hp

end Cert.Proof

end
-- ==== Proof.Region.lean ====
/-
  The TensorCore region: over the 125 blocks of the batch it counts, for each tile, the rows below the tile's first
  segment and below its last one's successor.
-/
module

public import proofs.«01_k».proof.Proof.Tile
public import Idealize.ShloMosaic.Lib.Pipeline.Regions

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe
open Idealize.ShloMosaic.Pipeline (Dat Cfg Window BodyObligation)

local notation "𝕄" => MT nD τ sig (HIx 1) (Elt F) ℕ UU ℕ

/-- Memref `M`'s buffer on core `c`, and it held whole. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The branch at the first point. -/
theorem first_iff (i : grid0.Coords) : Scalar.cmpi .ne (Scalar.extui (Scalar.cmpi .eq (BitVec.ofNat 32 (i 0).val) 0#32)) 0#32 = (if (i 0).val = 0 then 1#1 else (0#1 : BitVec 1)) := by
  have h : ∀ k : Fin 125, Scalar.cmpi .ne (Scalar.extui (Scalar.cmpi .eq (BitVec.ofNat 32 k.val) 0#32)) 0#32 = (if k.val = 0 then 1#1 else (0#1 : BitVec 1)) := by decide +kernel
  exact h (i 0)

/-- The unit rectangle of a whole shape embeds each index at itself. -/
theorem unit_emb {s : Shape} {o : Fin s.rank → ℕ} (ho : ∀ a, o a = 0) (h : ∀ a, o a + s.size a ≤ s.size a) (x : s.Idx) : (Rect.unit (s := s) o s.size h).emb x = x := by
  funext a; apply Fin.ext
  show o a + 1 * (x a).val = (x a).val
  rw [ho a]; omega

/-- A whole store reads back as its payload. -/
theorem read_store32 (M1 : Memref sig .tc .vmem S32x16 .i32) (f : M1.view.ty.Contents (Elt F)) (L : List (View.Piece (Elt F) S32x16 .i32)) (p : S32x16.Idx → BitVec 32) :
    M1.view.read (Elt F) (M1.view.writes (Elt F) f (⟨Rect.unit (s := S32x16) ![0, 0] S32x16.size inb_S32x16_S32x16_0_0, p⟩ :: L)) = p := by
  funext y
  have hy : (Rect.unit (s := S32x16) ![0, 0] S32x16.size inb_S32x16_S32x16_0_0).emb y = y := unit_emb (by decide) _ y
  exact View.read_writes_cons_hit (Val := Elt F) M1.view f (Rect.unit (s := S32x16) ![0, 0] S32x16.size inb_S32x16_S32x16_0_0) p L y y hy

/-- A whole load reads the contents. -/
theorem readAt32 (M1 : Memref sig .tc .vmem S32x16 .i32) (f : M1.view.ty.Contents (Elt F)) :
    M1.view.readAt (Elt F) (Rect.unit (s := S32x16) ![0, 0] S32x16.size inb_S32x16_S32x16_0_0).toLoadRect f = M1.view.read (Elt F) f := by
  funext y
  have hy : (Rect.unit (s := S32x16) ![0, 0] S32x16.size inb_S32x16_S32x16_0_0).emb y = y := unit_emb (by decide) _ y
  exact congrArg (M1.view.read (Elt F) f) hy

theorem readAt_blk (M0 : Memref sig .tc .vmem S1x1x400 .i32) (f : M0.view.ty.Contents (Elt F)) :
    M0.view.readAt (Elt F) (Rect.unit (s := S1x1x400) ![0, 0, 0] S1x1x400.size inb_S1x1x400_S1x1x400_0_0_0).toLoadRect f = M0.view.read (Elt F) f := by
  funext y
  have hy : (Rect.unit (s := S1x1x400) ![0, 0, 0] S1x1x400.size inb_S1x1x400_S1x1x400_0_0_0).emb y = y := unit_emb (by decide) _ y
  exact congrArg (M0.view.read (Elt F) f) hy

set_option maxHeartbeats 2000000 in
/-- A later point: the accumulators counted up by the block. -/
theorem boundsNext (c : Dev nD) (i : grid0.Coords) (hi : (i 0).val ≠ 0) (M0 : Memref sig .tc .vmem S1x1x400 .i32) (h0 : M0.IsWhole) (M1 : Memref sig .tc .vmem S32x16 .i32) (h1 : M1.IsWhole)
    (f0 : Bf F c M0) (f1 : Bf F c M1) :
    (iprop(pt c M0 f0 ∗ pt c M1 f1) : sProp 𝕄)
      ⊢ wp frame (wpE (defs₀ (F := F)) 𝒱₀ (c : Thread nD τ) none) Set.univ (cc0__bounds_body i M0 h0 M1 h1)
          fun _ => iprop(pt c M0 f0 ∗ ∃ g, ⌜M1.view.read (Elt F) g = k0_pay2 (M0.view.read (Elt F) f0) (M1.view.read (Elt F) f1)⌝ ∗ pt c M1 g) := by
  simp only [cc0__bounds_body_eq_skeleton]; unfold cc0__bounds_body_skel
  have hb : ¬ (Scalar.cmpi .ne (Scalar.extui (Scalar.cmpi .eq (BitVec.ofNat 32 (i 0).val) 0#32)) 0#32 = 1#1) := by
    rw [first_iff, if_neg hi]; decide
  iintro ⟨H0, H1⟩
  sl_exec
  sl_step
  isplitl [H0]; · iexact H0
  iexists _; isplitr
  swap
  · iexact H1
  ipureintro
  rw [read_store32, readAt_blk, readAt32]

set_option maxHeartbeats 2000000 in
/-- The first point: from zeros. -/
theorem boundsFirst (c : Dev nD) (i : grid0.Coords) (hi : (i 0).val = 0) (M0 : Memref sig .tc .vmem S1x1x400 .i32) (h0 : M0.IsWhole) (M1 : Memref sig .tc .vmem S32x16 .i32) (h1 : M1.IsWhole)
    (f0 : Bf F c M0) (f1 : Bf F c M1) :
    (iprop(pt c M0 f0 ∗ pt c M1 f1) : sProp 𝕄)
      ⊢ wp frame (wpE (defs₀ (F := F)) 𝒱₀ (c : Thread nD τ) none) Set.univ (cc0__bounds_body i M0 h0 M1 h1)
          fun _ => iprop(pt c M0 f0 ∗ ∃ g, ⌜M1.view.read (Elt F) g = k0_pay2 (M0.view.read (Elt F) f0) (k0_pay1)⌝ ∗ pt c M1 g) := by
  simp only [cc0__bounds_body_eq_skeleton]; unfold cc0__bounds_body_skel
  have hb : (Scalar.cmpi .ne (Scalar.extui (Scalar.cmpi .eq (BitVec.ofNat 32 (i 0).val) 0#32)) 0#32 = 1#1) := by
    rw [first_iff, if_pos hi]
  iintro ⟨H0, H1⟩
  sl_exec
  sl_step
  isplitl [H0]; · iexact H0
  iexists _; isplitr
  swap
  · iexact H1
  ipureintro
  rw [read_store32, readAt_blk]
  exact congrArg _ ((readAt32 (F := F) M1 _).trans (read_store32 (F := F) M1 _ [] _))

/-! ## The counts, block by block -/

/-- Block `n` of the reshaped batch. -/
def blkV (v : S125x1x400.Idx → BitVec 32) (n : ℕ) : S1x1x400.Idx → BitVec 32 := fun y =>
  if h : n < 125 then v (fun | 0 => ⟨n, h⟩ | 1 => ⟨0, by decide⟩ | 2 => y 2 | ⟨_ + 3, h⟩ => absurd h (Nat.not_lt.2 (Nat.le_add_left _ _))) else 0#32

/-- The accumulators after `n` blocks. -/
def bnd (v : S125x1x400.Idx → BitVec 32) : ℕ → S32x16.Idx → BitVec 32
  | 0 => k0_pay1
  | n + 1 => k0_pay2 (F := F) (blkV v n) (bnd v n)

/-- The region's proof data. -/
def dat (V0 : S125x1x400.Idx → BitVec 32) (V1 : S32x16.Idx → BitVec 32) (O : CellTallies nD τ sig (HIx 1)) (rec : Set (SemLoc sig × HIx 1)) (c : Dev nD) : Dat τ (Elt F) (HIx 1) ℕ UU ℕ cfg0 c where
  A w := match w with
    | ⟨0, _⟩ => V0
    | ⟨1, _⟩ => V1
  after w t := match w with
    | ⟨0, _⟩ => blkV V0 t.val
    | ⟨1, _⟩ => bnd (F := F) V0 (t.val + 1)
  Φ _ := Pipeline.scopedRest (Ix := HIx 1) (Name := ℕ) (U := UU) (Lvl := ℕ) (Val := Elt F) spec0 c
  q _ := fullShare
  owed _ := O
  recorded _ := rec

section Dat

variable (V0 : S125x1x400.Idx → BitVec 32) (V1 : S32x16.Idx → BitVec 32) (O : CellTallies nD τ sig (HIx 1)) (rec : Set (SemLoc sig × HIx 1))

theorem coords_val (t : Fin cfg0.N) : ((cfg0.grid.coords t) 0).val = t.val := by
  have : ∀ t : Fin 125, ((grid0.coords t) 0).val = t.val := by decide +kernel
  exact this t

theorem index00 (t : Fin cfg0.N) : (cfg0.win 0).index t 0 = t.val := by
  have : ∀ t : Fin 125, win0_0.index t 0 = t.val := by decide +kernel
  exact this t

theorem blk0_emb (t : Fin cfg0.N) (y : S1x1x400.Idx) :
    (((cfg0.win 0).blk t).view.read (Elt F) V0 y : BitVec 32) = blkV V0 t.val y := by
  have hN : t.val < 125 := lt_of_lt_of_eq t.isLt N_0
  have hc : ((cfg0.grid.coords t) 0).val = t.val := coords_val t
  unfold blkV; rw [dif_pos hN]
  refine congrArg V0 (funext fun a => Fin.ext ?_)
  match a with
  | 0 => refine ((cfg0.win 0).rect_emb_val t y 0).trans ?_; have h0 : (y 0).val < 1 := (y 0).isLt; rw [index00 t]; show t.val * 1 + (y 0).val = t.val; omega
  | 1 => refine ((cfg0.win 0).rect_emb_val t y 1).trans ?_; have h0 : (y 1).val < 1 := (y 1).isLt; show 0 * 1 + (y 1).val = 0; omega
  | 2 => refine ((cfg0.win 0).rect_emb_val t y 2).trans ?_; show 0 * 400 + (y 2).val = (y 2).val; omega
  | ⟨_ + 3, h⟩ => exact absurd h (Nat.not_lt.2 (Nat.le_add_left _ _))

theorem before0 (c : Dev nD) (t : Fin cfg0.N) (d : (cfg0.win 0).block.Idx → Elt F (cfg0.win 0).elt) : (dat (F := F) V0 V1 O rec c).before 0 t d = blkV V0 t.val := by
  unfold Dat.before; rw [if_pos (fetch0_0 t)]
  funext y
  exact blk0_emb (F := F) V0 t y

theorem before1_next (c : Dev nD) (t : Fin cfg0.N) (h : t.val ≠ 0) (d : (cfg0.win 1).block.Idx → Elt F (cfg0.win 1).elt) :
    (dat (F := F) V0 V1 O rec c).before 1 t d = bnd (F := F) V0 t.val := by
  have hN : t.val < 125 := lt_of_lt_of_eq t.isLt N_0
  have hl := lt_of_le_of_lt (Nat.sub_le t.val 1) t.isLt
  rw [Dat.before_out_acc (dat (F := F) V0 V1 O rec c) 1 rfl t h (by
    rw [Bool.eq_false_iff]; intro hf
    have := (flush0_1 _).mp hf
    simp only at this; omega) (fun _ => rfl) d]
  have e : (dat (F := F) V0 V1 O rec c).kept 1 ⟨t.val - 1, hl⟩ d = bnd (F := F) V0 (t.val - 1 + 1) := by
    unfold Dat.kept; dsimp only [dat]; rfl
  rw [e, Nat.sub_add_cancel (Nat.one_le_iff_ne_zero.mpr h)]

/-- A staging buffer held by its elements is held whole. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [h.set_eq_univ]

set_option maxHeartbeats 1000000 in
theorem hbody (c : Dev nD) : BodyObligation (dat (F := F) V0 V1 O rec c) (defs₀ (F := F)) 𝒱₀ (none : HIx 1) Set.univ := fun t => by
  rw [bigSep_W0, bigSep_W0]
  rw [show (dat (F := F) V0 V1 O rec c).Φ t.succ = (dat (F := F) V0 V1 O rec c).Φ t.castSucc from rfl,
    show (dat (F := F) V0 V1 O rec c).owesAt none t.succ = (dat (F := F) V0 V1 O rec c).owesAt none t.castSucc from rfl]
  change _ ⊢ wp _ _ _ (bodyAt0 t) _
  have e0 : ∀ X, (owns (c : Thread nD τ) (st0_0 t) fullShare X : sProp 𝕄) = iprop(∃ f, ⌜(st0_0 t).view.read (Elt F) f = X⌝ ∗ pt c (st0_0 t) f) := fun X => owns_pt c (st0_0 t) (hstage0_0 ((cfg0.slots t 0).cast nbuf0_0)) X
  have e1 : ∀ X, (owns (c : Thread nD τ) (st0_1 t) fullShare X : sProp 𝕄) = iprop(∃ f, ⌜(st0_1 t).view.read (Elt F) f = X⌝ ∗ pt c (st0_1 t) f) := fun X => owns_pt c (st0_1 t) (hstage0_1 ((cfg0.slots t 1).cast nbuf0_1)) X
  iintro ⟨HΦ, Howes, ⟨%d0, H0⟩, ⟨%d1, H1⟩⟩
  ihave H0 := (Entails.of_eq (e0 _)) $$ H0
  ihave H1 := (Entails.of_eq (e1 _)) $$ H1
  icases H0 with ⟨%f0, %hf0, H0⟩
  icases H1 with ⟨%f1, %hf1, H1⟩
  rw [before0] at hf0
  have post : ∀ X : S32x16.Idx → BitVec 32, X = bnd (F := F) V0 (t.val + 1) →
      (iprop((dat (F := F) V0 V1 O rec c).Φ t.castSucc ∗ (dat (F := F) V0 V1 O rec c).owesAt none t.castSucc ∗ pt c (st0_0 t) f0 ∗ ∃ g, ⌜(st0_1 t).view.read (Elt F) g = X⌝ ∗ pt c (st0_1 t) g) : sProp 𝕄)
        ⊢ iprop((dat (F := F) V0 V1 O rec c).Φ t.castSucc ∗ (dat (F := F) V0 V1 O rec c).owesAt none t.castSucc ∗
            owns (c : Thread nD τ) (st0_0 t) fullShare (blkV V0 t.val) ∗ owns (c : Thread nD τ) (st0_1 t) fullShare (bnd (F := F) V0 (t.val + 1))) := by
    intro X hX
    rw [e0, e1]
    iintro ⟨HΦ, Ho, H0, %g, %hg, H1⟩
    isplitl [HΦ]; · iexact HΦ
    isplitl [Ho]; · iexact Ho
    isplitl [H0]
    · iexists f0; isplitr; swap
      · iexact H0
      ipureintro; exact hf0
    iexists g; isplitr; swap
    · iexact H1
    ipureintro; exact hg.trans hX
  have hc : ((grid0.coords t) 0).val = t.val := coords_val t
  by_cases ht : t.val = 0
  · iapply (wp_wand_r frame _ _)
    isplitl [H0 H1]
    · iapply (boundsFirst (F := F) c (grid0.coords t) (hc.trans ht) (st0_0 t) (hstage0_0 ((cfg0.slots t 0).cast nbuf0_0)) (st0_1 t) (hstage0_1 ((cfg0.slots t 1).cast nbuf0_1)) f0 f1)
      isplitl [H0]; · iexact H0
      iexact H1
    iintro %_ ⟨H0, Hg⟩
    iapply (post (k0_pay2 (F := F) ((st0_0 t).view.read (Elt F) f0) k0_pay1) (by rw [hf0, ht]; rfl))
    isplitl [HΦ]; · iexact HΦ
    isplitl [Howes]; · iexact Howes
    isplitl [H0]; · iexact H0
    iexact Hg
  · rw [before1_next V0 V1 O rec c t ht] at hf1
    iapply (wp_wand_r frame _ _)
    isplitl [H0 H1]
    · iapply (boundsNext (F := F) c (grid0.coords t) (fun h => ht (hc.symm.trans h)) (st0_0 t) (hstage0_0 ((cfg0.slots t 0).cast nbuf0_0)) (st0_1 t) (hstage0_1 ((cfg0.slots t 1).cast nbuf0_1)) f0 f1)
      isplitl [H0]; · iexact H0
      iexact H1
    iintro %_ ⟨H0, Hg⟩
    iapply (post (k0_pay2 (F := F) ((st0_0 t).view.read (Elt F) f0) ((st0_1 t).view.read (Elt F) f1)) (by rw [hf0, hf1]; rfl))
    isplitl [HΦ]; · iexact HΦ
    isplitl [Howes]; · iexact Howes
    isplitl [H0]; · iexact H0
    iexact Hg

/-! ## The region -/

theorem Otc_none (d : Dev nD) (n : ℕ) (g : GSem nD τ sig) : (K (F := F)).Otc (N := 1) d n g (none : HIx 1) = 0 := by
  by_contra h
  have := SparseCore.Cfg.lev_of_Otc_pos (K := K (F := F)) (Nat.pos_of_ne_zero h); rw [SparseCore.Cfg.lev_none] at this; omega

end Dat

variable (V0 : Dev nD → S125x1x400.Idx → BitVec 32) (V1 : Dev nD → S32x16.Idx → BitVec 32)

/-- No table is prefetched. -/
abbrev adm : (p : Fin 1) → (pcfgs (F := F) p).Adm := fun p => (cfgs p).toPCfg_adm

/-- What the TensorCore has waited for before the call. -/
abbrev recTc (F : FTy → Type) [FloatOps F] (c : Dev nD) : Set (SemLoc sig × HIx 1) := {p | (K (F := F)).lev (T c, p.1) p.2 ≤ 0}

def pdats : (p : Fin 1) → (c : Dev nD) → Dat τ (Elt F) (HIx 1) ℕ UU ℕ (Pipeline.pin (pcfgs (F := F)) adm p) c
  | ⟨0, _⟩ => fun c => dat (F := F) (V0 c) (V1 c) ((K (F := F)).Otc c 0) (recTc F c) c

theorem index1 (t : Fin cfg0.N) (a : Fin 2) : (cfg0.win 1).index t a = 0 := by
  match a with
  | 0 => rfl
  | 1 => rfl

/-- The accumulators' array, written back whole at the last point. -/
theorem arrAt1 (c : Dev nD) : ((pdats (F := F) V0 V1 0 c).arrAt 1 cfg0.N : S32x16.Idx → BitVec 32) = bnd (F := F) (V0 c) 125 := by
  refine Dat.arrAt_eq_of_cover (pdats (F := F) V0 V1 0 c) 1 (bnd (F := F) (V0 c) 125) (fun t hf => ?_) (fun i => ?_)
  · have h := (flush0_1 t).mp hf
    have hN : t.val < 125 := lt_of_lt_of_eq t.isLt N_0
    have ht : t.val = 124 := by omega
    funext y
    show bnd (F := F) (V0 c) (t.val + 1) _ = bnd (F := F) (V0 c) 125 _
    rw [ht]
    refine congrArg (bnd (F := F) (V0 c) 125) (funext fun a => Fin.ext ?_)
    exact ((cfg0.win 1).rect_emb_val_of_index_zero t a (index1 t a) y).symm
  · have hl : 124 < cfg0.N := by rw [show cfg0.N = 125 from N_0]; decide
    refine ⟨⟨124, hl⟩, (flush0_1 _).mpr rfl, ?_⟩
    refine Finset.mem_map.mpr ⟨fun a => ⟨(i a).val, (i a).isLt⟩, Finset.mem_univ _, ?_⟩
    refine funext fun a => Fin.ext ?_
    exact (cfg0.win 1).rect_emb_val_of_index_zero ⟨124, hl⟩ a (index1 _ a) _

/-- The region's two arrays, and what is owed. -/
def reg : Pipeline.RegionSeg (pcfgs (F := F)) adm (pdats (F := F) V0 V1) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (hbody (V0 c) (V1 c) _ _ c).loose
  hwaits c := Pipeline.cellsWaits_intro _ _ _ _ _ fun w s t => (K (F := F)).mayWait_none _ (fun g => Otc_none c 0 g)
  pre c := iprop(((c : Thread nD τ).loc main_v0 ↦{fullShare} V0 c) ∗ ((c : Thread nD τ).loc main_v1 ↦{fullShare} V1 c) ∗ ∃ W, ⌜(K (F := F)).WBelow (c : Thread nD τ) W 0⌝ ∗ owes (c : Thread nD τ) ((K (F := F)).Otc c 0) W)
  post c := iprop(((c : Thread nD τ).loc main_v0 ↦{fullShare} V0 c) ∗ ((c : Thread nD τ).loc main_v1 ↦{fullShare} (bnd (F := F) (V0 c) 125)) ∗ ∃ W, ⌜(K (F := F)).WBelow (c : Thread nD τ) W 0⌝ ∗ owes (c : Thread nD τ) ((K (F := F)).Otc c 0) W)
  X _ := BI.emp
  Y _ := BI.emp
  Z _ := BI.emp
  hentry c := by
    rw [Pipeline.ownSems0_none, Pipeline.arrays_eq _ _ _ c launch0.arr_whole ((pdats (F := F) V0 V1 0 c).share_full fun _ => rfl), bigSep_W0]
    iintro ⟨⟨H0, H1, %W, %hW, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats (F := F) V0 V1 0 c).Φ 0 = Pipeline.scopedRest spec0 c from rfl]
    iintro ⟨-, -, Hr⟩; iexact Hr
  hout c := by
    rw [Pipeline.ownSems0_none, show (pdats (F := F) V0 V1 0 c).Φ (Fin.last _) = Pipeline.scopedRest spec0 c from rfl]
    iintro Hr
    isplitr; · iempintro
    isplitr; · iempintro
    iexact Hr
  hexit c := by
    rw [Pipeline.arrays_eq _ _ _ c launch0.arr_whole ((pdats (F := F) V0 V1 0 c).share_full fun _ => rfl), bigSep_W0]
    iintro ⟨⟨H0, H1⟩, HO, -, -⟩
    imodintro
    isplitl [H0]; · rw [Dat.arrAt_in _ 0 rfl]; iexact H0
    isplitl [H1]; · rw [← arrAt1 V0 V1 c]; iexact H1
    unfold Pipeline.Dat.owesAt Pipeline.owesWithin
    icases HO with ⟨%W, %hW, HO⟩
    iexists W; isplitr; swap
    · iexact HO
    ipureintro
    intro p hp
    rcases hW hp with h | h
    · exact h
    · obtain ⟨w, s, rfl⟩ := h; exact le_of_eq ((K (F := F)).lev_none _)

end Cert.Proof

end
-- ==== Proof.Counts.lean ====
/-
  What the region counts: tile `w`'s first and last-successor row numbers.
-/
module

public import proofs.«01_k».proof.Proof.Region
public import Idealize.ShloMosaic.Lib.WordSum

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## How many rows lie below a segment -/

/-- The batch word of row `j`. -/
def bat (B : S50000.Idx → BitVec 32) (j : ℕ) : BitVec 32 :=
  if h : j < 50000 then B (fun | 0 => ⟨j, h⟩ | ⟨_ + 1, h⟩ => absurd h (Nat.not_lt.2 (Nat.le_add_left _ _))) else 0#32

/-- The rows of the first `n` whose word is below `k`, counted. -/
def below (B : S50000.Idx → BitVec 32) (k n : ℕ) : ℕ := ∑ j ∈ Finset.range n, if (bat B j).slt (W k) then 1 else 0

theorem below_le (B : S50000.Idx → BitVec 32) (k n : ℕ) : below B k n ≤ n := by
  unfold below
  refine (Finset.sum_le_card_nsmul _ _ 1 fun j _ => ?_).trans (by simp)
  split <;> omega

theorem below_mono (B : S50000.Idx → BitVec 32) {k l : ℕ} (h : k ≤ l) (hl : l < 2 ^ 31) (n : ℕ) : below B k n ≤ below B l n := by
  unfold below
  refine Finset.sum_le_sum fun j _ => ?_
  by_cases hk : (bat B j).slt (W k)
  · have : (bat B j).slt (W l) := by
      unfold BitVec.slt at hk ⊢
      rw [W_toInt (lt_of_le_of_lt h hl)] at hk; rw [W_toInt hl]
      simp only [decide_eq_true_eq] at hk ⊢; omega
    rw [if_pos hk, if_pos this]
  · rw [if_neg hk]; exact Nat.zero_le _

theorem W_zero : W 0 = 0#32 := rfl

theorem W_sum {ι : Type} (s : Finset ι) (f : ι → ℕ) : (∑ i ∈ s, W (f i)) = W (∑ i ∈ s, f i) := by
  classical
  induction s using Finset.cons_induction with
  | empty => rfl
  | cons a s ha ih => rw [Finset.sum_cons, Finset.sum_cons, ih]; exact (BitVec.ofNat_add _ _).symm

/-- A row sum of `[32, 400]` words. -/
theorem rowSum (src : IVec S32x400 32) (j : S32.Idx) :
    multiReductionI .add [1] S32 src 0#32 reduces_S32x400_S32 rfl j
      = ∑ b : Fin 400, src (fun | 0 => j 0 | 1 => b | ⟨_ + 2, h⟩ => absurd h (Nat.not_lt.2 (Nat.le_add_left _ _))) := by
  show reduceFold reduces_S32x400_S32 (· + ·) (0#32 : BitVec 32) src j = _
  rw [reduceFold_add_eq_sum, show (0#32 : BitVec 32) = 0 from rfl, zero_add]
  refine Finset.sum_nbij' (fun i : S32x400.Idx => (i 1 : Fin 400)) (fun b => (fun | 0 => j 0 | 1 => b | ⟨_ + 2, h⟩ => absurd h (Nat.not_lt.2 (Nat.le_add_left _ _)) : S32x400.Idx)) (fun _ _ => Finset.mem_univ _) ?_ ?_ (fun _ _ => rfl) ?_
  · intro b _
    rw [Finset.mem_filter]
    refine ⟨Finset.mem_univ _, funext fun a => ?_⟩
    match a with
    | 0 => rfl
  all_goals
    intro i hi
    have hj : ∀ i : S32x400.Idx, Shape.Reduces.drop reduces_S32x400_S32 i = j → i 0 = j 0 := fun i h => by rw [← h]; rfl
    have h0 := hj i (Finset.mem_filter.mp hi).2
  · funext a
    match a with
    | 0 => exact h0.symm
    | 1 => rfl
  · congr 1
    funext a
    match a with
    | 0 => exact h0
    | 1 => rfl

/-- Row `b` of a block. -/
abbrev lastOf (b : Fin 400) : S1x1x400.Idx := fun | 0 => ⟨0, by decide⟩ | 1 => ⟨0, by decide⟩ | 2 => b | ⟨_ + 3, h⟩ => absurd h (Nat.not_lt.2 (Nat.le_add_left _ _))

theorem castRow (v : S1x1x400.Idx → BitVec 32) (j : S1x400.Idx) (b : Fin 400) (hb : j 1 = b) : shapeCast S1x400 v shapeCasts_S1x1x400_S1x400 j = v (lastOf b) := by
  refine shapeCast_apply _ _ _ _ ?_
  rw [Shape.rowMajor_val_three, Shape.rowMajor_val_two]
  have : (j 0).val < 1 := (j 0).isLt
  rw [hb]
  show (0 * 1 + 0) * 400 + b.val = (j 0).val * 400 + b.val
  omega

theorem castCol (v : S32.Idx → BitVec 32) (x : S32x16.Idx) :
    broadcastTo S32x16 (shapeCast S32x1 (shapeCast S32x1 v shapeCasts_S32_S32x1) shapeCasts_S32x1_S32x1) broadcasts_S32x1_S32x16 x = v (fun | 0 => x 0 | ⟨_ + 1, h⟩ => absurd h (Nat.not_lt.2 (Nat.le_add_left _ _))) := by
  rw [shapeCast_self]
  refine shapeCast_apply _ _ _ _ ?_
  rw [Shape.rowMajor_val_one, Shape.rowMajor_val_two]
  show (x 0).val = (x 0).val * 1 + 0
  omega

theorem cond0_0 (c : Fin 16) : (IntOp.cmpi .eq (BitVec.ofNat 32 (0 * 16 + c.val)) 0#32 = 1#1) = (c.val = 0) := by
  have : ∀ c : Fin 16, (IntOp.cmpi .eq (BitVec.ofNat 32 (0 * 16 + c.val)) 0#32 = 1#1) ↔ (c.val = 0) := by decide +kernel
  exact propext (this c)

theorem cond0_1 (c : Fin 16) : (IntOp.cmpi .eq (BitVec.ofNat 32 (0 * 16 + c.val)) 1#32 = 1#1) = (c.val = 1) := by
  have : ∀ c : Fin 16, (IntOp.cmpi .eq (BitVec.ofNat 32 (0 * 16 + c.val)) 1#32 = 1#1) ↔ (c.val = 1) := by decide +kernel
  exact propext (this c)

/-- One block's step at tile `w`. -/
theorem pay2_at (v3 : S1x1x400.Idx → BitVec 32) (v23 : S32x16.Idx → BitVec 32) (x : S32x16.Idx) :
    k0_pay2 (F := F) v3 v23 x = v23 x + (if (x 1).val = 0 then ∑ b : Fin 400, W (if (v3 (lastOf b)).slt (W (16 * (x 0).val + 0)) then 1 else 0)
      else if (x 1).val = 1 then ∑ b : Fin 400, W (if (v3 (lastOf b)).slt (W (16 * (x 0).val + 16)) then 1 else 0) else 0#32) := by
  have e (k : ℕ) (g : IVec S32x1 32) (hg : ∀ y, g y = W (16 * (y 0).val + k)) :
      broadcastTo S32x16 (shapeCast S32x1 (shapeCast S32x1 (multiReductionI .add [1] S32 (extui 32 (cmpi .slt (broadcastTo S32x400 (shapeCast S1x400 v3 shapeCasts_S1x1x400_S1x400) broadcasts_S1x400_S32x400) (broadcastTo S32x400 g broadcasts_S32x1_S32x400)) natLt_1_32) 0#32 reduces_S32x400_S32 rfl) shapeCasts_S32_S32x1) shapeCasts_S32x1_S32x1) broadcasts_S32x1_S32x16 x
        = ∑ b : Fin 400, W (if (v3 (lastOf b)).slt (W (16 * (x 0).val + k)) then 1 else 0) := by
    rw [castCol, rowSum]
    refine Finset.sum_congr rfl fun b _ => ?_
    show (BitVec.ofBool ((shapeCast S1x400 v3 shapeCasts_S1x1x400_S1x400 _).slt (g _))).setWidth 32 = _
    rw [castRow _ _ b (by rfl), hg, ← W_ext]
    rfl
  have hL : k0_pay2 (F := F) v3 v23 x = shapeCast S32x16 v23 shapeCasts_S32x16_S32x16 x + (if IntOp.cmpi .eq (BitVec.ofNat 32 (0 * 16 + (x 1).val)) 0#32 = 1#1 then
        broadcastTo S32x16 (shapeCast S32x1 (shapeCast S32x1 (multiReductionI .add [1] S32 (extui 32 (cmpi .slt (broadcastTo S32x400 (shapeCast S1x400 v3 shapeCasts_S1x1x400_S1x400) broadcasts_S1x400_S32x400) (broadcastTo S32x400 (muli (iota .tc S32x1 32 [0] iota_S32x1_d0_w32) (broadcast S32x1 16#32)) broadcasts_S32x1_S32x400)) natLt_1_32) 0#32 reduces_S32x400_S32 rfl) shapeCasts_S32_S32x1) shapeCasts_S32x1_S32x1) broadcasts_S32x1_S32x16 x
      else if IntOp.cmpi .eq (BitVec.ofNat 32 (0 * 16 + (x 1).val)) 1#32 = 1#1 then
        broadcastTo S32x16 (shapeCast S32x1 (shapeCast S32x1 (multiReductionI .add [1] S32 (extui 32 (cmpi .slt (broadcastTo S32x400 (shapeCast S1x400 v3 shapeCasts_S1x1x400_S1x400) broadcasts_S1x400_S32x400) (broadcastTo S32x400 (addi (muli (iota .tc S32x1 32 [0] iota_S32x1_d0_w32) (broadcast S32x1 16#32)) (broadcast S32x1 16#32)) broadcasts_S32x1_S32x400)) natLt_1_32) 0#32 reduces_S32x400_S32 rfl) shapeCasts_S32_S32x1) shapeCasts_S32x1_S32x1) broadcasts_S32x1_S32x16 x
      else 0#32) := rfl
  have hk : ∀ y : S32x1.Idx, (muli (iota .tc S32x1 32 [0] iota_S32x1_d0_w32) (broadcast S32x1 16#32) : IVec S32x1 32) y = W (16 * (y 0).val) := fun y => by
    show Scalar.muli (W (0 * 32 + (y 0).val)) (W 16) = _
    rw [W_mul]; congr 1; omega
  rw [hL, shapeCast_self, e 0 _ hk, e 16 _ (fun y => by
    show Scalar.addi ((muli (iota .tc S32x1 32 [0] iota_S32x1_d0_w32) (broadcast S32x1 16#32) : IVec S32x1 32) y) (W 16) = _
    rw [hk, W_add])]
  congr 1
  have c0 := cond0_0 (x 1)
  have c1 := cond0_1 (x 1)
  by_cases h0 : (x 1).val = 0
  · rw [if_pos (c0.symm ▸ h0), if_pos h0]
  · rw [if_neg (fun h => h0 (c0 ▸ h)), if_neg h0]
    by_cases h1 : (x 1).val = 1
    · rw [if_pos (c1.symm ▸ h1), if_pos h1]
    · rw [if_neg (fun h => h1 (c1 ▸ h)), if_neg h1]

/-- The batch reshaped into blocks. -/
abbrev blocks (B : S50000.Idx → BitVec 32) : S125x1x400.Idx → BitVec 32 := shapeCast S125x1x400 B shapeCasts_S50000_S125x1x400

theorem blkV_blocks (B : S50000.Idx → BitVec 32) (n : ℕ) (hn : n < 125) (b : Fin 400) : blkV (blocks B) n (lastOf b) = bat B (400 * n + b.val) := by
  have hb := b.isLt
  unfold blkV bat
  rw [dif_pos hn, dif_pos (by omega)]
  refine shapeCast_apply _ _ _ _ ?_
  rw [Shape.rowMajor_val_three, Shape.rowMajor_val_one]
  show 400 * n + b.val = (n * 1 + 0) * 400 + b.val
  omega

theorem below_add (B : S50000.Idx → BitVec 32) (k n : ℕ) :
    below B k (400 * (n + 1)) = below B k (400 * n) + ∑ b : Fin 400, if (bat B (400 * n + b.val)).slt (W k) then 1 else 0 := by
  unfold below
  rw [show 400 * (n + 1) = 400 * n + 400 from by ring, Finset.sum_range_add, Finset.sum_range (n := 400)]

theorem W_plus (a b : ℕ) : W a + W b = W (a + b) := (BitVec.ofNat_add a b).symm

/-- The accumulators after `n` blocks. -/
theorem bnd_at (B : S50000.Idx → BitVec 32) (x : S32x16.Idx) (n : ℕ) (hn : n ≤ 125) :
    bnd (F := F) (blocks B) n x = (if (x 1).val = 0 then W (below B (16 * (x 0).val) (400 * n)) else if (x 1).val = 1 then W (below B (16 * (x 0).val + 16) (400 * n)) else 0#32) := by
  have hz : ∀ k, below B k (400 * 0) = 0 := fun k => by unfold below; rw [Nat.mul_zero, Finset.range_zero, Finset.sum_empty]
  have hs : ∀ n, n < 125 → ∀ k, (∑ b : Fin 400, W (if (blkV (blocks B) n (lastOf b)).slt (W k) then 1 else 0)) = W (∑ b : Fin 400, if (bat B (400 * n + b.val)).slt (W k) then 1 else 0) := fun n hn k => by
    rw [W_sum]
    refine congrArg W (Finset.sum_congr rfl fun b _ => ?_)
    rw [blkV_blocks B n hn]
  induction n with
  | zero =>
    rw [hz, hz, show bnd (F := F) (blocks B) 0 x = 0#32 from rfl]
    split
    · rfl
    split <;> rfl
  | succ n ih =>
    have ih := ih (by omega)
    refine (pay2_at (F := F) (blkV (blocks B) n) (bnd (F := F) (blocks B) n) x).trans ?_
    rw [ih, hs n (by omega), hs n (by omega), below_add, below_add]
    by_cases h0 : (x 1).val = 0
    · rw [if_pos h0, if_pos h0, if_pos h0, W_plus]; rfl
    rw [if_neg h0, if_neg h0, if_neg h0]
    by_cases h1 : (x 1).val = 1
    · rw [if_pos h1, if_pos h1, if_pos h1, W_plus]
    rw [if_neg h1, if_neg h1, if_neg h1]; rfl

end Cert.Proof

end
-- ==== Proof.Deal.lean ====
/-
  How @main's arrays are dealt to the tiles: read shares of the arrays every tile reads, its own rows of the output; and
  a tile's task from what it is dealt.
-/
module

public import proofs.«01_k».proof.Proof.Counts
public import Idealize.ShloMosaic.Lib.SparseCore.Quiescent
public import Idealize.SL.BI.BigOpNat

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Read shares: what is left after `n` readers have been dealt theirs, and the next reader's -/

def restOf (q : PosShare TreeShare) : ℕ → PosShare TreeShare
  | 0 => q
  | n + 1 => (restOf q n).right
def partOf (q : PosShare TreeShare) (n : ℕ) : PosShare TreeShare := (restOf q n).left

omit [FloatOps F] in
theorem sep_turn (A B C : sProp 𝕄) : iprop(A ∗ B ∗ C) = iprop((B ∗ A) ∗ C) := by
  have h1 : iprop(A ∗ B ∗ C) ⊢ iprop((B ∗ A) ∗ C) := by
    iintro ⟨H1, H2, H3⟩
    isplitl [H1 H2]
    · isplitl [H2] <;> iassumption
    · iexact H3
  have h2 : iprop((B ∗ A) ∗ C) ⊢ iprop(A ∗ B ∗ C) := by
    iintro ⟨⟨H2, H1⟩, H3⟩
    isplitl [H1]; · iexact H1
    isplitl [H2] <;> iassumption
  exact BI.Entails.antisymm h1 h2
omit [FloatOps F] in
theorem sep_nest (A B C : sProp 𝕄) : iprop((A ∗ B) ∗ C) = iprop(A ∗ B ∗ C) := by
  have h1 : iprop((A ∗ B) ∗ C) ⊢ iprop(A ∗ B ∗ C) := by
    iintro ⟨⟨H1, H2⟩, H3⟩
    isplitl [H1]; · iexact H1
    isplitl [H2] <;> iassumption
  have h2 : iprop(A ∗ B ∗ C) ⊢ iprop((A ∗ B) ∗ C) := by
    iintro ⟨H1, H2, H3⟩
    isplitl [H1 H2]
    · isplitl [H1] <;> iassumption
    · iexact H3
  exact BI.Entails.antisymm h1 h2

omit [FloatOps F] in
theorem deal_range {ℓ : Loc nD τ sig} (f : Buf (Elt F) ℓ) (q : PosShare TreeShare) (n : ℕ) :
    (ℓ ↦{q} f : sProp 𝕄) = iprop((bigSep (Finset.range n) fun i => (ℓ ↦{partOf q i} f)) ∗ (ℓ ↦{restOf q n} f)) := by
  induction n with
  | zero =>
      rw [Finset.range_zero, bigSep_empty]
      exact (equiv_iff.mp emp_sep).symm
  | succ n ih =>
      rw [ih, bigSep_range_succ]
      have e : (ℓ ↦{restOf q n} f : sProp 𝕄) = iprop((ℓ ↦{partOf q n} f) ∗ (ℓ ↦{restOf q (n + 1)} f)) :=
        BI.Entails.antisymm (pointsTo_share (PosShare.mem_left_op_right (restOf q n))).1 (pointsTo_share (PosShare.mem_left_op_right (restOf q n))).2
      rw [e]
      exact sep_turn _ _ _

omit [FloatOps F] in
theorem bigSep_fin (n : ℕ) (Φ : ℕ → sProp 𝕄) : (bigSep Finset.univ fun i : Fin n => Φ i.val) = bigSep (Finset.range n) Φ := by
  have h := bigSep_map (s := (Finset.univ : Finset (Fin n))) Fin.valEmbedding (Φ := Φ)
  rw [Fin.map_valEmbedding_univ, Nat.Iio_eq_range] at h
  exact h.symm

/-- What the dealing of `f`'s array to the thirty-two tiles leaves. -/
def leftOver {ℓ : Loc nD τ sig} (f : Buf (Elt F) ℓ) : sProp 𝕄 :=
  iprop((bigSep Finset.univ fun c : Fin 2 => (ℓ ↦{restOf (partOf fullShare c.val) 16} f)) ∗ (ℓ ↦{restOf fullShare 2} f))

abbrev tq (c i : ℕ) : PosShare TreeShare := partOf (partOf fullShare c) i

omit [FloatOps F] in
theorem deal_tiles {ℓ : Loc nD τ sig} (f : Buf (Elt F) ℓ) :
    (ℓ ↦{fullShare} f : sProp 𝕄)
      = iprop((bigSep Finset.univ fun c : Fin 2 => bigSep Finset.univ fun i : Fin 16 => (ℓ ↦{tq c.val i.val} f)) ∗ leftOver f) := by
  unfold leftOver
  have h2 : (bigSep (Finset.range 2) fun c => (ℓ ↦{partOf fullShare c} f : sProp 𝕄))
      = iprop((bigSep Finset.univ fun c : Fin 2 => bigSep Finset.univ fun i : Fin 16 => (ℓ ↦{tq c.val i.val} f))
          ∗ (bigSep Finset.univ fun c : Fin 2 => (ℓ ↦{restOf (partOf fullShare c.val) 16} f))) := by
    rw [← bigSep_sep', ← bigSep_fin]
    refine bigSep_congr fun c _ => ?_
    rw [bigSep_fin 16 (fun i => (ℓ ↦{tq c.val i} f : sProp 𝕄))]
    exact deal_range f _ 16
  rw [deal_range f fullShare 2, h2]
  exact sep_nest _ _ _

/-! ## The output's rows -/

def crd (c : Fin 2) (i : Fin 16) : grid1.Coords :=
  fun | 0 => c | 1 => i | ⟨_ + 2, h⟩ => absurd h (Nat.not_lt.2 (Nat.le_add_left _ _))

theorem tileNo_crd (c : Fin 2) (i : Fin 16) : tileNo (crd c i) = 2 * i.val + c.val := rfl

theorem rowOff206 (i : grid1.Coords) : k1_off206 i 0 = 16 * tileNo i := by
  have h0 : (i 0).val < 2 := (i 0).isLt
  have h1 : (i 1).val < 16 := (i 1).isLt
  show (Scalar.muli (Scalar.addi (Scalar.muli (W (i 1).val) (W 2)) (W (i 0).val)) (W 16)).toNat = _
  rw [W_mul, W_add, W_mul, W_toNat (by omega)]; unfold tileNo; omega
theorem colOff206 (i : grid1.Coords) : k1_off206 i 1 = 0 := rfl

/-- The rows a tile writes. -/
def rowSet (i : grid1.Coords) : Finset S512x256.Idx := (oTile i).view.set

theorem mem_rowSet (i : grid1.Coords) (x : S512x256.Idx) : x ∈ rowSet i ↔ (x 0).val / 16 = tileNo i := by
  have hs : rowSet i = (Rect.unit (s := S512x256) (k1_off206 i) S16x256.size (k1_off206_inb i)).set := by
    show ((View.whole (main_v2_scv : Ref sig .scVector)).slice _).set = _
    rw [View.set_slice]; exact Finset.map_refl
  have h1 : (x 1).val < 256 := (x 1).isLt
  rw [hs, Rect.mem_set_unit]
  constructor
  · intro h
    have := h 0
    rw [rowOff206] at this
    have h2 : (x 0).val < 16 * tileNo i + 16 := this.2
    have h3 := this.1
    omega
  · intro h a
    match a with
    | 0 => rw [rowOff206]; show _ ∧ (x 0).val < _ + 16; omega
    | 1 => rw [colOff206]; show _ ∧ (x 1).val < 0 + 256; omega

/-- The tile that writes a row of the output, and the row's place among the tile's. -/
def rowCrd (x : S512x256.Idx) : grid1.Coords :=
  crd ⟨(x 0).val / 16 % 2, Nat.mod_lt _ (by decide)⟩ ⟨(x 0).val / 32, by have h : (x 0).val < 512 := (x 0).isLt; omega⟩
def rowIn (x : S512x256.Idx) : S16x256.Idx
  | 0 => ⟨(x 0).val % 16, Nat.mod_lt _ (by decide)⟩
  | 1 => x 1

theorem crd_tileNo {i j : grid1.Coords} (h : tileNo i = tileNo j) : i = j := by
  have h0 : (i 0).val < 2 := (i 0).isLt
  have h0' : (j 0).val < 2 := (j 0).isLt
  unfold tileNo at h
  funext a
  match a with
  | 0 => exact Fin.ext (by omega)
  | 1 => exact Fin.ext (by omega)

theorem tileNo_rowCrd (x : S512x256.Idx) : tileNo (rowCrd x) = (x 0).val / 16 := by
  unfold rowCrd; rw [tileNo_crd]; show 2 * ((x 0).val / 32) + (x 0).val / 16 % 2 = _; omega

/-- The rows a tile counts: those below its first segment, those below its last one's successor. -/
def rsOf (B : BF) (i : grid1.Coords) : ℕ := below B (16 * tileNo i) 50000
def reOf (B : BF) (i : grid1.Coords) : ℕ := below B (16 * tileNo i + 16) 50000

/-- The output. -/
def outAll (X : XF F) (B : BF) (Q : S256.Idx → F .f32) : S512x256.Idx → F .f32 := fun x =>
  outV (gEnd (rowCrd x) X B Q (rsOf B (rowCrd x)) (reOf B (rowCrd x))) (rowIn x)

theorem write_outAll (i : grid1.Coords) (X : XF F) (B : BF) (Q : S256.Idx → F .f32) (fo : S512x256.Idx → F .f32) :
    ∀ x ∈ (oTile i).view.set, View.write (Elt F) (oTile i).view fo (outV (gEnd i X B Q (rsOf B i) (reOf B i))) Finset.univ x = outAll X B Q x := by
  intro x hx
  have hx' : x ∈ rowSet i := hx
  obtain ⟨y, -, rfl⟩ := Finset.mem_map.mp hx
  rw [mem_rowSet] at hx'
  have hy : (y 0).val < 16 := (y 0).isLt
  have e : rowCrd ((oTile i).view.emb y) = i := crd_tileNo ((tileNo_rowCrd _).trans hx')
  have e0 : (((oTile i).view.emb y) 0).val = 16 * tileNo i + (y 0).val := by
    refine (show (((oTile i).view.emb y) 0).val = k1_off206 i 0 + 1 * (y 0).val from rfl).trans ?_
    rw [rowOff206, Nat.one_mul]
  have e1 : (((oTile i).view.emb y) 1).val = (y 1).val := by
    refine (show (((oTile i).view.emb y) 1).val = k1_off206 i 1 + 1 * (y 1).val from rfl).trans ?_
    rw [colOff206, Nat.one_mul, Nat.zero_add]
  have ey : rowIn ((oTile i).view.emb y) = y := by
    funext a
    match a with
    | 0 => exact Fin.ext (by show (((oTile i).view.emb y) 0).val % 16 = (y 0).val; rw [e0]; omega)
    | 1 => exact Fin.ext e1
  rw [View.write_emb_of_mem _ _ (Finset.mem_univ y)]
  refine (cast_eq _ _).trans ?_
  unfold outAll
  rw [e, ey]

theorem oTile_all (d : Dev nD) (i : grid1.Coords) (X : XF F) (B : BF) (Q : S256.Idx → F .f32) (fo : S512x256.Idx → F .f32) :
    ((oTile i).view.loc (thr d i) ↦[(oTile i).view.set]{fullShare} View.write (Elt F) (oTile i).view fo (outV (gEnd i X B Q (rsOf B i) (reOf B i))) Finset.univ : sProp 𝕄)
      = (oLoc d ↦[rowSet i]{fullShare} outAll X B Q) :=
  pointsTo_congr (write_outAll i X B Q fo)

theorem rows_disjoint (s : Finset (Fin 2 × Fin 16)) :
    ∀ p ∈ s, ∀ p' ∈ s, p ≠ p' → Disjoint (rowSet (crd p.1 p.2)) (rowSet (crd p'.1 p'.2)) := by
  intro p _ p' _ hne
  rw [Finset.disjoint_left]
  intro x h h'
  rw [mem_rowSet, tileNo_crd] at h h'
  have h1 := p.1.isLt
  have h2 := p'.1.isLt
  exact hne (Prod.ext (Fin.ext (by omega)) (Fin.ext (by omega)))

theorem rows_cover : ((Finset.univ : Finset (Fin 2 × Fin 16)).biUnion fun p => rowSet (crd p.1 p.2)) = Finset.univ := by
  refine Finset.eq_univ_iff_forall.mpr fun x => Finset.mem_biUnion.mpr ?_
  refine ⟨(⟨(x 0).val / 16 % 2, Nat.mod_lt _ (by decide)⟩, ⟨(x 0).val / 32, by have h : (x 0).val < 512 := (x 0).isLt; omega⟩), Finset.mem_univ _, ?_⟩
  exact (mem_rowSet _ x).mpr (tileNo_rowCrd x).symm

omit [FloatOps F] in
theorem out_rows (d : Dev nD) (f : Buf (Elt F) (oLoc d)) :
    (oLoc d ↦{fullShare} f : sProp 𝕄)
      = bigSep Finset.univ fun c : Fin 2 => bigSep Finset.univ fun i : Fin 16 => (oLoc d ↦[rowSet (crd c i)]{fullShare} f) := by
  rw [← bigSep_univ_prod (fun (p : Fin 2 × Fin 16) => (oLoc d ↦[rowSet (crd p.1 p.2)]{fullShare} f : sProp 𝕄)),
    ← pointsTo_biUnion (ℓ := oLoc d) Finset.univ (fun p : Fin 2 × Fin 16 => rowSet (crd p.1 p.2)) (rows_disjoint _), rows_cover]

/-! ## A tile's own semaphores and buffers -/

omit [FloatOps F] in
/-- Of a collection, the members `f` names, and the others. -/
theorem bigSep_named {A B : Type} [DecidableEq A] [DecidableEq B] {s : Finset A} {t : Finset B} {f : B → A} (inj : Function.Injective f)
    (sub : ∀ j ∈ t, f j ∈ s) (Φ : A → sProp 𝕄) :
    bigSep s Φ = iprop(bigSep t (fun j => Φ (f j)) ∗ bigSep (s \ t.image f) Φ) := by
  have h : bigSep (t.image f) Φ = bigSep t (fun j => Φ (f j)) := by
    rw [show t.image f = t.map ⟨f, inj⟩ from (Finset.map_eq_image ⟨f, inj⟩ t).symm]
    exact bigSep_map (s := t) ⟨f, inj⟩
  rw [← h]
  exact bigSep_sdiff_split (Finset.image_subset_iff.mpr sub)

abbrev cells7 : Finset (SemLoc sig) :=
  {SemLoc.dma semA0, SemLoc.dma semA1, SemLoc.dma semB0, SemLoc.dma semB1, SemLoc.dma cc1_scoped0.sem, SemLoc.dma cc1_scoped1.sem, SemLoc.dma cc1_scoped2.sem}

omit [FloatOps F] in
theorem ownSems0_tile (d : Dev nD) (i : grid1.Coords) :
    (ownSems0 (thr d i) : sProp 𝕄)
      = iprop((semVal (thr d i, SemLoc.dma semA0) 0 ∗ semVal (thr d i, SemLoc.dma semA1) 0 ∗ semVal (thr d i, SemLoc.dma semB0) 0 ∗ semVal (thr d i, SemLoc.dma semB1) 0
          ∗ semVal (thr d i, SemLoc.dma cc1_scoped0.sem) 0 ∗ semVal (thr d i, SemLoc.dma cc1_scoped1.sem) 0 ∗ semVal (thr d i, SemLoc.dma cc1_scoped2.sem) 0)
        ∗ bigSep (ownCells (thr d i) \ cells7.image fun s => (thr d i, s)) fun g => semVal g 0) := by
  unfold SparseCore.Cfg.ownSems0
  have hsc : ∀ s ∈ cells7, s.isScoped .scVector = true := by decide
  rw [bigSep_named (t := cells7) (f := fun s => (thr d i, s)) (fun a b h => (Prod.mk.inj h).2)
    (fun s hs => mem_ownCells.mpr ⟨rfl, hsc s hs⟩)]
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

abbrev bufs8 : Finset (Ref sig .scVector) :=
  {cc1_scratch0, cc1_scratch1, cc1_scratch2, cc1_scratch3, cc1_scratch4, cc1_scratch5, cc1_scratch6, cc1_scratch7}

omit [FloatOps F] in
theorem ownBufs_tile (d : Dev nD) (i : grid1.Coords) :
    (ownBufs (thr d i) : sProp 𝕄)
      = iprop(((∃ f, (xA).view.loc (thr d i) ↦{fullShare} f) ∗ (∃ f, (sA).view.loc (thr d i) ↦{fullShare} f)
          ∗ (∃ f, (xB).view.loc (thr d i) ↦{fullShare} f) ∗ (∃ f, (sB).view.loc (thr d i) ↦{fullShare} f)
          ∗ (∃ f, (qS).view.loc (thr d i) ↦{fullShare} f) ∗ (∃ f, (rS).view.loc (thr d i) ↦{fullShare} f)
          ∗ (∃ f, hG d i f) ∗ (∃ f, hO d i f))
        ∗ bigSep (ownRefs (τ := τ) (.scVector (cV i) (jV i)) \ bufs8.image (Proc.scVector (cV i) (jV i)).devRef)
            fun b => iprop(∃ f, ((d, b) : Loc nD τ sig) ↦{fullShare} f)) := by
  unfold SparseCore.Cfg.ownBufs
  have how : ∀ b ∈ bufs8, ((Proc.scVector (cV i) (jV i)).devRef b).owner = .proc (.scVector (cV i) (jV i)) := by
    intro b hb
    simp only [Finset.mem_insert, Finset.mem_singleton] at hb
    rcases hb with h | h | h | h | h | h | h | h <;> (subst h; rfl)
  refine (bigSep_named (t := bufs8) (f := (Proc.scVector (cV i) (jV i)).devRef) (fun a b h => Proc.devRef_injective _ h)
    (fun s hs => SparseCore.Cfg.mem_ownRefs_of_owner (how s hs)) _).trans ?_
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

end Cert.Proof

end
-- ==== Proof.Task.lean ====
/-
  A tile's task, from what it is dealt to what it hands back.
-/
module

public import proofs.«01_k».proof.Proof.Deal

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem nCore_zero : (K (F := F)).nCore 0 = 2 := rfl
theorem nSub_zero : (K (F := F)).nSub 0 = 16 := rfl

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev EH : Emb UH 𝕄 := embL

section Task

variable (m : (ℓ : Loc nD τ sig) → Buf (Elt F) ℓ)

/-- The counts the region leaves. -/
abbrev bnds (d : Dev nD) : S32x16.Idx → BitVec 32 := bnd (F := F) (blocks (m (bLoc d))) 125

/-- What a tile reads. -/
def reads (d : Dev nD) (i : grid1.Coords) : sProp 𝕄 :=
  iprop((xLoc d ↦{tq (i 0).val (i 1).val} m (xLoc d)) ∗ (bLoc d ↦{tq (i 0).val (i 1).val} m (bLoc d))
    ∗ (qLoc d ↦{tq (i 0).val (i 1).val} m (qLoc d)) ∗ (rLoc d ↦{tq (i 0).val (i 1).val} bnds m d))

/-- What a tile is dealt, and what it hands back. -/
def goP (d : Dev nD) (i : grid1.Coords) : sProp 𝕄 := iprop(reads m d i ∗ (oLoc d ↦[rowSet i]{fullShare} m (oLoc d)))
def tdP (d : Dev nD) (i : grid1.Coords) : sProp 𝕄 :=
  iprop(reads m d i ∗ (oLoc d ↦[rowSet i]{fullShare} outAll (m (xLoc d)) (m (bLoc d)) (m (qLoc d))))

theorem span_of (B : BF) (i : grid1.Coords) : Span (rsOf B i) (reOf B i) :=
  ⟨below_mono B (by omega) (by have := tileNo_lt i; omega) 50000, below_le B _ 50000⟩

theorem bnd_rs (B : BF) (i : grid1.Coords) : bnd (F := F) (blocks B) 125 (bAt i 0) = W (rsOf B i) :=
  (bnd_at (F := F) B (bAt i 0) 125 (le_refl _)).trans (if_pos rfl)
theorem bnd_re (B : BF) (i : grid1.Coords) : bnd (F := F) (blocks B) 125 (bAt i 1) = W (reOf B i) :=
  (bnd_at (F := F) B (bAt i 1) 125 (le_refl _)).trans ((if_neg (show ¬ ((1 : Fin 16).val = 0) by decide)).trans (if_pos rfl))

theorem sides_end (d : Dev nD) (i : grid1.Coords) (qx qb : PosShare TreeShare) (X : XF F) (B : BF) (rs re : ℕ) :
    sideA d i qx qb X B rs re (npairs rs re) = iprop(semVal (thr d i, SemLoc.dma semA0) 0 ∗ semVal (thr d i, SemLoc.dma semA1) 0
      ∗ (∃ f, (xA).view.loc (thr d i) ↦{fullShare} f) ∗ (∃ f, (sA).view.loc (thr d i) ↦{fullShare} f)
      ∗ ((xV).view.loc (thr d i) ↦{qx} X) ∗ ((bV).view.loc (thr d i) ↦{qb} B)) := by
  unfold sideA; exact if_neg (lt_irrefl _)
theorem sides_end' (d : Dev nD) (i : grid1.Coords) (qx qb : PosShare TreeShare) (X : XF F) (B : BF) (rs re : ℕ) :
    sideB d i qx qb X B rs re (npairs rs re) = iprop(semVal (thr d i, SemLoc.dma semB0) 0 ∗ semVal (thr d i, SemLoc.dma semB1) 0
      ∗ (∃ f, (xB).view.loc (thr d i) ↦{fullShare} f) ∗ (∃ f, (sB).view.loc (thr d i) ↦{fullShare} f)
      ∗ ((xV).view.loc (thr d i) ↦{qx} X) ∗ ((bV).view.loc (thr d i) ↦{qb} B)) := by
  unfold sideB; exact if_neg (lt_irrefl _)

theorem tile_body (d : Dev nD) (i : grid1.Coords) (hF : (K (F := F)).Facts) (O : CellTallies nD τ sig (HIx 1)) (W₀ : Waits sig (HIx 1)) (hO : ∀ g, O g none = 0) :
    iprop(levAts (K (F := F)).L (K (F := F)).lev ∗ emp ∗ goP m d i
        ∗ scopedBufs (thr d i) ∗ scopedSems0 (thr d i) ∗ owes (thr d i) O W₀)
      ⊢ wp frame (wpE (defs₀ (F := F)) 𝒱₀ (thr d i) none) Set.univ
          (cc1__sc_body i xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2)
          fun _ => iprop(tdP m d i ∗ scopedBufs (thr d i) ∗ scopedSems0 (thr d i) ∗ owing d i O W₀) := by
  rw [(K (F := F)).scopedBufs_V hF d (cV i) (jV i), SparseCore.Cfg.scopedSems0_V (Val := Elt F) d (cV i) (jV i), ownSems0_tile, ownBufs_tile]
  unfold goP tdP reads
  iintro ⟨#Hlv, -, ⟨⟨Hx, Hb, Hq, Hr⟩, Ho⟩, ⟨⟨⟨%f0, H0⟩, ⟨%f1, H1⟩, ⟨%f2, H2⟩, ⟨%f3, H3⟩, ⟨%f4, H4⟩, ⟨%f5, H5⟩, ⟨%f6, H6⟩, ⟨%f7, H7⟩⟩, Hbufs⟩,
    ⟨⟨S0, S1, S2, S3, S4, S5, S6⟩, Hsems⟩, HO⟩
  ihave Hmw := (show levAts (K (F := F)).L (K (F := F)).lev ⊢ Transfers.MayWaits (thr d i) (none : HIx 1) O from
    (K (F := F)).mayWaits_none (thr := thr d i) hO) $$ Hlv
  ihave Hx := (pointsTo_share (PosShare.mem_left_op_right (tq (i 0).val (i 1).val))).1 $$ Hx
  ihave Hb := (pointsTo_share (PosShare.mem_left_op_right (tq (i 0).val (i 1).val))).1 $$ Hb
  icases Hx with ⟨Hxa, Hxc⟩
  icases Hb with ⟨Hba, Hbc⟩
  iapply (wp_wand_r frame _ _)
  isplitl [Hmw HO Hxa Hxc Hba Hbc Hq Hr Ho H0 H1 H2 H3 H4 H5 H6 H7 S0 S1 S2 S3 S4 S5 S6]
  · iapply (tileRun d i O W₀ (tq (i 0).val (i 1).val).left (tq (i 0).val (i 1).val).left (tq (i 0).val (i 1).val).right (tq (i 0).val (i 1).val).right
      (tq (i 0).val (i 1).val) (tq (i 0).val (i 1).val) (m (xLoc d)) (m (bLoc d)) (m (qLoc d)) (bnds m d) (m (oLoc d))
      (rsOf (m (bLoc d)) i) (reOf (m (bLoc d)) i) (span_of _ i) (bnd_rs _ i) (bnd_re _ i) f0 f2 f1 f3 f4 f5 f6 f7)
    unfold tilePre
    isplitl [Hmw]; · iexact Hmw
    isplitl [HO]; · iexact HO
    isplitl [Hxa]; · iexact Hxa
    isplitl [Hba]; · iexact Hba
    isplitl [Hxc]; · iexact Hxc
    isplitl [Hbc]; · iexact Hbc
    isplitl [Hq]; · iexact Hq
    isplitl [Hr]; · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iintro %_ Hpost
  unfold tilePost
  rw [sides_end, sides_end', oTile_all]
  icases Hpost with ⟨⟨S0, S1, H0, H1, Hxa, Hba⟩, ⟨S2, S3, H2, H3, Hxc, Hbc⟩, Hq, Hr, Ho, H4, H5, H6, H7, S4, S5, S6, HO⟩
  ihave Hx := (pointsTo_share (PosShare.mem_left_op_right (tq (i 0).val (i 1).val))).2 $$ [Hxa Hxc]
  · isplitl [Hxa]; · iexact Hxa
    iexact Hxc
  ihave Hb := (pointsTo_share (PosShare.mem_left_op_right (tq (i 0).val (i 1).val))).2 $$ [Hba Hbc]
  · isplitl [Hba]; · iexact Hba
    iexact Hbc
  isplitl [Hx Hb Hq Hr Ho]
  · isplitr [Ho]
    · isplitl [Hx]; · iexact Hx
      isplitl [Hb]; · iexact Hb
      isplitl [Hq]; · iexact Hq
      iexact Hr
    · iexact Ho
  isplitl [H0 H1 H2 H3 H4 H5 H6 H7 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact Hbufs
  isplitl [S0 S1 S2 S3 S4 S5 S6 Hsems]
  · isplitr [Hsems]
    · isplitl [S0]; · iexact S0
      isplitl [S1]; · iexact S1
      isplitl [S2]; · iexact S2
      isplitl [S3]; · iexact S3
      isplitl [S4]; · iexact S4
      isplitl [S5]; · iexact S5
      iexact S6
    · iexact Hsems
  iexact HO

/-! ## What the handshakes carry -/

def P : (K (F := F)).Pay (nD := nD) (Val := Elt F) (Name := ℕ) (U := UU) where
  st q d c := match q with | 0 => bigSep Finset.univ fun i : Fin 16 => goP m d (crd (Fin.cast nCore_zero c) i)
  dn q d c := match q with | 0 => bigSep Finset.univ fun i : Fin 16 => tdP m d (crd (Fin.cast nCore_zero c) i)
  go q d c i := match q with | 0 => goP m d (crd (Fin.cast nCore_zero c) (Fin.cast nSub_zero i))
  td q d c i := match q with | 0 => tdP m d (crd (Fin.cast nCore_zero c) (Fin.cast nSub_zero i))
  x := fun _ _ => iprop(emp)

instance goP_storable (d : Dev nD) (i : grid1.Coords) : BI.Storable (upEmb : UEmb _ 𝕄) (goP m d i) := by
  unfold goP reads; infer_instance
instance tdP_storable (d : Dev nD) (i : grid1.Coords) : BI.Storable (upEmb : UEmb _ 𝕄) (tdP m d i) := by
  unfold tdP reads; infer_instance

instance P_storable : (P (F := F) m).IsStorable where
  st q d c := match q with
    | 0 => (inferInstance : BI.Storable (upEmb : UEmb _ 𝕄) (bigSep Finset.univ fun i : Fin 16 => goP m d (crd (Fin.cast nCore_zero c) i)))
  dn q d c := match q with
    | 0 => (inferInstance : BI.Storable (upEmb : UEmb _ 𝕄) (bigSep Finset.univ fun i : Fin 16 => tdP m d (crd (Fin.cast nCore_zero c) i)))
  go q d c i := match q with
    | 0 => goP_storable m d (crd (Fin.cast nCore_zero c) (Fin.cast nSub_zero i))
  td q d c i := match q with
    | 0 => tdP_storable m d (crd (Fin.cast nCore_zero c) (Fin.cast nSub_zero i))

theorem vecSplit : (K (F := F)).VecSplit' (P m) 0 := by
  intro d c
  have h : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun i : Fin 16 => goP m d (crd (Fin.cast nCore_zero c) i)) ⊢ |={Set.univ}=> iprop(
      (bigSep Finset.univ fun i : Fin ((K (F := F)).nSub 0) => goP m d (crd (Fin.cast nCore_zero c) (Fin.cast nSub_zero i)))
      ∗ ((bigSep Finset.univ fun i : Fin ((K (F := F)).nSub 0) => tdP m d (crd (Fin.cast nCore_zero c) (Fin.cast nSub_zero i)))
          -∗ (bigSep Finset.univ fun i : Fin 16 => tdP m d (crd (Fin.cast nCore_zero c) i))))
  rw [h (fun i => goP m d (crd (Fin.cast nCore_zero c) i)), h (fun i => tdP m d (crd (Fin.cast nCore_zero c) i))]
  iintro H; imodintro
  isplitl [H]; · iexact H
  iintro H; iexact H

/-! ## A tile's obligation -/

theorem defs₀_vector (c : Fin τ.nSC) (s : Fin τ.nSub) :
    defs₀ (F := F) (.scVector c s) 1 ()
      = SparseCore.onTile hcore1 hsub1 (fun c s => cc1__sc_body (crd c s)
          xV (Memref.isWhole_whole _) bV (Memref.isWhole_whole _) qV (Memref.isWhole_whole _) rV (Memref.isWhole_whole _)
            oV (Memref.isWhole_whole _) xA (Memref.isWhole_whole _) sA (Memref.isWhole_whole _) xB (Memref.isWhole_whole _)
            sB (Memref.isWhole_whole _) qS (Memref.isWhole_whole _) rS (Memref.isWhole_whole _) gS (Memref.isWhole_whole _)
            oS (Memref.isWhole_whole _) cc1_scratch8 cc1_scratch9 cc1_scoped0 cc1_scoped1 cc1_scoped2) ⟨⟩ c s := rfl

omit [FloatOps F] in
theorem owing_weaken {thr : Thread nD τ} {A B C : sProp 𝕄} {O : CellTallies nD τ sig (HIx 1)} {W₀ : Waits sig (HIx 1)} {q : Fin 1} :
    iprop(A ∗ B ∗ C ∗ ∃ W', ⌜∀ p ∈ W', p ∈ W₀ ∨ p.2 = none⌝ ∗ owes thr O W')
      ⊢ iprop(A ∗ B ∗ C ∗ ∃ W', ⌜∀ p ∈ W', p ∈ W₀ ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

theorem tileObl : (K (F := F)).TileObl (D (F := F)) 𝒱 (P m) v₀ 0 := by
  intro d c i O W₀ hO _ _
  simp only [show (P (F := F) m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m d (crd ⟨_, hci.1⟩ ⟨_, hci.2⟩) facts O W₀ hO).trans (wp_mono frame _ _ fun _ => owing_weaken)

end Task

end Cert.Proof

end
-- ==== Proof.Run.lean ====
/-
  The program's run: the batch reshaped, the region's counts, the SparseCore call, and what the arrays hold at the end.
-/
module

public import proofs.«01_k».proof.Proof.Task
public import Idealize.ShloMosaic.Lib.Pipeline.Regions

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (held wp_hlo_within)

local notation "𝕄" => MT nD τ sig (HIx 1) (Elt F) ℕ UU ℕ

abbrev EP : Emb UP 𝕄 := (Emb.inl : Emb UP (UP × Counters)).trans embR

section Run

variable (m : (ℓ : Loc nD τ sig) → Buf (Elt F) ℓ) (ρ : Dev nD → PrngReg)

/-! ## The ghost state -/

abbrev pinned : Fin 1 → Pipeline.Cfg sig Λ₀ := Pipeline.pin (pcfgs (F := F)) adm

theorem pinned_inj : Function.Injective (Pipeline.cellOf (nD := nD) (τ := τ) (pinned (F := F))) := cellOf_inj

def u₀ : UU := (initOf (K (F := F)).hsCells (K (F := F)).hsToks,
  (initOf (Pipeline.cells (nD := nD) (τ := τ) (pinned (F := F)) pinned_inj) (Pipeline.launchToks (nD := nD) (τ := τ) (pinned (F := F)) pinned_inj), 1))

def G (d : Dev nD) : sProp 𝕄 :=
  iprop(Pipeline.cellsGhost (pinned (F := F)) EP 0 d ∗ Pipeline.toksInit (pinned (F := F)) EP 0 d)

omit [FloatOps F] in
theorem only_one (Φ : Dev nD → Fin 1 → sProp 𝕄) :
    (bigSep Finset.univ fun d : Dev nD => bigSep Finset.univ fun p : Fin 1 => Φ d p) = bigSep Finset.univ fun d => Φ d 0 :=
  bigSep_congr fun _ _ => bigSep_univ_of_subsingleton (0 : Fin 1)
omit [FloatOps F] in
theorem emps {A : Type} (s : Finset A) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (show (BI.own ((embR : Emb (UP × Counters) 𝕄) (initOf (Pipeline.cells (nD := nD) (τ := τ) (pinned (F := F)) pinned_inj) (Pipeline.launchToks (nD := nD) (τ := τ) (pinned (F := F)) pinned_inj), 1)) : sProp 𝕄)
      ⊢ BI.own ((EP : Emb UP 𝕄) (initOf (Pipeline.cells (nD := nD) (τ := τ) (pinned (F := F)) pinned_inj) (Pipeline.launchToks (nD := nD) (τ := τ) (pinned (F := F)) pinned_inj))) from .rfl) $$ HR
  imod (Pipeline.fund_ghost (pinned (F := F)) EP pinned_inj) $$ HP with ⟨HC, HT⟩
  imodintro
  isplitl [HH]; · iexact HH
  isplitl [HC HT]
  · unfold G
    rw [bigSep_sep']
    isplitl [HC]
    · iapply (Entails.of_eq (only_one (F := F) (fun d p => Pipeline.cellsGhost (pinned (F := F)) EP p d)))
      iexact HC
    · iapply (Entails.of_eq (only_one (F := F) (fun d p => Pipeline.toksInit (pinned (F := F)) EP p d)))
      iexact HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

abbrev bR : DevRef τ sig := Proc.devRef .tc (main_arg1 : Ref sig .tc)
abbrev vR : DevRef τ sig := Proc.devRef .tc (main_v0 : Ref sig .tc)
abbrev opR : HloOp τ sig (Elt F) := StableHlo.reshape main_arg1 main_v0 (rfl : (.i32 : EltTy) = .i32) shapeCasts_S50000_S125x1x400
abbrev S2 : Finset (DevRef τ sig) := {bR, vR}
def Vm (d : Dev nD) : Valuation τ sig (Elt F) := fun b => m (d, b)

omit [FloatOps F] in
theorem held_S2 (d : Dev nD) (V : Valuation τ sig (Elt F)) :
    (held (T d) S2 V : sProp 𝕄) = iprop((bLoc d ↦{fullShare} V bR) ∗ ((SparseCore.T d).loc main_v0 ↦{fullShare} V vR)) := by
  unfold held S2
  rw [SparseCore.bigSep_insert' (by decide), bigSep_singleton]

theorem held_after (d : Dev nD) :
    (held (T d) S2 ((opR (F := F)).result (Vm m d)) : sProp 𝕄)
      = iprop((bLoc d ↦{fullShare} m (bLoc d)) ∗ ((SparseCore.T d).loc main_v0 ↦{fullShare} blocks (m (bLoc d)))) := by
  rw [held_S2, (opR (F := F)).result_of_not_mem (Vm m d) (b := bR) (show bR ∉ ({vR} : Finset (DevRef τ sig)) by decide),
    (opR (F := F)).result_of_mem (Vm m d) (b := vR) (Finset.mem_singleton_self _)]
  rfl

omit [FloatOps F] in
theorem unscoped_arrays (d : Dev nD) (V : (b : Ref sig .tc) → Buf (Elt F) ((d.tc : Thread nD τ).loc b)) :
    (unscopedBufs d V : sProp 𝕄) = iprop((xLoc d ↦{fullShare} V main_arg0) ∗ (bLoc d ↦{fullShare} V main_arg1) ∗ (qLoc d ↦{fullShare} V main_arg2)
      ∗ ((SparseCore.T d).loc main_v0 ↦{fullShare} V main_v0) ∗ (rLoc d ↦{fullShare} V main_v1) ∗ (oLoc d ↦{fullShare} V main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_all (d : Dev nD) : (bigSep Finset.univ fun c : Fin ((K (F := F)).nCore 0) => (P m).st 0 d c : sProp 𝕄)
    = bigSep Finset.univ fun c : Fin 2 => bigSep Finset.univ fun i : Fin 16 => goP m d (crd c i) :=
  bigSep_cores (F := F) (fun c => bigSep Finset.univ fun i : Fin 16 => goP m d (crd c i))
theorem dn_all (d : Dev nD) : (bigSep Finset.univ fun c : Fin ((K (F := F)).nCore 0) => (P m).dn 0 d c : sProp 𝕄)
    = bigSep Finset.univ fun c : Fin 2 => bigSep Finset.univ fun i : Fin 16 => tdP m d (crd c i) :=
  bigSep_cores (F := F) (fun c => bigSep Finset.univ fun i : Fin 16 => tdP m d (crd c i))

theorem reads_all (d : Dev nD) :
    (bigSep Finset.univ fun c : Fin 2 => bigSep Finset.univ fun i : Fin 16 => reads m d (crd c i) : sProp 𝕄)
      = iprop((bigSep Finset.univ fun c : Fin 2 => bigSep Finset.univ fun i : Fin 16 => (xLoc d ↦{tq c.val i.val} m (xLoc d)))
        ∗ (bigSep Finset.univ fun c : Fin 2 => bigSep Finset.univ fun i : Fin 16 => (bLoc d ↦{tq c.val i.val} m (bLoc d)))
        ∗ (bigSep Finset.univ fun c : Fin 2 => bigSep Finset.univ fun i : Fin 16 => (qLoc d ↦{tq c.val i.val} m (qLoc d)))
        ∗ (bigSep Finset.univ fun c : Fin 2 => bigSep Finset.univ fun i : Fin 16 => (rLoc d ↦{tq c.val i.val} bnds m d))) := by
  rw [← bigSep_sep', ← bigSep_sep', ← bigSep_sep']
  refine bigSep_congr fun c _ => ?_
  rw [← bigSep_sep', ← bigSep_sep', ← bigSep_sep']
  rfl

/-- The dealing: what the tiles read and the output at `f`, and what is left over of what they read. -/
theorem deal_all (d : Dev nD) (f : Buf (Elt F) (oLoc d)) :
    (iprop((xLoc d ↦{fullShare} m (xLoc d)) ∗ (bLoc d ↦{fullShare} m (bLoc d)) ∗ (qLoc d ↦{fullShare} m (qLoc d)) ∗ (rLoc d ↦{fullShare} bnds m d)
        ∗ (oLoc d ↦{fullShare} f)) : sProp 𝕄)
      ⊣⊢ iprop((bigSep Finset.univ fun c : Fin 2 => bigSep Finset.univ fun i : Fin 16 => iprop(reads m d (crd c i) ∗ (oLoc d ↦[rowSet (crd c i)]{fullShare} f)))
        ∗ (leftOver (m (xLoc d)) ∗ leftOver (m (bLoc d)) ∗ leftOver (m (qLoc d)) ∗ leftOver (ℓ := rLoc d) (bnds m d))) := by
  have e : (bigSep Finset.univ fun c : Fin 2 => bigSep Finset.univ fun i : Fin 16 => iprop(reads m d (crd c i) ∗ (oLoc d ↦[rowSet (crd c i)]{fullShare} f)) : sProp 𝕄)
      = iprop((bigSep Finset.univ fun c : Fin 2 => bigSep Finset.univ fun i : Fin 16 => reads m d (crd c i)) ∗ (oLoc d ↦{fullShare} f)) := by
    rw [out_rows, ← bigSep_sep']
    refine bigSep_congr fun c _ => ?_
    rw [← bigSep_sep']
  rw [e, reads_all, deal_tiles (m (xLoc d)), deal_tiles (m (bLoc d)), deal_tiles (m (qLoc d)), deal_tiles (ℓ := rLoc d) (bnds m d)]
  constructor
  · iintro ⟨⟨H1, L1⟩, ⟨H2, L2⟩, ⟨H3, L3⟩, ⟨H4, L4⟩, H5⟩
    isplitr [L1 L2 L3 L4]
    · isplitr [H5]
      · isplitl [H1]; · iexact H1
        isplitl [H2]; · iexact H2
        isplitl [H3]; · iexact H3
        iexact H4
      · iexact H5
    · isplitl [L1]; · iexact L1
      isplitl [L2]; · iexact L2
      isplitl [L3]; · iexact L3
      iexact L4
  · iintro ⟨⟨⟨H1, H2, H3, H4⟩, H5⟩, L1, L2, L3, L4⟩
    isplitl [H1 L1]
    · isplitl [H1]; · iexact H1
      iexact L1
    isplitl [H2 L2]
    · isplitl [H2]; · iexact H2
      iexact L2
    isplitl [H3 L3]
    · isplitl [H3]; · iexact H3
      iexact L3
    isplitl [H4 L4]
    · isplitl [H4]; · iexact H4
      iexact L4
    iexact H5

/-- What @main leaves: the arguments as they were and the output. -/
def FIN (d : Dev nD) : sProp 𝕄 :=
  iprop((xLoc d ↦{fullShare} m (xLoc d)) ∗ (bLoc d ↦{fullShare} m (bLoc d)) ∗ (qLoc d ↦{fullShare} m (qLoc d))
    ∗ (oLoc d ↦{fullShare} outAll (m (xLoc d)) (m (bLoc d)) (m (qLoc d))))

/-- The TensorCore's state before the call: what it owes, and the rest. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_zero (d : Dev nD) : ((K (F := F)).tcSt EH d 0 : sProp 𝕄)
    = iprop((∃ W, ⌜(K (F := F)).WBelow (SparseCore.T d) W 0⌝ ∗ owes (SparseCore.T d) ((K (F := F)).Otc d 0) W) ∗ tcRest (F := F) d) := rfl

theorem reg_pre (V0 : Dev nD → S125x1x400.Idx → BitVec 32) (V1 : Dev nD → S32x16.Idx → BitVec 32) (c : Dev nD) :
    (reg (F := F) V0 V1).pre c = iprop(((SparseCore.T c).loc main_v0 ↦{fullShare} V0 c) ∗ ((SparseCore.T c).loc main_v1 ↦{fullShare} V1 c)
      ∗ ∃ W, ⌜(K (F := F)).WBelow (SparseCore.T c) W 0⌝ ∗ owes (SparseCore.T c) ((K (F := F)).Otc c 0) W) := rfl
theorem reg_post (V0 : Dev nD → S125x1x400.Idx → BitVec 32) (V1 : Dev nD → S32x16.Idx → BitVec 32) (c : Dev nD) :
    (reg (F := F) V0 V1).post c = iprop(((SparseCore.T c).loc main_v0 ↦{fullShare} V0 c) ∗ ((SparseCore.T c).loc main_v1 ↦{fullShare} (bnd (F := F) (V0 c) 125))
      ∗ ∃ W, ⌜(K (F := F)).WBelow (SparseCore.T c) W 0⌝ ∗ owes (SparseCore.T c) ((K (F := F)).Otc c 0) W) := rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, ⟨Hx, Hba, Hq, Hv, Hr, Ho⟩, Hts, -⟩, HG⟩
  iapply (wp_hlo_within 𝒱 (SparseCore.T d) none Set.univ (op := opR) (S := S2) (Finset.Subset.refl _) (V := Vm m d)) $$ [Hb Hba Hv]
  · isplitl [Hb]; · iexact Hb
    rw [held_S2]
    isplitl [Hba]; · iexact Hba
    iexact Hv
  iintro ⟨Hb, Hheld⟩
  ihave Hh := (Entails.of_eq (held_after (F := F) m d)) $$ Hheld
  icases Hh with ⟨Hba, Hv⟩
  rw [wp_ret]
  imodintro
  ihave #Hlv := (SparseCore.Cfg.ctx_levAts (K := K (F := F)) κ) $$ Hctx
  ihave Hst := (Entails.of_eq (tcSt_zero (F := F) d)) $$ Hst
  icases Hst with ⟨HO, Hst⟩
  unfold G
  icases HG with ⟨HC, HT⟩
  iapply ((K (F := F)).wp_liftProg (D (F := F)) 𝒱 (T d) Set.univ none (.op (.customCall (Pipeline.entry 0) ()) .ret) _)
  iapply (Pipeline.RegionSeg.wp (pcfgs (F := F)) adm (pdats (F := F) (fun c => blocks (m (bLoc c))) (fun c => m (rLoc c))) (none : HIx 1) pinned_inj EP defs₀ 𝒱₀
    (K (F := F)).L (K (F := F)).lev (reg (fun c => blocks (m (bLoc c))) (fun c => m (rLoc c))) d none (fun _ h => nomatch h) .ret _)
  isplitr [Hb Hv Hr HO HC HT]
  swap
  · isplitl [Hb]; · iexact Hb
    isplitl [Hv Hr HO]
    · rw [reg_pre]
      isplitl [Hv]; · iexact Hv
      isplitl [Hr]; · iexact Hr
      iexact HO
    isplitr; · iexact Hlv
    isplitl [HC]; · iexact HC
    iexact HT
  iintro ⟨Hb, Hpost⟩
  ihave Hpost := (Entails.of_eq (reg_post (fun c => blocks (m (bLoc c))) (fun c => m (rLoc c)) d)) $$ Hpost
  icases Hpost with ⟨Hv, Hr, HO⟩
  rw [wp_ret]
  imodintro
  ihave Hdeal := (deal_all m d (m (oLoc d))).1 $$ [Hx Hba Hq Hr Ho]
  · isplitl [Hx]; · iexact Hx
    isplitl [Hba]; · iexact Hba
    isplitl [Hq]; · iexact Hq
    isplitl [Hr]; · iexact Hr
    iexact Ho
  icases Hdeal with ⟨Hgo, Hleft⟩
  iapply ((K (F := F)).wp_run (D (F := F)) 𝒱 (EH := EH) (P := P m) κ d 0) $$ [HO Hst Hgo Hleft Hb Hts]
  isplitr; · iexact Hctx
  isplitl [HO Hst]
  · iapply (Entails.of_eq (tcSt_zero (F := F) d).symm)
    isplitl [HO]; · iexact HO
    iexact Hst
  isplitl [Hgo]
  · iapply (Entails.of_eq (st_all m d).symm)
    iexact Hgo
  iintro ⟨Hst, Hdn⟩
  ihave Htd := (Entails.of_eq (dn_all m d)) $$ Hdn
  ihave Hall := (deal_all m d (outAll (m (xLoc d)) (m (bLoc d)) (m (qLoc d)))).2 $$ [Htd Hleft]
  · isplitl [Htd]; · iexact Htd
    iexact Hleft
  icases Hall with ⟨Hx, Hba, Hq, Hr, Ho⟩
  imodintro
  isplitl [Hst]; · iexact Hst
  isplitr [Hb Hts]
  · unfold FIN
    isplitl [Hx]; · iexact Hx
    isplitl [Hba]; · iexact Hba
    isplitl [Hq]; · iexact Hq
    iexact Ho
  isplitl [Hb] <;> iassumption

/-! ## The program's run -/

def fq (d : Dev nD) (s' : Phys nD τ sig (Elt F)) : Prop :=
  s'.mem.mem (xLoc d) = m (xLoc d) ∧ s'.mem.mem (bLoc d) = m (bLoc d) ∧ s'.mem.mem (qLoc d) = m (qLoc d)
    ∧ s'.mem.mem (oLoc d) = outAll (m (xLoc d)) (m (bLoc d)) (m (qLoc d))

theorem hfin (d : Dev nD) (s' : Phys nD τ sig (Elt F)) : iprop(FIN m d ∗ SI s') ⊢ (⌜fq m d s'⌝ : sProp 𝕄) := by
  unfold FIN
  iintro ⟨⟨Hx, Hb, Hq, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h3, HSI, -⟩
  ihave H := (SI_pointsTo_agree (st := s') (ℓ := oLoc d) (I := Finset.univ) (q := fullShare) (f := outAll (m (xLoc d)) (m (bLoc d)) (m (qLoc d)))) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

def QC : PUnit × MemSt nD τ sig (Elt F) → Prop := fun r =>
  (∀ d : Dev nD, r.2.mem (xLoc d) = m (xLoc d) ∧ r.2.mem (bLoc d) = m (bLoc d) ∧ r.2.mem (qLoc d) = m (qLoc d)
    ∧ r.2.mem (oLoc d) = outAll (m (xLoc d)) (m (bLoc d)) (m (qLoc d))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Run

end Cert.Proof

end
-- ==== Proof.Same.lean ====
/- The two prints of the kernel are one program: the idealised module was printed with no rewrite. -/
module

public import proofs.«01_k».proof.Proof.Gen.Kernel
public import proofs.«01_k».proof.Proof.Gen.KernelIdeal

@[expose] public section
noncomputable section
namespace Cert.Proof
open Idealize.ShloMosaic
variable {F : FTy → Type} [FloatOps F]
set_option maxHeartbeats 4000000 in
set_option maxRecDepth 100000 in
theorem body1_eq : @Cert.Kernel.cc1__sc_body F _ Cert.Kernel.Gen.facts = @Cert.KernelIdeal.cc1__sc_body F _ Cert.KernelIdeal.Gen.facts := by with_unfolding_all rfl
set_option maxHeartbeats 4000000 in
set_option maxRecDepth 100000 in
theorem body0_eq : (Cert.Kernel.cc0__bounds_body (F := F)) = (Cert.KernelIdeal.cc0__bounds_body (F := F)) := by with_unfolding_all rfl
theorem defs₀_eq : (Cert.Kernel.defs₀ (F := F)) = (Cert.KernelIdeal.defs₀ (F := F)) := by
  funext p l a
  match p, l, a with
  | .tc, 0, (t, s) => rfl
  | .scVector c s, 1, _ => rfl
  | .tc, 1, _ => rfl
  | .scScalar _, _, _ => rfl
  | .scVector c s, 0, _ => rfl
set_option maxHeartbeats 4000000 in
set_option maxRecDepth 100000 in
theorem defs_eq : (Cert.Kernel.defs (F := F)) = (Cert.KernelIdeal.defs (F := F)) := by
  unfold Cert.Kernel.defs Cert.KernelIdeal.defs
  rw [defs₀_eq]
  rfl
end Cert.Proof
end
-- ==== Proof.Score.lean ====
/-
  The score of a row over the reals: the lanes' rotations and the four running sums add the 256 products, each once.
-/
module

public import proofs.«01_k».proof.Proof.Tile

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Rotations -/

/-- The register rotated by `k`. -/
def turn {α : Type} (k : ℕ) (v : S16.Idx → α) : S16.Idx → α := fun j => v (laneOf ((j 0).val + k))

theorem turn_8 {α : Type} (v : S16.Idx → α) :
    concatenate S16 0 [⟨S8, extractStridedSlice S8 ![8] v slices_S16_o8_S8⟩, ⟨S8, extractStridedSlice S8 ![0] v slices_S16_o0_S8⟩]
      concatenates_S8_S8_S16_d0 = turn 8 v := by
  funext j
  have hj := (j 0).isLt
  change (j 0).val < 16 at hj
  rw [concatenate_pair_apply]
  split
  · rename_i hlt
    change (j 0).val < 8 at hlt
    unfold extractStridedSlice turn
    congr 1
    funext a
    match a with
    | 0 => apply Fin.ext; rw [Shape.Idx.norm_def]; show 8 + (j 0).val = ((j 0).val + 8) % 16; omega
  · rename_i hlt
    change ¬ (j 0).val < 8 at hlt
    unfold extractStridedSlice turn
    congr 1
    funext a
    match a with
    | 0 => apply Fin.ext; rw [Shape.Idx.norm_def]; show 0 + ((j 0).val - 8) = ((j 0).val + 8) % 16; omega

theorem turn_4 {α : Type} (v : S16.Idx → α) :
    concatenate S16 0 [⟨S12, extractStridedSlice S12 ![4] v slices_S16_o4_S12⟩, ⟨S4, extractStridedSlice S4 ![0] v slices_S16_o0_S4⟩]
      concatenates_S12_S4_S16_d0 = turn 4 v := by
  funext j
  have hj := (j 0).isLt
  change (j 0).val < 16 at hj
  rw [concatenate_pair_apply]
  split
  · rename_i hlt
    change (j 0).val < 12 at hlt
    unfold extractStridedSlice turn
    congr 1
    funext a
    match a with
    | 0 => apply Fin.ext; rw [Shape.Idx.norm_def]; show 4 + (j 0).val = ((j 0).val + 4) % 16; omega
  · rename_i hlt
    change ¬ (j 0).val < 12 at hlt
    unfold extractStridedSlice turn
    congr 1
    funext a
    match a with
    | 0 => apply Fin.ext; rw [Shape.Idx.norm_def]; show 0 + ((j 0).val - 12) = ((j 0).val + 4) % 16; omega

theorem turn_2 {α : Type} (v : S16.Idx → α) :
    concatenate S16 0 [⟨S14, extractStridedSlice S14 ![2] v slices_S16_o2_S14⟩, ⟨S2, extractStridedSlice S2 ![0] v slices_S16_o0_S2⟩]
      concatenates_S14_S2_S16_d0 = turn 2 v := by
  funext j
  have hj := (j 0).isLt
  change (j 0).val < 16 at hj
  rw [concatenate_pair_apply]
  split
  · rename_i hlt
    change (j 0).val < 14 at hlt
    unfold extractStridedSlice turn
    congr 1
    funext a
    match a with
    | 0 => apply Fin.ext; rw [Shape.Idx.norm_def]; show 2 + (j 0).val = ((j 0).val + 2) % 16; omega
  · rename_i hlt
    change ¬ (j 0).val < 14 at hlt
    unfold extractStridedSlice turn
    congr 1
    funext a
    match a with
    | 0 => apply Fin.ext; rw [Shape.Idx.norm_def]; show 0 + ((j 0).val - 14) = ((j 0).val + 2) % 16; omega

theorem turn_1 {α : Type} (v : S16.Idx → α) :
    concatenate S16 0 [⟨S15, extractStridedSlice S15 ![1] v slices_S16_o1_S15⟩, ⟨S1, extractStridedSlice S1 ![0] v slices_S16_o0_S1⟩]
      concatenates_S15_S1_S16_d0 = turn 1 v := by
  funext j
  have hj := (j 0).isLt
  change (j 0).val < 16 at hj
  rw [concatenate_pair_apply]
  split
  · rename_i hlt
    change (j 0).val < 15 at hlt
    unfold extractStridedSlice turn
    congr 1
    funext a
    match a with
    | 0 => apply Fin.ext; rw [Shape.Idx.norm_def]; show 1 + (j 0).val = ((j 0).val + 1) % 16; omega
  · rename_i hlt
    change ¬ (j 0).val < 15 at hlt
    unfold extractStridedSlice turn
    congr 1
    funext a
    match a with
    | 0 => apply Fin.ext; rw [Shape.Idx.norm_def]; show 0 + ((j 0).val - 15) = ((j 0).val + 1) % 16; omega

/-! ## The sums, over the reals -/

/-- A register added to its rotation by `k`. -/
def step (k : ℕ) (v : S16.Idx → EReal) : S16.Idx → EReal := fun j => v j + v (laneOf ((j 0).val + k))

theorem lanesum_steps (v : FVec Ideal S16 .f32) : lanesum v = step 1 (step 2 (step 4 (step 8 v))) := by
  unfold lanesum
  simp only [turn_8, turn_4, turn_2, turn_1]
  rfl

theorem laneOf_lane (a k : ℕ) : laneOf (((laneOf a) 0).val + k) = laneOf (a + k) := by
  funext x
  match x with
  | 0 => apply Fin.ext; show (a % 16 + k) % 16 = (a + k) % 16; omega

theorem laneOf_self (j : S16.Idx) : j = laneOf (j 0).val := by
  have hj := (j 0).isLt
  change (j 0).val < 16 at hj
  funext x
  match x with
  | 0 => apply Fin.ext; show (j 0).val = (j 0).val % 16; omega

theorem sum_turned (v : S16.Idx → EReal) (j : S16.Idx) : ∑ i : Fin 16, v (lane i) = ∑ o : Fin 16, v (laneOf ((j 0).val + o.val)) := by
  symm
  have a : {a : Fin 16 // a = j 0} := ⟨j 0, rfl⟩
  obtain ⟨a, ha⟩ := a
  refine Fintype.sum_equiv (Equiv.addLeft a) _ _ fun o => ?_
  rw [← ha]
  congr 1

theorem lanesum_eq (v : FVec Ideal S16 .f32) (j : S16.Idx) : (lanesum v j : EReal) = ∑ i : Fin 16, (v (lane i) : EReal) := by
  rw [lanesum_steps, sum_turned (v : S16.Idx → EReal) j]
  have e : (v : S16.Idx → EReal) j = v (laneOf ((j 0).val + 0)) := congrArg v (laneOf_self j)
  simp only [step, laneOf_lane, Fin.sum_univ_succ, Fin.sum_univ_zero, e, Nat.add_assoc, add_zero]
  simp only [Fin.val_succ, Fin.val_zero, Nat.zero_add, Nat.reduceAdd]
  simp only [Nat.add_zero]
  abel

theorem partials_eq (r q : Fin 16 → FVec Ideal S16 .f32) (j : S16.Idx) :
    (partials r q j : EReal) = ∑ k : Fin 16, (r k j : EReal) * (q k j : EReal) := by
  change ((((r 0 j : EReal) * q 0 j + r 4 j * q 4 j + r 8 j * q 8 j + r 12 j * q 12 j) + (r 1 j * q 1 j + r 5 j * q 5 j + r 9 j * q 9 j + r 13 j * q 13 j))
    + ((r 2 j * q 2 j + r 6 j * q 6 j + r 10 j * q 10 j + r 14 j * q 14 j) + (r 3 j * q 3 j + r 7 j * q 7 j + r 11 j * q 11 j + r 15 j * q 15 j)) : EReal) = _
  have e : ∀ f : Fin 16 → EReal, ∑ k, f k = ((f 0 + f 4 + f 8 + f 12) + (f 1 + f 5 + f 9 + f 13)) + ((f 2 + f 6 + f 10 + f 14) + (f 3 + f 7 + f 11 + f 15)) := by
    intro f
    simp only [Fin.sum_univ_succ, Fin.sum_univ_zero, add_zero]
    change f 0 + (f 1 + (f 2 + (f 3 + (f 4 + (f 5 + (f 6 + (f 7 + (f 8 + (f 9 + (f 10 + (f 11 + (f 12 + (f 13 + (f 14 + f 15)))))))))))))) = _
    abel
  rw [e]

/-- Column `c` of the query. -/
def qAt (c : Fin 256) : S256.Idx | 0 => c

theorem qreg_at (Q : S256.Idx → Ideal .f32) (o : ℕ) (h : ∀ a, (![o] : Fin 1 → ℕ) a + S16.size a ≤ S256.size a) (i : Fin 16) (c : Fin 256) (hc : c.val = o + i.val) :
    shapeCast S16 (qS.view.readAt (Elt Ideal) (Rect.unit (s := S256) ![o] S16.size h).toLoadRect Q) shapeCasts_S16_S16 (lane i) = Q (qAt c) := by
  rw [cast_self]
  refine congrArg Q ?_
  funext a
  match a with
  | 0 => apply Fin.ext; show o + 1 * i.val = c.val; omega

theorem qregs_at (Q : S256.Idx → Ideal .f32) (k i : Fin 16) (c : Fin 256) (hc : c.val = 16 * k.val + i.val) : qregs Q k (lane i) = Q (qAt c) := by
  match k, hc with
  | 0, hc => exact qreg_at Q 0 _ i c hc
  | 1, hc => exact qreg_at Q 16 _ i c hc
  | 2, hc => exact qreg_at Q 32 _ i c hc
  | 3, hc => exact qreg_at Q 48 _ i c hc
  | 4, hc => exact qreg_at Q 64 _ i c hc
  | 5, hc => exact qreg_at Q 80 _ i c hc
  | 6, hc => exact qreg_at Q 96 _ i c hc
  | 7, hc => exact qreg_at Q 112 _ i c hc
  | 8, hc => exact qreg_at Q 128 _ i c hc
  | 9, hc => exact qreg_at Q 144 _ i c hc
  | 10, hc => exact qreg_at Q 160 _ i c hc
  | 11, hc => exact qreg_at Q 176 _ i c hc
  | 12, hc => exact qreg_at Q 192 _ i c hc
  | 13, hc => exact qreg_at Q 208 _ i c hc
  | 14, hc => exact qreg_at Q 224 _ i c hc
  | 15, hc => exact qreg_at Q 240 _ i c hc
  | ⟨n + 16, h⟩, _ => exact absurd h (by omega)

/-- Column `c` of row `ρ` of a chunk's buffer. -/
def xAt (ρ : Fin 128) (c : Fin 256) : S128x256.Idx
  | 0 => ρ
  | 1 => c

theorem score_eq (fx : XB Ideal) (ρ : Fin 128) (Q : S256.Idx → Ideal .f32) (j : S16.Idx) :
    (score (xrow fx ρ) (qregs Q) j : EReal) = ∑ c : Fin 256, (fx (xAt ρ c) : EReal) * (Q (qAt c) : EReal) := by
  unfold score
  rw [lanesum_eq]
  have h1 : ∀ i : Fin 16, (partials (xrow fx ρ) (qregs Q) (lane i) : EReal)
      = ∑ k : Fin 16, (fun c : Fin 256 => (fx (xAt ρ c) : EReal) * (Q (qAt c) : EReal)) (finProdFinEquiv (k, i)) := by
    intro i
    rw [partials_eq]
    refine Finset.sum_congr rfl fun k _ => ?_
    have hv : (finProdFinEquiv (k, i) : Fin 256).val = 16 * k.val + i.val := by
      show i.val + 16 * k.val = _; omega
    rw [qregs_at Q k i (finProdFinEquiv (k, i)) hv]
    congr 1
    refine congrArg fx ?_
    funext a
    match a with
    | 0 => rfl
    | 1 => exact Fin.ext hv.symm
  rw [Finset.sum_congr rfl fun i _ => h1 i, Finset.sum_comm]
  refine (Fintype.sum_prod_type' (fun k i : Fin 16 => (fun c : Fin 256 => (fx (xAt ρ c) : EReal) * (Q (qAt c) : EReal)) (finProdFinEquiv (k, i)))).symm.trans ?_
  exact Equiv.sum_comp (finProdFinEquiv : Fin 16 × Fin 16 ≃ Fin 256) (fun c : Fin 256 => (fx (xAt ρ c) : EReal) * (Q (qAt c) : EReal))

end Cert.Proof

end
-- ==== Proof.Kval.lean ====
/-
  A tile's accumulators over the reals: each the sum, over the tile's rows of that segment, of what the row contributes.
-/
module

public import proofs.«01_k».proof.Proof.Score
public import proofs.«01_k».proof.Proof.Counts

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## A row's contribution -/

/-- Column `c` of row `j` of `x`. -/
def xval (X : S50000x256.Idx → Ideal .f32) (j : ℕ) (c : Fin 256) : EReal :=
  if h : j < 50000 then (X (fun | 0 => ⟨j, h⟩ | 1 => c) : EReal) else 0

/-- Row `j`'s score. -/
def sval (X : S50000x256.Idx → Ideal .f32) (Q : S256.Idx → Ideal .f32) (j : ℕ) : EReal := ∑ c : Fin 256, xval X j c * (Q (qAt c) : EReal)

/-- What a row of values `f` and score `s` contributes in column `c`. -/
def part (f : Fin 256 → EReal) (s : EReal) (c : ℕ) : EReal := if h : c < 256 then f ⟨c, h⟩ * Ideal.exp s else Ideal.exp s

theorem one_bits : (Scalar.ofBits .f32 0x3F800000#32 : Ideal .f32) = (1 : EReal) := by
  show Ideal.ofBits .f32 0x3F800000#32 = 1
  simp [Ideal.ofBits, Ideal.ieee, -EReal.coe_mul]; norm_num
theorem zero_bits : (Scalar.ofBits .f32 0x00000000#32 : Ideal .f32) = (0 : EReal) := by
  show Ideal.ofBits .f32 0x00000000#32 = 0
  simp [Ideal.ofBits, Ideal.ieee]

theorem weight_eq (s : FVec Ideal S16 .f32) (b : Bool) (j : S16.Idx) :
    (weight s (BitVec.ofBool b) j : EReal) = if b then Ideal.exp (s j) else 0 := by
  cases b
  · show Ideal.exp (s j) * (Scalar.ofBits (F := Ideal) .f32 0x00000000#32) = 0
    rw [zero_bits, mul_zero]
  · show Ideal.exp (s j) * (Scalar.ofBits (F := Ideal) .f32 0x3F800000#32) = Ideal.exp (s j)
    rw [one_bits, mul_one]

theorem e0_first : (k1_pay209 (F := Ideal) (laneOf 256) : EReal) = 1 := by
  have : k1_pay209 (F := Ideal) (laneOf 256) = Scalar.ofBits .f32 0x3F800000#32 := rfl
  rw [this, one_bits]

theorem W_csge {a b : ℕ} (ha : a < 2 ^ 31) (hb : b < 2 ^ 31) : Scalar.cmpi .sge (W a) (W b) = BitVec.ofBool (decide (b ≤ a)) := by
  show BitVec.ofBool ((W b).sle (W a)) = _
  unfold BitVec.sle
  rw [W_toInt ha, W_toInt hb]; simp

theorem inRange_eq {cs lo hi : ℕ} (hc : cs + 128 ≤ 50000) (hl : lo < 2 ^ 31) (hh : hi < 2 ^ 31) (ρ : Fin 128) :
    inRange (W cs) (W lo) (W hi) ρ.val = BitVec.ofBool (decide (lo ≤ cs + ρ.val ∧ cs + ρ.val < hi)) := by
  have := ρ.isLt
  unfold inRange
  rw [show BitVec.ofNat 32 ρ.val = W ρ.val from rfl, W_add, W_csge (by omega) hl, W_cslt (by omega) hh]
  rw [show ∀ a b : Bool, Scalar.andi (BitVec.ofBool a) (BitVec.ofBool b) = BitVec.ofBool (a && b) from by decide]
  rw [Bool.decide_and]

/-- One row's step. -/
theorem chunkStep_eq (Q : S256.Idx → Ideal .f32) (s0 : BitVec 32) (fx : XB Ideal) (fs : SB) {cs lo hi : ℕ} (hc : cs + 128 ≤ 50000) (hl : lo < 2 ^ 31)
    (hh : hi < 2 ^ 31) (ρ : Fin 128) (g : GB Ideal) (r : Fin 16) (c : Fin 272) (hc' : c.val ≤ 256) :
    (chunkStep (qregs Q) (k1_pay209 (F := Ideal)) s0 fx fs (W cs) (W lo) (W hi) ρ g (at2 r c) : EReal)
      = (g (at2 r c) : EReal) + if r.val = slot s0 (fs (seg ρ)) ∧ lo ≤ cs + ρ.val ∧ cs + ρ.val < hi then
          part (fun k => fx (xAt ρ k)) (∑ k : Fin 256, (fx (xAt ρ k) : EReal) * (Q (qAt k) : EReal)) c.val else 0 := by
  unfold chunkStep rowStep rowPart
  rw [inRange_eq hc hl hh]
  by_cases hr : r.val = slot s0 (fs (seg ρ))
  · rw [if_pos (show ((at2 r c : S16x272.Idx) 0).val = _ ∧ ((at2 r c : S16x272.Idx) 1).val < 16 * 17 from ⟨hr, by show c.val < _; omega⟩)]
    show (g (at2 r c) : EReal) + contrib (F := Ideal) _ _ _ (c.val / 16) (laneOf c.val) = _
    congr 1
    by_cases h : c.val < 256
    · have hk : c.val / 16 = (⟨c.val / 16, by omega⟩ : Fin 16).val := rfl
      rw [hk, contrib_reg]
      show xrow (F := Ideal) fx ρ _ (laneOf c.val) * weight (F := Ideal) _ _ (laneOf c.val) = _
      rw [weight_eq, score_eq]
      have hx : xrow fx ρ ⟨c.val / 16, by omega⟩ (laneOf c.val) = fx (xAt ρ ⟨c.val, h⟩) := by
        unfold xrow
        refine congrArg fx ?_
        funext a
        match a with
        | 0 => rfl
        | 1 => apply Fin.ext; show 16 * (c.val / 16) + c.val % 16 = c.val; omega
      rw [hx]
      by_cases hv : lo ≤ cs + ρ.val ∧ cs + ρ.val < hi
      · rw [if_pos (by simpa using hv), if_pos ⟨hr, hv⟩]; unfold part; rw [dif_pos h]
      · rw [if_neg (by simpa using hv), if_neg (fun z => hv z.2), mul_zero]
    · have hk : c.val = 256 := by omega
      rw [hk, show 256 / 16 = 16 from rfl, contrib_last]
      show weight (F := Ideal) _ _ (laneOf 256) * (k1_pay209 (F := Ideal) (laneOf 256) : EReal) = _
      rw [weight_eq, score_eq, e0_first, mul_one]
      by_cases hv : lo ≤ cs + ρ.val ∧ cs + ρ.val < hi
      · rw [if_pos (by simpa using hv), if_pos ⟨hr, hv⟩]; unfold part; rw [dif_neg (by decide)]
      · rw [if_neg (by simpa using hv), if_neg (fun z => hv z.2)]
  · rw [if_neg (fun z => hr z.1), if_neg (fun z => hr z.1), add_zero]

/-! ## A chunk -/

/-- What row `j` adds to column `c` of accumulator `r`. -/
def term (s0 : BitVec 32) (X : S50000x256.Idx → Ideal .f32) (B : BF) (Q : S256.Idx → Ideal .f32) (rs re : ℕ) (r c j : ℕ) : EReal :=
  if r = slot s0 (bat B j) ∧ rs ≤ j ∧ j < re then part (xval X j) (sval X Q j) c else 0

theorem xChunk_at (X : S50000x256.Idx → Ideal .f32) (rs n : ℕ) (ρ : Fin 128) (k : Fin 256) : (xChunk (F := Ideal) X rs n (xAt ρ k) : EReal) = xval X (cs rs n + ρ.val) k := by
  have h1 := cs_le rs n
  have h2 := ρ.isLt
  unfold xval
  rw [dif_pos (by omega)]
  unfold xChunk
  refine congrArg X ?_
  funext a
  match a with
  | 0 => apply Fin.ext; show cs rs n + 1 * ρ.val = _; show _ = cs rs n + ρ.val; omega
  | 1 => apply Fin.ext; show 0 + 1 * k.val = k.val; omega

theorem sChunk_at (B : BF) (rs n : ℕ) (ρ : Fin 128) : sChunk (F := Ideal) B rs n (seg ρ) = bat B (cs rs n + ρ.val) := by
  have h1 := cs_le rs n
  have h2 := ρ.isLt
  unfold bat
  rw [dif_pos (by omega)]
  unfold sChunk
  refine congrArg B ?_
  funext a
  match a with
  | 0 => apply Fin.ext; show cs rs n + 1 * ρ.val = _; show _ = cs rs n + ρ.val; omega

theorem chunk_sum (s0 : BitVec 32) (X : S50000x256.Idx → Ideal .f32) (B : BF) (Q : S256.Idx → Ideal .f32) {rs re : ℕ} (hsp : Span rs re) (n : ℕ) (hn : n < 1000)
    (g : GB Ideal) (r : Fin 16) (c : Fin 272) (hc' : c.val ≤ 256) (p : ℕ) (hp : p ≤ 128) :
    (chunkRows (qregs Q) (k1_pay209 (F := Ideal)) s0 (xChunk X rs n) (sChunk (F := Ideal) B rs n) (W (cs rs n)) (W (lo rs n)) (W re) g p (at2 r c) : EReal)
      = (g (at2 r c) : EReal) + ∑ ρ ∈ Finset.range p, if lo rs n ≤ cs rs n + ρ then term s0 X B Q rs re r.val c.val (cs rs n + ρ) else 0 := by
  have h1 := hsp.le
  have h2 := hsp.hi
  have h3 := a0_le rs
  have hlo : rs ≤ lo rs n := le_max_left _ _
  have hlo' : lo rs n < 2 ^ 31 := by unfold lo; omega
  induction p with
  | zero => rw [Finset.sum_range_zero, add_zero]; rfl
  | succ p ih =>
    rw [chunkRows_succ _ _ _ _ _ _ _ _ _ p (by omega), chunkStep_eq Q s0 _ _ (cs_le rs n) hlo' (by omega) _ _ _ _ hc', ih (by omega), Finset.sum_range_succ, ← add_assoc]
    congr 1
    rw [sChunk_at]
    simp only [xChunk_at]
    unfold term
    by_cases hl : lo rs n ≤ cs rs n + p
    · rw [if_pos hl]
      refine if_congr ?_ rfl rfl
      constructor
      · rintro ⟨a, b, c⟩; exact ⟨a, le_trans hlo b, c⟩
      · rintro ⟨a, b, c⟩; exact ⟨a, hl, c⟩
    · rw [if_neg hl, if_neg (fun z => hl z.2.1)]

/-! ## Every chunk -/

theorem sum_chunk (T : ℕ → EReal) {rs : ℕ} (hT : ∀ j, j < rs → T j = 0) (n : ℕ) :
    (∑ j ∈ Finset.range (min 50000 (a0 rs + n * 128)), T j) + (∑ ρ ∈ Finset.range 128, if lo rs n ≤ cs rs n + ρ then T (cs rs n + ρ) else 0)
      = ∑ j ∈ Finset.range (min 50000 (a0 rs + (n + 1) * 128)), T j := by
  have e1 : cs rs n ≤ min 50000 (a0 rs + n * 128) := by unfold cs; omega
  have e2 : min 50000 (a0 rs + n * 128) ≤ cs rs n + 128 := by unfold cs; omega
  have e3 : min 50000 (a0 rs + (n + 1) * 128) = cs rs n + 128 := by unfold cs; omega
  rw [e3]
  generalize hM : min 50000 (a0 rs + n * 128) = M at e1 e2
  have e4 : (∑ ρ ∈ Finset.range 128, if lo rs n ≤ cs rs n + ρ then T (cs rs n + ρ) else 0)
      = ∑ j ∈ Finset.Ico (cs rs n) (cs rs n + 128), if lo rs n ≤ j then T j else 0 := by
    rw [Finset.sum_Ico_eq_sum_range, Nat.add_sub_cancel_left]
  have e5 : (∑ j ∈ Finset.Ico (cs rs n) M, if lo rs n ≤ j then T j else 0) = 0 := by
    refine Finset.sum_eq_zero fun j hj => if_neg ?_
    have := (Finset.mem_Ico.mp hj).2
    unfold lo; omega
  have e6 : (∑ j ∈ Finset.Ico M (cs rs n + 128), if lo rs n ≤ j then T j else 0) = ∑ j ∈ Finset.Ico M (cs rs n + 128), T j := by
    refine Finset.sum_congr rfl fun j hj => ?_
    have h1 := (Finset.mem_Ico.mp hj).1
    have h2 := (Finset.mem_Ico.mp hj).2
    have h3 := cs_le rs n
    by_cases hr : j < rs
    · rw [hT j hr, ite_self]
    · rw [if_pos (by unfold lo; omega)]
  rw [e4, ← Finset.sum_Ico_consecutive _ e1 e2, e5, e6, zero_add, Finset.range_eq_Ico, Finset.range_eq_Ico, Finset.sum_Ico_consecutive _ (Nat.zero_le _) e2]

theorem gChunks_eq (s0 : BitVec 32) (X : S50000x256.Idx → Ideal .f32) (B : BF) (Q : S256.Idx → Ideal .f32) {rs re : ℕ} (hsp : Span rs re) (n : ℕ) (hn : n < 1000)
    (r : Fin 16) (c : Fin 272) (hc' : c.val ≤ 256) :
    (gChunks (qregs Q) (k1_pay209 (F := Ideal)) s0 X B rs re zeroG n (at2 r c) : EReal)
      = ∑ j ∈ Finset.range (min 50000 (a0 rs + n * 128)), term s0 X B Q rs re r.val c.val j := by
  have hT : ∀ j, j < rs → term s0 X B Q rs re r.val c.val j = 0 := fun j hj => if_neg (by omega)
  induction n with
  | zero =>
    have h3 := a0_le rs
    rw [Finset.sum_eq_zero fun j hj => hT j (by have := Finset.mem_range.mp hj; omega)]
    exact zero_bits
  | succ n ih =>
    rw [← sum_chunk _ hT n, ← ih (by omega)]
    exact chunk_sum s0 X B Q hsp n (by omega) _ r c hc' 128 (le_refl _)

/-- A tile's accumulators. -/
theorem gEnd_eq (i : grid1.Coords) (X : S50000x256.Idx → Ideal .f32) (B : BF) (Q : S256.Idx → Ideal .f32) {rs re : ℕ} (hsp : Span rs re)
    (r : Fin 16) (c : Fin 272) (hc' : c.val ≤ 256) :
    (gEnd i X B Q rs re (at2 r c) : EReal) = ∑ j ∈ Finset.range 50000, term (s0w i) X B Q rs re r.val c.val j := by
  have h1 := hsp.le
  have h2 := hsp.hi
  have h3 := a0_le rs
  have h4 := nchE_le hsp
  unfold gEnd
  rw [two_npairs, gChunks_eq _ X B Q hsp _ (by omega) r c hc']
  refine Finset.sum_subset (fun j hj => ?_) fun j hj hj' => if_neg ?_
  · have := Finset.mem_range.mp hj; exact Finset.mem_range.mpr (by omega)
  · have a := Finset.mem_range.mp hj
    have b : ¬ j < min 50000 (a0 rs + nchE rs re * 128) := fun z => hj' (Finset.mem_range.mpr z)
    have d : re ≤ a0 rs + nchE rs re * 128 := by unfold nchE nch; omega
    omega

end Cert.Proof

end
-- ==== Proof.Rows.lean ====
/-
  The kernel's result over the reals, its batch sorted: for each segment and column, the quotient of two sums over the segment's rows.
-/
module

public import proofs.«01_k».proof.Proof.Kval
public import proofs.«01_k».proof.Proof.Task

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Sorted segments -/

/-- The segments are in 0 to 511, and in order. -/
structure Drawn (B : S50000.Idx → BitVec 32) : Prop where
  lt : ∀ j, j < 50000 → (bat B j).toNat < 512
  mono : ∀ i j, i ≤ j → j < 50000 → (bat B i).toNat ≤ (bat B j).toNat

theorem lt_count (p : ℕ → Prop) [DecidablePred p] (N : ℕ) (hp : ∀ i j, i ≤ j → j < N → p j → p i) {j : ℕ} (hj : j < N) :
    j < (∑ i ∈ Finset.range N, if p i then 1 else 0) ↔ p j := by
  constructor
  · intro h
    by_contra hn
    have e : (∑ i ∈ Finset.range N, if p i then 1 else 0) ≤ j := by
      rw [← Finset.card_filter]
      calc (Finset.filter p (Finset.range N)).card ≤ (Finset.range j).card := by
            refine Finset.card_le_card fun i hi => ?_
            obtain ⟨hi, hpi⟩ := Finset.mem_filter.mp hi
            rw [Finset.mem_range] at hi ⊢
            by_contra hij
            exact hn (hp j i (by omega) hi hpi)
        _ = j := Finset.card_range j
    omega
  · intro h
    rw [← Finset.card_filter]
    calc j < (Finset.range (j + 1)).card := by rw [Finset.card_range]; omega
      _ ≤ _ := by
        refine Finset.card_le_card fun i hi => ?_
        rw [Finset.mem_range] at hi
        exact Finset.mem_filter.mpr ⟨Finset.mem_range.mpr (by omega), hp i j (by omega) hj h⟩

theorem bat_W (B : S50000.Idx → BitVec 32) (j : ℕ) : bat B j = W (bat B j).toNat := by
  apply BitVec.eq_of_toNat_eq; show _ = (BitVec.ofNat 32 _).toNat; simp

theorem lt_below {B : S50000.Idx → BitVec 32} (h : Drawn B) {k : ℕ} (hk : k < 2 ^ 31) {j : ℕ} (hj : j < 50000) :
    j < below B k 50000 ↔ (bat B j).toNat < k := by
  have e : below B k 50000 = ∑ i ∈ Finset.range 50000, if (bat B i).toNat < k then 1 else 0 := by
    unfold below
    refine Finset.sum_congr rfl fun i hi => ?_
    have hi := h.lt i (Finset.mem_range.mp hi)
    rw [bat_W B i, W_slt (by omega) hk, W_toNat (by omega)]
    simp
  rw [e]
  exact lt_count (fun i => (bat B i).toNat < k) 50000 (fun i j hij hj hp => lt_of_le_of_lt (h.mono i j hij hj) hp) hj

theorem s0w_eq (i : grid1.Coords) : s0w i = W (16 * tileNo i) := by
  unfold s0w tileNo
  rw [show (2#32 : BitVec 32) = W 2 from rfl, show (16#32 : BitVec 32) = W 16 from rfl, W_mul, W_add, W_mul]
  congr 1; omega

theorem slot_eq {a b : ℕ} (h : a ≤ b) (h' : b < a + 16) (hb : b < 2 ^ 31) : slot (W a) (W b) = b - a := by
  unfold slot
  rw [W_sub h, show (0#32 : BitVec 32) = W 0 from rfl, show (15#32 : BitVec 32) = W 15 from rfl, W_max (by decide) (by omega), W_min (by decide) (by omega), W_toNat (by omega)]
  omega

theorem term_drawn (i : grid1.Coords) (X : S50000x256.Idx → Ideal .f32) {B : BF} (h : Drawn B) (Q : S256.Idx → Ideal .f32) (r : Fin 16) (c j : ℕ) (hj : j < 50000) :
    term (s0w i) X B Q (rsOf B i) (reOf B i) r.val c j = if (bat B j).toNat = 16 * tileNo i + r.val then part (xval X j) (sval X Q j) c else 0 := by
  have hr := r.isLt
  have ht : tileNo i < 32 := by
    have h0 : (i 0).val < 2 := (i 0).isLt
    have h1 : (i 1).val < 16 := (i 1).isLt
    unfold tileNo; omega
  have hb := h.lt j hj
  have e1 : rsOf B i ≤ j ↔ 16 * tileNo i ≤ (bat B j).toNat := by
    have := lt_below h (k := 16 * tileNo i) (by omega) hj
    unfold rsOf; omega
  have e2 : j < reOf B i ↔ (bat B j).toNat < 16 * tileNo i + 16 := lt_below h (by omega) hj
  unfold term
  refine if_congr ?_ rfl rfl
  rw [e1, e2]
  constructor
  · rintro ⟨a, b, c⟩
    rw [s0w_eq, bat_W B j, slot_eq b c (by omega)] at a
    omega
  · intro a
    refine ⟨?_, by omega, by omega⟩
    rw [s0w_eq, bat_W B j, slot_eq (by omega) (by omega) (by omega)]
    omega

/-! ## The result -/

/-- The rows of segment `s`. -/
def rowsOf (B : S50000.Idx → BitVec 32) (s : ℕ) : Finset ℕ := (Finset.range 50000).filter fun j => (bat B j).toNat = s

theorem outAll_eq (X : S50000x256.Idx → Ideal .f32) {B : BF} (h : Drawn B) (Q : S256.Idx → Ideal .f32) (x : S512x256.Idx) :
    (outAll X B Q x : EReal) = Ideal.div (∑ j ∈ rowsOf B (x 0).val, xval X j (x 1) * Ideal.exp (sval X Q j))
      ((∑ j ∈ rowsOf B (x 0).val, Ideal.exp (sval X Q j)) + Ideal.ofBits .f32 0x24E69595#32) := by
  have h1 : (x 1).val < 256 := (x 1).isLt
  have e : ∀ c : Fin 272, c.val ≤ 256 → (gEnd (rowCrd x) X B Q (rsOf B (rowCrd x)) (reOf B (rowCrd x)) (at2 (rowIn x 0) c) : EReal)
      = ∑ j ∈ rowsOf B (x 0).val, part (xval X j) (sval X Q j) c.val := by
    intro c hc
    refine (gEnd_eq (rowCrd x) X B Q (span_of B _) _ c hc).trans ?_
    unfold rowsOf
    rw [Finset.sum_filter]
    refine Finset.sum_congr rfl fun j hj => ?_
    refine (term_drawn (rowCrd x) X h Q _ _ _ (Finset.mem_range.mp hj)).trans ?_
    rw [tileNo_rowCrd]
    refine if_congr ?_ rfl rfl
    have : 16 * ((x 0).val / 16) + (rowIn x 0).val = (x 0).val := by
      show 16 * ((x 0).val / 16) + (x 0).val % 16 = (x 0).val; omega
    exact iff_of_eq (congrArg (fun z => (bat B j).toNat = z) this)
  unfold outAll outV
  show Ideal.div _ (_ + _) = _
  refine congrArg₂ Ideal.div ?_ (congrArg₂ (· + ·) ?_ rfl)
  · refine (e ⟨(x 1).val, lt_trans h1 (by decide)⟩ (by show (x 1).val ≤ 256; omega)).trans (Finset.sum_congr rfl fun j _ => ?_)
    exact dif_pos h1
  · refine (e ⟨256, by decide⟩ (le_refl _)).trans (Finset.sum_congr rfl fun j _ => ?_)
    exact dif_neg (by decide)

end Cert.Proof

end
-- ==== Proof.Quot.lean ====
/-
  The quotient: a softmax whose exponentials are shifted by any real, its guard scaled by the shift, against the one that is not.
-/
module

public import Idealize.ShloMosaic.PureOps.Ideal

@[expose] public section

noncomputable section

namespace Cert.Proof

open Idealize.ShloMosaic

theorem exp_nonneg (a : EReal) : 0 ≤ Ideal.exp a := by
  induction a using EReal.rec with
  | bot => exact le_refl _
  | top => exact le_top
  | coe r => exact EReal.coe_nonneg.mpr (Real.exp_pos r).le

theorem exp_real (μ : ℝ) : Ideal.exp (μ : EReal) = ((Real.exp μ : ℝ) : EReal) := rfl

theorem exp_shift (a : EReal) (μ : ℝ) : Ideal.exp (a - (μ : EReal)) = Ideal.exp a * ((Real.exp (-μ) : ℝ) : EReal) := by
  have hk : (0 : ℝ) < Real.exp (-μ) := Real.exp_pos _
  induction a using EReal.rec with
  | bot =>
      rw [EReal.bot_sub]
      show (0 : EReal) = 0 * _
      rw [zero_mul]
  | top =>
      rw [EReal.top_sub_coe]
      show (⊤ : EReal) = ⊤ * _
      rw [EReal.top_mul_coe_of_pos hk]
  | coe r =>
      rw [← EReal.coe_sub, exp_real, exp_real, ← EReal.coe_mul, ← Real.exp_add, sub_eq_add_neg]

theorem sum_mul {ι : Type} (s : Finset ι) (f : ι → EReal) (k : EReal) (h0 : 0 ≤ k) (ht : k ≠ ⊤) :
    (∑ i ∈ s, f i) * k = ∑ i ∈ s, f i * k := by
  classical
  induction s using Finset.induction_on with
  | empty => simp
  | insert a s ha ih =>
      rw [Finset.sum_insert ha, Finset.sum_insert ha, EReal.right_distrib_of_nonneg_of_ne_top h0 ht, ih]

theorem div_pos {y d : EReal} (hd : 0 < d) : Ideal.div y d = y * d⁻¹ := by
  unfold Ideal.div
  rw [if_neg hd.ne']

/-- A scaled numerator over a scaled denominator. -/
theorem div_scaled {e d ε : EReal} {k : ℝ} (hk : 0 < k) (he : 0 ≤ e) (hd : e ≤ d) (hε : 0 < ε) (hε' : ε ≠ ⊤) :
    Ideal.div (e * (k : EReal)) (d * (k : EReal) + ε * (k : EReal)) = e * (d + ε)⁻¹ := by
  have hd0 : 0 ≤ d := he.trans hd
  lift ε to ℝ using ⟨hε', (lt_of_le_of_lt bot_le hε).ne'⟩
  have hε := EReal.coe_pos.mp hε
  induction d using EReal.rec with
  | bot => exact absurd hd0 (not_le.mpr (EReal.bot_lt_zero))
  | top =>
      rw [EReal.top_mul_coe_of_pos hk, EReal.top_add_coe, ← EReal.coe_mul, EReal.top_add_coe, div_pos EReal.zero_lt_top, EReal.inv_top, mul_zero, mul_zero]
  | coe d =>
      lift e to ℝ using ⟨(lt_of_le_of_lt hd (EReal.coe_lt_top d)).ne, (lt_of_lt_of_le EReal.bot_lt_zero he).ne'⟩
      have hd0 := EReal.coe_nonneg.mp hd0
      have hp : 0 < d + ε := by linarith
      rw [← EReal.coe_mul, ← EReal.coe_mul, ← EReal.coe_mul, ← EReal.coe_add, ← EReal.coe_add,
        div_pos (EReal.coe_pos.mpr (by positivity)), ← EReal.coe_inv, ← EReal.coe_inv, ← EReal.coe_mul, ← EReal.coe_mul]
      congr 1
      have : d * k + ε * k = (d + ε) * k := by ring
      rw [this]
      field_simp

theorem inv_ne_top {d : EReal} (hd : 0 < d) : d⁻¹ ≠ ⊤ := by
  induction d using EReal.rec with
  | bot => exact absurd hd (not_lt.mpr bot_le)
  | top => rw [EReal.inv_top]; exact EReal.zero_ne_top
  | coe r => rw [← EReal.coe_inv]; exact EReal.coe_ne_top _

/-- The segment's weighted sum over its sum of weights, the exponentials shifted or not. -/
theorem quot {ι : Type} (s : Finset ι) (x sc : ι → EReal) (μ : ℝ) (ε : EReal) (hε : 0 < ε) (hε' : ε ≠ ⊤) :
    Ideal.div (∑ i ∈ s, x i * Ideal.exp (sc i)) ((∑ i ∈ s, Ideal.exp (sc i)) + ε)
      = ∑ i ∈ s, x i * Ideal.div (Ideal.exp (sc i - (μ : EReal))) ((∑ j ∈ s, Ideal.exp (sc j - (μ : EReal))) + ε * Ideal.exp (-(μ : EReal))) := by
  have hk : (0 : ℝ) < Real.exp (-μ) := Real.exp_pos _
  have hD : 0 ≤ ∑ i ∈ s, Ideal.exp (sc i) := Finset.sum_nonneg fun i _ => exp_nonneg _
  have hp : 0 < (∑ i ∈ s, Ideal.exp (sc i)) + ε := lt_of_lt_of_le hε (le_add_of_nonneg_left hD)
  have hsum : (∑ j ∈ s, Ideal.exp (sc j - (μ : EReal))) = (∑ j ∈ s, Ideal.exp (sc j)) * ((Real.exp (-μ) : ℝ) : EReal) := by
    rw [sum_mul _ _ _ (EReal.coe_nonneg.mpr hk.le) (EReal.coe_ne_top _)]
    exact Finset.sum_congr rfl fun j _ => exp_shift _ _
  rw [div_pos hp, sum_mul _ _ _ (EReal.inv_nonneg_of_nonneg hp.le) ?_]
  · refine Finset.sum_congr rfl fun i hi => ?_
    rw [hsum, exp_shift, ← EReal.coe_neg, exp_real, div_scaled hk (exp_nonneg _) (Finset.single_le_sum (fun j _ => exp_nonneg (sc j)) hi) hε hε', mul_assoc]
  · intro h
    exact inv_ne_top hp h

end Cert.Proof

end
-- ==== Proof.Ref.lean ====
/-
  The reference's result over the reals: what lands in a segment is its rows, each weighted by the shifted quotient.
-/
module

public import proofs.«01_k».proof.Proof.Gen.ReferenceIdeal.Run
public import proofs.«01_k».proof.Proof.Rows
public import proofs.«01_k».proof.Proof.Quot
public import Idealize.ShloMosaic.Lib.Routing.OpsPair
public import Idealize.ShloMosaic.Lib.Pointwise.Reduce
public import Idealize.ShloMosaic.Lib.StableHlo.Predicate

@[expose] public section

set_option maxRecDepth 16384

noncomputable section

namespace Cert.Proof

open Cert.ReferenceIdeal Cert.ReferenceIdeal.Gen Idealize.ShloMosaic Idealize.ShloMosaic.StableHlo.Predicate

section Terms

variable {F : FTy → Type} [FloatOps F]

/-! ## The reference's terms -/

abbrev fX (F : FTy → Type) := S50000x256.Idx → F .f32
abbrev fB := S50000.Idx → BitVec 32
abbrev fQ (F : FTy → Type) := S256.Idx → F .f32

/-- The rows' scores. -/
def refS (X : fX F) (Q : fQ F) : S50000.Idx → F .f32 :=
  Host.reduceAdd (mulf X (broadcastInDim S50000x256 ![0, 1] bcast_S1x256_S50000x256_0_1 (broadcastInDim S1x256 ![1] bcast_S256_S1x256_1 Q)))
    (constant S_ .f32 0x00000000#32) reducesTo_S50000x256_S50000_d1 h_S_

/-- A segment's shift: its largest score, when that is a real number, else 0. -/
def refM (MX : S512.Idx → F .f32) : S512.Idx → F .f32 :=
  select (andi (cmpf .ogt MX (broadcastInDim S512 ![] bcast_S_S512 (constant S_ .f32 0xFF800000#32)))
      (cmpf .olt MX (broadcastInDim S512 ![] bcast_S_S512 (constant S_ .f32 0x7F800000#32)))) MX
    (broadcastInDim S512 ![] bcast_S_S512 (id (constant S_ .f32 0x00000000#32)))

/-- The rows' segments as one column. -/
def refCol (B : fB) : S50000x1.Idx → BitVec 32 := broadcastInDim S50000x1 ![0] bcast_S50000_S50000x1_0 B

/-- The same, a negative one counted from the end. -/
def refIdx (B : fB) : S50000x1.Idx → BitVec 32 :=
  broadcastInDim S50000x1 ![0] bcast_S50000_S50000x1_0
    (select (cmpi .slt B (broadcastInDim S50000 ![] bcast_S_S50000 (constantI S_ 32 0#32)))
      (addi B (broadcastInDim S50000 ![] bcast_S_S50000 (constantI S_ 32 512#32))) B)

/-- A segment's value at each row. -/
def refTake (v : S512.Idx → F .f32) (B : fB) : S50000.Idx → F .f32 := Host.gather gather_S512_S50000x1_S50000_n_0_n_n_0_1_1 v (refIdx B)

/-- The rows' exponentials. -/
def refE (M : S512.Idx → F .f32) (X : fX F) (B : fB) (Q : fQ F) : S50000.Idx → F .f32 := Host.exp (subf (refS X Q) (refTake M B))

/-- A segment's sum of exponentials. -/
def refDen (E : S50000.Idx → F .f32) (B : fB) : S512.Idx → F .f32 :=
  Host.scatterAdd scatter_S512_S50000x1_S50000_n_0_0_1 (broadcastInDim S512 ![] bcast_S_S512 (constant S_ .f32 0x00000000#32)) (refCol B) E

/-- The rows' weights. -/
def refW (M : S512.Idx → F .f32) (X : fX F) (B : fB) (Q : fQ F) : S50000.Idx → F .f32 :=
  Host.divf (refE M X B Q) (addf (refTake (refDen (refE M X B Q) B) B)
    (mulf (broadcastInDim S50000 ![] bcast_S_S50000 (constant S_ .f32 0x24E69595#32)) (refTake (Host.exp (Host.negf M)) B)))

/-- The result. -/
def refOut (M : S512.Idx → F .f32) (X : fX F) (B : fB) (Q : fQ F) : S512x256.Idx → F .f32 :=
  Host.scatterAdd scatter_S512x256_S50000x1_S50000x256_1_0_0_1 (broadcastInDim S512x256 ![] bcast_S_S512x256 (constant S_ .f32 0x00000000#32)) (refCol B)
    (mulf X (broadcastInDim S50000x256 ![0, 1] bcast_S50000x1_S50000x256_0_1 (broadcastInDim S50000x1 ![0] bcast_S50000_S50000x1_0 (refW M X B Q))))

theorem res_eq (m : (ℓ : Loc nD τ sig) → Buf (Elt F) ℓ) (c : Dev nD) :
    ∃ MX : S512.Idx → F .f32, Value.res_main_v56 m c = refOut (refM MX) (m ((c.tc : Thread nD τ).loc main_arg0)) (m ((c.tc : Thread nD τ).loc main_arg1))
      (m ((c.tc : Thread nD τ).loc main_arg2)) := ⟨_, rfl⟩

end Terms

/-! ## Where a row lands -/

theorem ofFin_ix1 {n : ℕ} (p : Fin n) : (Shape.Idx.ofFin p : (⟨1, ![n]⟩ : Shape).Idx) = ix1 p := by
  funext a
  match a with
  | ⟨0, _⟩ => exact Fin.ext rfl

theorem ixP_ix2 {n : ℕ} (p : Fin n) : (ixP p : (⟨2, ![n, 1]⟩ : Shape).Idx) = ix2 p 0 := by
  funext a
  match a with
  | ⟨0, _⟩ => rfl
  | ⟨1, _⟩ => rfl

theorem lands1 (idx : S50000x1.Idx → BitVec 32) (p : Fin 50000) (s : Fin 512) :
    scatter_S512_S50000x1_S50000_n_0_0_1.resultIdx? (ix1 p) idx = some (ix1 s) ↔ (idx (ix2 p 0)).toInt = (s.val : Int) := by
  rw [Routing.resultIdx?_eq_some]
  have h1 : scatter_S512_S50000x1_S50000_n_0_0_1.start (ix1 p) idx 0 = (idx (ix2 p 0)).toInt := by
    unfold ScatterDims.start
    have hm : (0 : Fin _) ∈ scatter_S512_S50000x1_S50000_n_0_0_1.scatterDimsToOperandDims := List.mem_singleton.2 rfl
    rw [dif_pos hm]
    congr 2
    funext a
    match a with
    | ⟨0, _⟩ => exact Fin.ext rfl
    | ⟨1, _⟩ => exact Fin.ext rfl
  have h2 : scatter_S512_S50000x1_S50000_n_0_0_1.window (ix1 p) 0 = 0 := by
    unfold ScatterDims.window
    rw [dif_neg (by decide)]
  constructor
  · intro h
    have h0 := h 0
    rw [h1, h2] at h0
    simpa using h0
  · intro h a
    match a with
    | ⟨0, _⟩ =>
      refine (congrArg₂ (fun (a : Int) (b : ℕ) => a + (b : Int)) h1 h2).trans ?_
      simpa using h

theorem lands2 (idx : S50000x1.Idx → BitVec 32) (p : Fin 50000) (q : Fin 256) (s : Fin 512) (c : Fin 256) :
    scatter_S512x256_S50000x1_S50000x256_1_0_0_1.resultIdx? (ix2 p q) idx = some (ix2 s c) ↔ (idx (ix2 p 0)).toInt = (s.val : Int) ∧ q = c := by
  rw [Routing.resultIdx?_eq_some]
  have h1 : scatter_S512x256_S50000x1_S50000x256_1_0_0_1.start (ix2 p q) idx 0 = (idx (ix2 p 0)).toInt := by
    unfold ScatterDims.start
    have hm : (0 : Fin _) ∈ scatter_S512x256_S50000x1_S50000x256_1_0_0_1.scatterDimsToOperandDims := List.mem_singleton.2 rfl
    rw [dif_pos hm]
    congr 2
    funext a
    match a with
    | ⟨0, _⟩ => exact Fin.ext rfl
    | ⟨1, _⟩ => exact Fin.ext rfl
  have h2 : scatter_S512x256_S50000x1_S50000x256_1_0_0_1.window (ix2 p q) 0 = 0 := by
    unfold ScatterDims.window
    rw [dif_neg (by decide)]
  have h3 : scatter_S512x256_S50000x1_S50000x256_1_0_0_1.start (ix2 p q) idx 1 = 0 := by
    unfold ScatterDims.start
    rw [dif_neg (by decide)]
  have h4 : scatter_S512x256_S50000x1_S50000x256_1_0_0_1.window (ix2 p q) 1 = q.val := by
    unfold ScatterDims.window
    rw [dif_pos (by decide)]
    rfl
  constructor
  · intro h
    have a := h 0
    have b := h 1
    rw [h1, h2] at a
    rw [h3, h4] at b
    refine ⟨by simpa using a, Fin.ext ?_⟩
    change 0 + (q.val : Int) = (c.val : Int) at b
    omega
  · rintro ⟨h, rfl⟩ a
    match a with
    | ⟨0, _⟩ =>
      refine (congrArg₂ (fun (a : Int) (b : ℕ) => a + (b : Int)) h1 h2).trans ?_
      simpa using h
    | ⟨1, _⟩ =>
      refine (congrArg₂ (fun (a : Int) (b : ℕ) => a + (b : Int)) h3 h4).trans ?_
      exact zero_add _

theorem bat_ix1 (B : fB) (p : Fin 50000) : B (ix1 p) = bat B p.val := by
  unfold bat
  rw [dif_pos p.isLt]
  refine congrArg B ?_
  funext a
  match a with
  | ⟨0, _⟩ => rfl

theorem refCol_at (B : fB) (p : Fin 50000) : refCol B (ix2 p 0) = bat B p.val := by
  unfold refCol
  rw [← ixP_ix2]
  exact (bcast_col1 bcast_S50000_S50000x1_0 B p).trans ((congrArg B (ofFin_ix1 p)).trans (bat_ix1 B p))

theorem toInt_iff {w : BitVec 32} (h : w.toNat < 512) (s : ℕ) : w.toInt = (s : Int) ↔ w.toNat = s := by
  rw [toInt_eq_toNat_of_lt (by omega)]; omega

/-- A sum over the rows landing in segment `s`. -/
theorem sum_rows (B : fB) (s : ℕ) (f : ℕ → EReal) : (∑ p : Fin 50000, if (bat B p.val).toNat = s then f p.val else 0) = ∑ j ∈ rowsOf B s, f j := by
  unfold rowsOf
  rw [Finset.sum_filter, Finset.sum_range (fun j => if (bat B j).toNat = s then f j else 0)]

theorem scatterAdd_at {s si u : Shape} {w : ℕ} (d : ScatterDims s si u) (x : s.Idx → Ideal .f32) (idx : IVec si w) (upd : u.Idx → Ideal .f32) (i : s.Idx) :
    (Host.scatterAdd d x idx upd i : EReal) = (x i : EReal) + ∑ j, if d.resultIdx? j idx = some i then (upd j : EReal) else 0 := by
  show Ideal.hostScatterAdd d x idx upd i = _
  unfold Ideal.hostScatterAdd
  rw [Finset.sum_filter]

theorem zero_at {t : Shape} (h : S_.BroadcastsInDim t ![]) (i : t.Idx) : (broadcastInDim t ![] h (constant (F := Ideal) S_ .f32 0x00000000#32) i : EReal) = 0 :=
  (bcast_scalar h h_S_ _ i).trans zero_bits

theorem scat1 {B : fB} (h : Drawn B) (u : S50000.Idx → Ideal .f32) (g : ℕ → EReal) (hg : ∀ p : Fin 50000, (u (ix1 p) : EReal) = g p.val) (s : Fin 512) :
    (refDen u B (ix1 s) : EReal) = ∑ j ∈ rowsOf B s.val, g j := by
  unfold refDen
  rw [scatterAdd_at, zero_at, zero_add, sum_idx1, ← sum_rows]
  refine Finset.sum_congr rfl fun p _ => ?_
  rw [hg p]
  refine if_congr ?_ rfl rfl
  rw [lands1, refCol_at, toInt_iff (h.lt _ p.isLt)]

theorem scat2 {B : fB} (h : Drawn B) (u : S50000x256.Idx → Ideal .f32) (g : ℕ → Fin 256 → EReal) (hg : ∀ (p : Fin 50000) (q : Fin 256), (u (ix2 p q) : EReal) = g p.val q)
    (s : Fin 512) (c : Fin 256) :
    (Host.scatterAdd scatter_S512x256_S50000x1_S50000x256_1_0_0_1 (broadcastInDim S512x256 ![] bcast_S_S512x256 (constant (F := Ideal) S_ .f32 0x00000000#32)) (refCol B) u (ix2 s c) : EReal)
      = ∑ j ∈ rowsOf B s.val, g j c := by
  rw [scatterAdd_at, zero_at, zero_add, sum_idx2, ← sum_rows B s.val (fun j => g j c)]
  refine Finset.sum_congr rfl fun p _ => ?_
  have e2 : ∀ q : Fin 256, (if scatter_S512x256_S50000x1_S50000x256_1_0_0_1.resultIdx? (ix2 p q) (refCol B) = some (ix2 s c) then (u (ix2 p q) : EReal) else 0)
      = if q = c then (if (bat B p.val).toNat = s.val then g p.val c else 0) else 0 := by
    intro q
    rw [hg p q]
    by_cases hq : q = c
    · subst hq
      rw [if_pos rfl]
      refine if_congr ?_ rfl rfl
      rw [lands2, refCol_at, toInt_iff (h.lt _ p.isLt)]
      exact and_iff_left rfl
    · rw [if_neg hq, if_neg]
      rw [lands2]; exact fun z => hq z.2
  rw [Finset.sum_congr rfl fun q _ => e2 q, Finset.sum_ite_eq' Finset.univ c]
  simp

end Cert.Proof

end
-- ==== Proof.Alg.lean ====
/-
  The reference's result is the kernel's, over the reals, when the segments are sorted.
-/
module

public import proofs.«01_k».proof.Proof.Ref

@[expose] public section

set_option maxRecDepth 16384

noncomputable section

namespace Cert.Proof

open Cert.ReferenceIdeal Cert.ReferenceIdeal.Gen Idealize.ShloMosaic Idealize.ShloMosaic.StableHlo.Predicate

/-! ## The reference's terms at a row -/

theorem xval_ix2 (X : fX Ideal) (p : Fin 50000) (q : Fin 256) : (X (ix2 p q) : EReal) = xval X p.val q := by
  unfold xval
  rw [dif_pos p.isLt]
  refine congrArg X ?_
  funext a
  match a with
  | ⟨0, _⟩ => rfl
  | ⟨1, _⟩ => rfl

theorem refS_at (X : fX Ideal) (Q : fQ Ideal) (p : Fin 50000) : (refS X Q (ix1 p) : EReal) = sval X Q p.val := by
  unfold refS
  rw [Host.reduceAdd_apply]
  show Ideal.hostReduceAdd _ _ _ _ = _
  rw [Ideal.hostReduceAdd_r2_a1]
  refine (congrArg₂ (· + ·) (show (constant (F := Ideal) S_ .f32 0x00000000#32 (Shape.Idx.first h_S_) : EReal) = 0 from zero_bits) rfl).trans ?_
  rw [zero_add]
  unfold sval
  refine Finset.sum_congr rfl fun q _ => ?_
  show (X (ix2 p q) : EReal) * (broadcastInDim S50000x256 ![0, 1] bcast_S1x256_S50000x256_0_1 (broadcastInDim S1x256 ![1] bcast_S256_S1x256_1 Q) (ix2 p q) : EReal) = _
  rw [xval_ix2 X p q]
  congr 1
  have e : (ix2 p q : S50000x256.Idx) = ij p q := by
    funext a
    match a with
    | ⟨0, _⟩ => rfl
    | ⟨1, _⟩ => rfl
  rw [e]
  refine (bcast_of_row bcast_S1x256_S50000x256_0_1 _ p q).trans ((bcast_row1 bcast_S256_S1x256_1 Q q).trans (congrArg Q ?_))
  funext a
  match a with
  | ⟨0, _⟩ => exact Fin.ext rfl

theorem refIdx_at {B : fB} (h : Drawn B) (p : Fin 50000) : refIdx B (ixP p) = bat B p.val := by
  unfold refIdx
  refine (bcast_col1 bcast_S50000_S50000x1_0 _ p).trans ?_
  rw [ofFin_ix1]
  show Scalar.select (IntOp.cmpi .slt (B (ix1 p)) (broadcastInDim S50000 ![] bcast_S_S50000 (constantI S_ 32 0#32) (ix1 p))) _ (B (ix1 p)) = _
  rw [show broadcastInDim S50000 ![] bcast_S_S50000 (constantI S_ 32 0#32) (ix1 p) = 0#32 from bcast_scalar bcast_S_S50000 h_S_ _ _]
  have hb := h.lt p.val p.isLt
  rw [bat_ix1 B p]
  exact Routing.wrap_of_lt _ _ (by norm_num; omega)

theorem refTake_at {B : fB} (h : Drawn B) (v : S512.Idx → Ideal .f32) (p : Fin 50000) :
    refTake v B (ix1 p) = v (ix1 ⟨(bat B p.val).toNat, h.lt p.val p.isLt⟩) := by
  have hb := h.lt p.val p.isLt
  unfold refTake
  rw [← ofFin_ix1]
  refine (gather_take gather_S512_S50000x1_S50000_n_0_n_n_0_1_1 rfl rfl rfl rfl v (refIdx B) p (by decide)).trans ?_
  rw [ofFin_ix1]
  refine congrArg v (congrArg ix1 (Fin.ext ?_))
  show min (refIdx B (ixP p)).toInt.toNat (512 - 1) = (bat B p.val).toNat
  rw [refIdx_at h, toInt_eq_toNat_of_lt (by omega)]
  omega

/-! ## The shift is a real number -/

theorem ninf_bits : Ideal.ofBits .f32 0xFF800000#32 = (⊥ : EReal) := by simp [Ideal.ofBits, Ideal.ieee]
theorem pinf_bits : Ideal.ofBits .f32 0x7F800000#32 = (⊤ : EReal) := by simp [Ideal.ofBits, Ideal.ieee]

theorem shift_at (MX : S512.Idx → Ideal .f32) (i : S512.Idx) : ∃ μ : ℝ, (refM MX i : EReal) = (μ : EReal) := by
  have e : (refM MX i : EReal) = if ((⊥ : EReal) < MX i ∧ (MX i : EReal) < ⊤) then (MX i : EReal) else 0 := by
    have e1 : refM MX i = Scalar.select (IntOp.andi (FloatOps.cmpf .ogt (MX i) (broadcastInDim S512 ![] bcast_S_S512 (constant (F := Ideal) S_ .f32 0xFF800000#32) i))
        (FloatOps.cmpf .olt (MX i) (broadcastInDim S512 ![] bcast_S_S512 (constant (F := Ideal) S_ .f32 0x7F800000#32) i))) (MX i)
        (broadcastInDim S512 ![] bcast_S_S512 (id (constant (F := Ideal) S_ .f32 0x00000000#32)) i) := rfl
    rw [e1, bcast_scalar _ h_S_, bcast_scalar _ h_S_, bcast_scalar _ h_S_]
    have e2 : (constant (F := Ideal) S_ .f32 0xFF800000#32 (Shape.Idx.first h_S_) : EReal) = ⊥ := ninf_bits
    have e3 : (constant (F := Ideal) S_ .f32 0x7F800000#32 (Shape.Idx.first h_S_) : EReal) = ⊤ := pinf_bits
    have e4 : ((id (constant (F := Ideal) S_ .f32 0x00000000#32)) (Shape.Idx.first h_S_) : EReal) = 0 := zero_bits
    rw [e2, e3, e4]
    show Scalar.select (IntOp.andi (BitVec.ofBool (decide ((⊥ : EReal) < MX i))) (BitVec.ofBool (decide ((MX i : EReal) < ⊤)))) (MX i : EReal) 0 = _
    by_cases h1 : (⊥ : EReal) < MX i <;> by_cases h2 : (MX i : EReal) < ⊤ <;> simp [h1, h2, Scalar.select, IntOp.andi]
  by_cases h : (⊥ : EReal) < MX i ∧ (MX i : EReal) < ⊤
  · refine ⟨(MX i : EReal).toReal, ?_⟩
    rw [e, if_pos h, EReal.coe_toReal h.2.ne h.1.ne']
  · exact ⟨0, by rw [e, if_neg h]; rfl⟩

/-! ## The result -/

theorem eps_pos : (0 : EReal) < Ideal.ofBits .f32 0x24E69595#32 := by
  simp [Ideal.ofBits, Ideal.ieee, -EReal.coe_mul]
  try positivity
theorem eps_ne_top : Ideal.ofBits .f32 0x24E69595#32 ≠ (⊤ : EReal) := by
  simp [Ideal.ofBits, Ideal.ieee, -EReal.coe_mul]

theorem expsub_at {t : Shape} (u v : FVec Ideal t .f32) (i : t.Idx) : (Host.exp (subf u v) i : EReal) = Ideal.exp ((u i : EReal) - (v i : EReal)) := rfl
theorem divsum_at {t : Shape} (u v w z : FVec Ideal t .f32) (i : t.Idx) :
    (Host.divf u (addf v (mulf w z)) i : EReal) = Ideal.div (u i) ((v i : EReal) + (w i : EReal) * (z i : EReal)) := rfl
theorem mul_at {t : Shape} (u v : FVec Ideal t .f32) (i : t.Idx) : (mulf u v i : EReal) = (u i : EReal) * (v i : EReal) := rfl

theorem refE_at (M : S512.Idx → Ideal .f32) (X : fX Ideal) (B : fB) (Q : fQ Ideal) (i : S50000.Idx) :
    (refE M X B Q i : EReal) = Ideal.exp ((refS X Q i : EReal) - (refTake M B i : EReal)) := by
  unfold refE; exact expsub_at _ _ i

theorem expneg_at (M : S512.Idx → Ideal .f32) (i : S512.Idx) : (Host.exp (Host.negf M) i : EReal) = Ideal.exp (-(M i : EReal)) := rfl

theorem refW_at (M : S512.Idx → Ideal .f32) (X : fX Ideal) (B : fB) (Q : fQ Ideal) (i : S50000.Idx) :
    (refW M X B Q i : EReal) = Ideal.div (refE M X B Q i) ((refTake (refDen (refE M X B Q) B) B i : EReal)
      + Ideal.ofBits .f32 0x24E69595#32 * (refTake (Host.exp (Host.negf M)) B i : EReal)) := by
  have e : (broadcastInDim S50000 ![] bcast_S_S50000 (constant (F := Ideal) S_ .f32 0x24E69595#32) i : EReal) = Ideal.ofBits .f32 0x24E69595#32 :=
    bcast_scalar bcast_S_S50000 h_S_ _ i
  rw [← e]
  unfold refW; exact divsum_at _ _ _ _ i

theorem refOut_eq {B : fB} (h : Drawn B) (M : S512.Idx → Ideal .f32) (μ : ℕ → ℝ) (hM : ∀ s : Fin 512, (M (ix1 s) : EReal) = (μ s.val : EReal)) (X : fX Ideal) (Q : fQ Ideal)
    (s : Fin 512) (c : Fin 256) :
    (refOut M X B Q (ix2 s c) : EReal) = ∑ j ∈ rowsOf B s.val, xval X j c * Ideal.div (Ideal.exp (sval X Q j - (μ s.val : EReal)))
      ((∑ i ∈ rowsOf B s.val, Ideal.exp (sval X Q i - (μ s.val : EReal))) + Ideal.ofBits .f32 0x24E69595#32 * Ideal.exp (-(μ s.val : EReal))) := by
  have hE : ∀ p : Fin 50000, (refE M X B Q (ix1 p) : EReal) = Ideal.exp (sval X Q p.val - (μ (bat B p.val).toNat : EReal)) := by
    intro p
    rw [refE_at, refS_at, refTake_at h, hM]
  have hD : ∀ t : Fin 512, (refDen (refE M X B Q) B (ix1 t) : EReal) = ∑ i ∈ rowsOf B t.val, Ideal.exp (sval X Q i - (μ t.val : EReal)) := by
    intro t
    rw [scat1 h _ (fun j => Ideal.exp (sval X Q j - (μ (bat B j).toNat : EReal))) hE]
    refine Finset.sum_congr rfl fun j hj => ?_
    rw [(Finset.mem_filter.mp hj).2]
  have hW : ∀ p : Fin 50000, (refW M X B Q (ix1 p) : EReal) = Ideal.div (Ideal.exp (sval X Q p.val - (μ (bat B p.val).toNat : EReal)))
      ((∑ i ∈ rowsOf B (bat B p.val).toNat, Ideal.exp (sval X Q i - (μ (bat B p.val).toNat : EReal))) + Ideal.ofBits .f32 0x24E69595#32 * Ideal.exp (-(μ (bat B p.val).toNat : EReal))) := by
    intro p
    rw [refW_at, hE, refTake_at h, refTake_at h, hD, expneg_at, hM]
  unfold refOut
  rw [scat2 h _ (fun j q => xval X j q * Ideal.div (Ideal.exp (sval X Q j - (μ (bat B j).toNat : EReal)))
      ((∑ i ∈ rowsOf B (bat B j).toNat, Ideal.exp (sval X Q i - (μ (bat B j).toNat : EReal))) + Ideal.ofBits .f32 0x24E69595#32 * Ideal.exp (-(μ (bat B j).toNat : EReal))))]
  · refine Finset.sum_congr rfl fun j hj => ?_
    rw [(Finset.mem_filter.mp hj).2]
  · intro p q
    rw [mul_at, xval_ix2 X p q]
    refine congrArg (fun z : EReal => xval X p.val q * z) ?_
    have e : (ix2 p q : S50000x256.Idx) = ij p q := by
      funext a
      match a with
      | ⟨0, _⟩ => rfl
      | ⟨1, _⟩ => rfl
    rw [e]
    refine (bcast_of_col bcast_S50000x1_S50000x256_0_1 _ p q).trans ((bcast_col1 bcast_S50000_S50000x1_0 _ p).trans ?_)
    rw [ofFin_ix1]
    exact hW p

/-- The reference's result is the kernel's. -/
theorem ref_outAll {B : fB} (h : Drawn B) (MX : S512.Idx → Ideal .f32) (X : fX Ideal) (Q : fQ Ideal) : refOut (refM MX) X B Q = outAll (F := Ideal) X B Q := by
  funext x
  have hs : ∀ s : ℕ, ∃ μ : ℝ, ∀ hs : s < 512, (refM MX (ix1 ⟨s, hs⟩) : EReal) = (μ : EReal) := by
    intro s
    by_cases hs : s < 512
    · obtain ⟨μ, hμ⟩ := shift_at MX (ix1 ⟨s, hs⟩); exact ⟨μ, fun _ => hμ⟩
    · exact ⟨0, fun z => absurd z hs⟩
  choose μ hμ using hs
  have ex : x = ix2 (n0 := 512) (n1 := 256) (x 0) (x 1) := eq_ix2 x
  refine Eq.trans ?_ (outAll_eq X h Q x).symm
  rw [quot (rowsOf B (x 0).val) (fun j => xval X j (x 1)) (fun j => sval X Q j) (μ (x 0).val) _ eps_pos eps_ne_top]
  refine (congrArg (refOut (refM MX) X B Q) ex).trans ?_
  exact refOut_eq h (refM MX) μ (fun s => hμ s.val s.isLt) X Q (x 0) (x 1)

end Cert.Proof

end
-- ==== Proof.Pre.lean ====
/-
  The precondition read: the segments are in 0 to 511, and in order.
-/
module

public import proofs.«01_k».proof.Pre_drawn
public import proofs.«01_k».proof.Proof.Rows
public import Idealize.ShloMosaic.Lib.ReduceAll
public import Idealize.ShloMosaic.Lib.StableHlo.Predicate
public import Idealize.ShloMosaic.Lib.Pointwise.Index

@[expose] public section

set_option maxRecDepth 16384

noncomputable section

namespace Cert.Proof

open Cert.Pre_drawn Cert.Pre_drawn.Facts Idealize.ShloMosaic Idealize.ShloMosaic.StableHlo.Predicate

theorem bat_at (B : S50000.Idx → BitVec 32) (p : Fin 50000) : B (ix1 p) = bat B p.val := by
  unfold bat
  rw [dif_pos p.isLt]
  refine congrArg B ?_
  funext a
  match a with
  | ⟨0, _⟩ => rfl

theorem drawn_of [Cert.Pre_drawn.Facts] {F : FTy → Type} [FloatOps F] (X : FVec F S50000x256 .f32) (B : IVec S50000 32) (Q : FVec F S256 .f32)
    (h : Cert.Pre_drawn.fn X B Q = fun _ => 1#1) : Drawn B := by
  have hj : Subsingleton S_.Idx := ⟨fun a b => funext fun i => Fin.elim0 i⟩
  have h0 := congrFun h (Shape.Idx.first h_S_)
  obtain ⟨hr, hm⟩ := IntOp.andi_eq_one.1 h0
  have hlt : ∀ p : Fin 50000, (bat B p.val).toNat < 512 := by
    intro p
    obtain ⟨ha, hb⟩ := IntOp.andi_eq_one.1 (Host.reduce_andi_all _ _ _ _ _ hr (ix1 p))
    have ha' := IntOp.cmpi_sge.1 ha
    have hb' := IntOp.cmpi_slt.1 hb
    rw [show broadcastInDim S50000 ![] bcast_S_S50000 (constantI S_ 32 0#32) (ix1 p) = 0#32 from bcast_scalar bcast_S_S50000 h_S_ _ _, bat_at B p] at ha'
    rw [show broadcastInDim S50000 ![] bcast_S_S50000 (constantI S_ 32 512#32) (ix1 p) = 512#32 from bcast_scalar bcast_S_S50000 h_S_ _ _, bat_at B p] at hb'
    rw [show (0#32 : BitVec 32).toInt = 0 from rfl] at ha'
    rw [show (512#32 : BitVec 32).toInt = 512 from by decide] at hb'
    have := (bat B p.val).isLt
    rw [BitVec.toInt_eq_toNat_cond] at ha' hb'
    split at ha' <;> omega
  have hmono : ∀ p : Fin 49999, (bat B p.val).toNat ≤ (bat B (p.val + 1)).toNat := by
    intro p
    have h1 : (bat B p.val).toNat < 512 := hlt ⟨p.val, by omega⟩
    have h2 : (bat B (p.val + 1)).toNat < 512 := hlt ⟨p.val + 1, by omega⟩
    have ha := IntOp.cmpi_sle.1 (Host.reduce_andi_all _ _ _ _ _ hm (ix1 p))
    have e1 : extractStridedSlice S49999 ![0] B slices_S50000_S49999_0 (ix1 p) = bat B p.val := by
      rw [← bat_at B ⟨p.val, by omega⟩]
      unfold extractStridedSlice
      refine congrArg B ?_
      funext a
      match a with
      | ⟨0, _⟩ => apply Fin.ext; show 0 + p.val = p.val; omega
    have e2 : extractStridedSlice S49999 ![1] B slices_S50000_S49999_1 (ix1 p) = bat B (p.val + 1) := by
      rw [← bat_at B ⟨p.val + 1, by omega⟩]
      unfold extractStridedSlice
      refine congrArg B ?_
      funext a
      match a with
      | ⟨0, _⟩ => apply Fin.ext; show 1 + p.val = p.val + 1; omega
    dsimp only at ha
    rw [e1, e2, toInt_eq_toNat_of_lt (by omega), toInt_eq_toNat_of_lt (by omega)] at ha
    omega
  refine ⟨fun j hj => hlt ⟨j, hj⟩, fun i j hij => ?_⟩
  induction j, hij using Nat.le_induction with
  | base => exact fun _ => le_refl _
  | succ j hij ih => exact fun hj => le_trans (ih (by omega)) (hmono ⟨j, by omega⟩)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Reference
public import proofs.«01_k».proof.Proof.Gen.Pre_drawn
public import proofs.«01_k».proof.Proof.Gen.ReferenceIdeal.Run
public import proofs.«01_k».proof.Proof.Gen.Reference.Run
public import proofs.«01_k».proof.Proof.Run
public import proofs.«01_k».proof.Proof.Same
public import proofs.«01_k».proof.Proof.Alg
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The kernel at the bits: the launch's run, read at the arguments and the counters. -/
theorem frame_kernel : Cert.quiescent_Kernel := fun m ρ _ =>
  by
  rw [defs_eq]
  exact (θ_run Cert.KernelIdeal.defs _ _).mono (fun _ h => ⟨fun c => ⟨(h.1 c).1, (h.1 c).2.1, (h.1 c).2.2.1⟩, h.2⟩) (run_main (F := Bits) m ρ)
/-- The same over the reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)
/-- The reference over the reals: its list of operations, and no counter to move. -/
theorem frame_refIdeal : Cert.quiescent_ReferenceIdeal := by
  intro m ρ _
  exact (θ_run Cert.ReferenceIdeal.defs _ _).mono (fun r h => ⟨fun c => (h c).2, sem_eq_zero_of_no_sems (by decide) r.2⟩) (Cert.ReferenceIdeal.Value.run (F := Ideal) m ρ)
/-- The reference at the bits. -/
theorem frame_ref : Cert.quiescent_Reference := by
  intro m ρ _
  exact (θ_run Cert.Reference.defs _ _).mono (fun r h => ⟨fun c => (h c).2, sem_eq_zero_of_no_sems (by decide) r.2⟩) (Cert.Reference.Value.run (F := Bits) m ρ)

/-- The kernel's result is the reference's, over the reals, when the segments are sorted. -/
theorem same_result : Cert.algebraic_KernelIdeal_ReferenceIdeal_pre_drawn := by
  intro m g m' g' hpre hargs
  refine ⟨fun c => outAll (F := Ideal) (m (xLoc c)) (m (bLoc c)) (m (qLoc c)), ?_, ?_⟩
  · exact (θ_run Cert.KernelIdeal.defs _ _).mono (fun _ h c => ⟨(h.1 c).2.2.2, (h.1 c).1, (h.1 c).2.1, (h.1 c).2.2.1⟩) (run_main (F := Ideal) m g)
  · refine (θ_run Cert.ReferenceIdeal.defs _ _).mono (fun r h c => ⟨(h c).1.trans ?_, (h c).2⟩) (Cert.ReferenceIdeal.Value.run (F := Ideal) m' g')
    obtain ⟨MX, e⟩ := res_eq m' c
    obtain ⟨h0, h1, h2⟩ := hargs c
    refine e.trans ?_
    rw [h0, h1, h2]
    exact ref_outAll (drawn_of (F := Ideal) _ _ _ (hpre c)) MX _ _

theorem claim : Cert.Claim := ⟨Cert.Kernel.Gen.facts, Cert.KernelIdeal.Gen.facts, Cert.ReferenceIdeal.Gen.facts, Cert.Reference.Gen.facts, Cert.Pre_drawn.Gen.facts,
  frame_kernel, frame_ideal, fun m g _ => frame_ideal m g trivial, frame_refIdeal, fun m g _ => frame_refIdeal m g trivial, frame_ref, trivial, trivial, same_result⟩

end Cert.Proof

end
